-- ==== Defs.lean ====
def Pre_Kernel [hPre_schedule_valid : Cert.Pre_schedule_valid.Facts] (m : (ℓ : Loc Cert.Kernel.nD Cert.Kernel.τ Cert.Kernel.sig) → Buf (Elt Bits) ℓ) : Prop :=
  ∀ c : Dev Cert.Kernel.nD,
    (Cert.Pre_schedule_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_schedule_valid : Cert.Pre_schedule_valid.Facts] (m : (ℓ : Loc Cert.KernelIdeal.nD Cert.KernelIdeal.τ Cert.KernelIdeal.sig) → Buf (Elt Ideal) ℓ) : Prop :=
  ∀ c : Dev Cert.KernelIdeal.nD,
    (Cert.Pre_schedule_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_schedule_valid : Cert.Pre_schedule_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_schedule_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_schedule_valid : Cert.Pre_schedule_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_schedule_valid : Cert.Pre_schedule_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_schedule_valid : Cert.Pre_schedule_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_schedule_valid : Cert.Pre_schedule_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_4)) (v4 : (c : Dev Cert.Kernel2Ideal.nD) → Buf (Elt Ideal) ((c.tc : Thread Cert.Kernel2Ideal.nD Cert.Kernel2Ideal.τ).loc Cert.Kernel2Ideal.main_v15_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_4) = v3 c
          ∧ r.2.mem ((c.tc : Thread Cert.Kernel2Ideal.nD Cert.Kernel2Ideal.τ).loc Cert.Kernel2Ideal.main_v15_5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_v41) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_schedule_valid : Cert.Pre_schedule_valid.Facts),
    quiescent_Kernel (hKernel := hKernel) (hPre_schedule_valid := hPre_schedule_valid)
    ∧ quiescent_KernelIdeal (hKernelIdeal := hKernelIdeal) (hPre_schedule_valid := hPre_schedule_valid)
    ∧ quiescent_ReferenceIdeal (hReferenceIdeal := hReferenceIdeal) (hPre_schedule_valid := hPre_schedule_valid)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_schedule_valid := hPre_schedule_valid)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_schedule_valid.lean ====
abbrev S622592x128 : Shape := ⟨2, ![622592, 128]⟩
abbrev S3x304 : Shape := ⟨2, ![3, 304]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1x304 : Shape := ⟨2, ![1, 304]⟩
abbrev S_ : Shape := ⟨0, ![]⟩
abbrev S1x303 : Shape := ⟨2, ![1, 303]⟩
abbrev S1x1 : Shape := ⟨2, ![1, 1]⟩

class Facts : Prop where
  slices_S3x304_S1x304_0_0 : S3x304.Slices ![0, 0] S1x304
  slices_S3x304_S1x304_1_0 : S3x304.Slices ![1, 0] S1x304
  slices_S3x304_S1x304_2_0 : S3x304.Slices ![2, 0] S1x304
  bcast_S_S1x304 : S_.BroadcastsInDim S1x304 (![] : Fin 0 → Fin S1x304.rank)
  slices_S3x304_S1x303_0_0 : S3x304.Slices ![0, 0] S1x303
  slices_S3x304_S1x303_1_0 : S3x304.Slices ![1, 0] S1x303
  slices_S3x304_S1x303_2_0 : S3x304.Slices ![2, 0] S1x303
  slices_S3x304_S1x303_0_1 : S3x304.Slices ![0, 1] S1x303
  slices_S3x304_S1x303_1_1 : S3x304.Slices ![1, 1] S1x303
  slices_S3x304_S1x303_2_1 : S3x304.Slices ![2, 1] S1x303
  bcast_S_S1x303 : S_.BroadcastsInDim S1x303 (![] : Fin 0 → Fin S1x303.rank)
  reducesTo_S1x304_S_d0_1 : S1x304.ReducesTo [0, 1] S_
  h_S_ : 0 < S_.numel
  reducesTo_S1x303_S_d0_1 : S1x303.ReducesTo [0, 1] S_
  slices_S3x304_S1x1_1_303 : S3x304.Slices ![1, 303] S1x1
  shapeCasts_S1x1_S_ : S1x1.ShapeCasts S_
  shapeCasts_S1_S_ : S1.ShapeCasts S_

variable [Facts]

def fn_part2 {F : FTy → Type} [FloatOps F] (main_arg1 : IVec S3x304 32) (main_arg2 : IVec S1 32) (main_v38 : IVec S_ 1) (main_v39 : IVec S1x303 1) : IVec S_ 1 :=
  let main_c_7 : IVec S_ 1 := constantI S_ 1 1#1
  let main_v40 : IVec S_ 1 := (fun x v => Host.reduce IntOp.andi x v reducesTo_S1x303_S_d0_1 h_S_) main_v39 main_c_7
  let main_v41 : IVec S_ 1 := andi main_v38 main_v40
  let main_v42 : IVec S1x1 32 := (extractStridedSlice S1x1 ![1, 303] · slices_S3x304_S1x1_1_303) main_arg1
  let main_v43 : IVec S_ 32 := shapeCast S_ main_v42 shapeCasts_S1x1_S_
  let main_c_8 : IVec S_ 32 := constantI S_ 32 4294967295#32
  let main_v44 : IVec S_ 1 := cmpi .eq main_v43 main_c_8
  let main_v45 : IVec S_ 1 := andi main_v41 main_v44
  let main_v46 : IVec S_ 32 := shapeCast S_ main_arg2 shapeCasts_S1_S_
  let main_c_9 : IVec S_ 32 := constantI S_ 32 1#32
  let main_v47 : IVec S_ 1 := cmpi .sge main_v46 main_c_9
  let main_v48 : IVec S_ 1 := andi main_v45 main_v47
  let main_v49 : IVec S_ 32 := shapeCast S_ main_arg2 shapeCasts_S1_S_
  let main_c_10 : IVec S_ 32 := constantI S_ 32 304#32
  let main_v50 : IVec S_ 1 := cmpi .sle main_v49 main_c_10
  let main_v51 : IVec S_ 1 := andi main_v48 main_v50
  main_v51

def fn_part1 {F : FTy → Type} [FloatOps F] (main_arg1 : IVec S3x304 32) (main_arg2 : IVec S1 32) (main_v2 : IVec S1x304 32) (main_v16 : IVec S1x304 1) (main_v17 : IVec S1x304 32) : IVec S_ 1 :=
  let main_v18 : IVec S1x304 1 := cmpi .sle main_v2 main_v17
  let main_v19 : IVec S1x304 1 := andi main_v16 main_v18
  let main_v20 : IVec S1x303 32 := (extractStridedSlice S1x303 ![0, 0] · slices_S3x304_S1x303_0_0) main_arg1
  let main_v21 : IVec S1x303 32 := (extractStridedSlice S1x303 ![1, 0] · slices_S3x304_S1x303_1_0) main_arg1
  let main_v22 : IVec S1x303 32 := (extractStridedSlice S1x303 ![2, 0] · slices_S3x304_S1x303_2_0) main_arg1
  let main_v23 : IVec S1x303 32 := (extractStridedSlice S1x303 ![0, 1] · slices_S3x304_S1x303_0_1) main_arg1
  let main_v24 : IVec S1x303 32 := (extractStridedSlice S1x303 ![1, 1] · slices_S3x304_S1x303_1_1) main_arg1
  let main_v25 : IVec S1x303 32 := (extractStridedSlice S1x303 ![2, 1] · slices_S3x304_S1x303_2_1) main_arg1
  let main_v26 : IVec S1x303 1 := cmpi .eq main_v23 main_v20
  let main_v27 : IVec S1x303 1 := cmpi .eq main_v24 main_v21
  let main_v28 : IVec S1x303 1 := andi main_v26 main_v27
  let main_v29 : IVec S1x303 1 := cmpi .eq main_v25 main_v22
  let main_v30 : IVec S1x303 1 := andi main_v28 main_v29
  let main_v31 : IVec S1x303 1 := cmpi .ne main_v23 main_v20
  let main_v32 : IVec S1x303 1 := cmpi .eq main_v23 main_v21
  let main_v33 : IVec S1x303 1 := andi main_v31 main_v32
  let main_c_5 : IVec S_ 32 := constantI S_ 32 1#32
  let main_v34 : IVec S1x303 32 := broadcastInDim S1x303 ![] bcast_S_S1x303 main_c_5
  let main_v35 : IVec S1x303 32 := subi main_v34 main_v22
  let main_v36 : IVec S1x303 1 := cmpi .eq main_v25 main_v35
  let main_v37 : IVec S1x303 1 := andi main_v33 main_v36
  let main_c_6 : IVec S_ 1 := constantI S_ 1 1#1
  let main_v38 : IVec S_ 1 := (fun x v => Host.reduce IntOp.andi x v reducesTo_S1x304_S_d0_1 h_S_) main_v19 main_c_6
  let main_v39 : IVec S1x303 1 := ori main_v30 main_v37
  fn_part2 (F := F) main_arg1 main_arg2 main_v38 main_v39

def fn {F : FTy → Type} [FloatOps F] (main_arg0 : FVec F S622592x128 .f32) (main_arg1 : IVec S3x304 32) (main_arg2 : IVec S1 32) (main_arg3 : FVec F S32x1024x2048 .f32) (main_arg4 : FVec F S32x1x2048 .f32) (main_arg5 : FVec F S32x1024x1024 .f32) (main_arg6 : FVec F S32x1x1024 .f32) : IVec S_ 1 :=
  let main_v0 : IVec S1x304 32 := (extractStridedSlice S1x304 ![0, 0] · slices_S3x304_S1x304_0_0) main_arg1
  let main_v1 : IVec S1x304 32 := (extractStridedSlice S1x304 ![1, 0] · slices_S3x304_S1x304_1_0) main_arg1
  let main_v2 : IVec S1x304 32 := (extractStridedSlice S1x304 ![2, 0] · slices_S3x304_S1x304_2_0) main_arg1
  let main_c : IVec S_ 32 := constantI S_ 32 0#32
  let main_v3 : IVec S1x304 32 := broadcastInDim S1x304 ![] bcast_S_S1x304 main_c
  let main_v4 : IVec S1x304 1 := cmpi .sge main_v0 main_v3
  let main_c_0 : IVec S_ 32 := constantI S_ 32 32#32
  let main_v5 : IVec S1x304 32 := broadcastInDim S1x304 ![] bcast_S_S1x304 main_c_0
  let main_v6 : IVec S1x304 1 := cmpi .slt main_v0 main_v5
  let main_v7 : IVec S1x304 1 := andi main_v4 main_v6
  let main_c_1 : IVec S_ 32 := constantI S_ 32 4294967295#32
  let main_v8 : IVec S1x304 32 := broadcastInDim S1x304 ![] bcast_S_S1x304 main_c_1
  let main_v9 : IVec S1x304 1 := cmpi .sge main_v1 main_v8
  let main_v10 : IVec S1x304 1 := andi main_v7 main_v9
  let main_c_2 : IVec S_ 32 := constantI S_ 32 32#32
  let main_v11 : IVec S1x304 32 := broadcastInDim S1x304 ![] bcast_S_S1x304 main_c_2
  let main_v12 : IVec S1x304 1 := cmpi .slt main_v1 main_v11
  let main_v13 : IVec S1x304 1 := andi main_v10 main_v12
  let main_c_3 : IVec S_ 32 := constantI S_ 32 0#32
  let main_v14 : IVec S1x304 32 := broadcastInDim S1x304 ![] bcast_S_S1x304 main_c_3
  let main_v15 : IVec S1x304 1 := cmpi .sge main_v2 main_v14
  let main_v16 : IVec S1x304 1 := andi main_v13 main_v15
  let main_c_4 : IVec S_ 32 := constantI S_ 32 1#32
  let main_v17 : IVec S1x304 32 := broadcastInDim S1x304 ![] bcast_S_S1x304 main_c_4
  fn_part1 (F := F) main_arg1 main_arg2 main_v2 main_v16 main_v17
-- ==== Kernel.lean ====
abbrev S622592x128 : Shape := ⟨2, ![622592, 128]⟩
abbrev S3x304 : Shape := ⟨2, ![3, 304]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2 : Shape := ⟨1, ![2]⟩
abbrev S1x1 : Shape := ⟨2, ![1, 1]⟩
abbrev S_ : Shape := ⟨0, ![]⟩
abbrev S1x1024x2048 : Shape := ⟨3, ![1, 1024, 2048]⟩
abbrev S1x1024x1024 : Shape := ⟨3, ![1, 1024, 1024]⟩
abbrev S256x128 : Shape := ⟨2, ![256, 128]⟩
abbrev S256x1024 : Shape := ⟨2, ![256, 1024]⟩
abbrev S256x2048 : Shape := ⟨2, ![256, 2048]⟩
abbrev S1x1x2048 : Shape := ⟨3, ![1, 1, 2048]⟩
abbrev S1x2048 : Shape := ⟨2, ![1, 2048]⟩
abbrev S1x1x1024 : Shape := ⟨3, ![1, 1, 1024]⟩
abbrev S1x1024 : Shape := ⟨2, ![1, 1024]⟩
abbrev S2048x128 : Shape := ⟨2, ![2048, 128]⟩

abbrev nBuf : Space → Nat
  | .hbm => 6
  | .vmem => 10
  | .smem => 2
  | _ => 0

abbrev bufTy : (tb : Table) → Fin (tcTables nBuf tb) → BufTy
  | .hbm, ⟨0, _⟩ => ⟨S622592x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S622592x128, .f32⟩
  | .local _ .vmem, ⟨0, _⟩ => ⟨S4096x128, .f32⟩
  | .local _ .vmem, ⟨1, _⟩ => ⟨S4096x128, .f32⟩
  | .local _ .vmem, ⟨2, _⟩ => ⟨S32x1x2048, .f32⟩
  | .local _ .vmem, ⟨3, _⟩ => ⟨S32x1x1024, .f32⟩
  | .local _ .vmem, ⟨4, _⟩ => ⟨S4096x128, .f32⟩
  | .local _ .vmem, ⟨5, _⟩ => ⟨S4096x128, .f32⟩
  | .local _ .vmem, ⟨6, _⟩ => ⟨S2x1024x2048, .f32⟩
  | .local _ .vmem, ⟨7, _⟩ => ⟨S2x1024x1024, .f32⟩
  | .local _ .vmem, ⟨8, _⟩ => ⟨S1024x2048, .bf16⟩
  | .local _ .vmem, ⟨9, _⟩ => ⟨S1024x1024, .bf16⟩
  | .local _ .smem, ⟨0, _⟩ => ⟨S3x304, .i32⟩
  | .local _ .smem, ⟨1, _⟩ => ⟨S1, .i32⟩
  | _, _ => ⟨S622592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![0, v2.toNat]
def k0_off2 (i : grid0.Coords) : Fin 2 → Nat :=
  let c1 : Index := 1#32
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v4 : Index := Scalar.indexCast v1
  ![1, v4.toNat]
def k0_off3 (i : grid0.Coords) : Fin 2 → Nat :=
  let c2 : Index := 2#32
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v6 : Index := Scalar.indexCast v1
  ![2, v6.toNat]
def k0_cond1 (i : grid0.Coords) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let v8 : BitVec 1 := Scalar.cmpi .eq v1 c0_i32_0
  let v9 : BitVec 32 := Scalar.extui v8
  let c0_i32_1 : BitVec 32 := 0#32
  let v10 : BitVec 1 := Scalar.cmpi .ne v9 c0_i32_1
  v10

def k0_off4 (v7 : BitVec 32) : Fin 1 → Nat :=
  ![v7.toNat]

def k0_off5 (v7 : BitVec 32) : Fin 3 → Nat :=
  let c0_i32_26 : BitVec 32 := 0#32
  let c0_i32_27 : BitVec 32 := 0#32
  ![v7.toNat, 0, 0]
def k0_off6 (v3 : BitVec 32) : Fin 3 → Nat :=
  let c0_i32_28 : BitVec 32 := 0#32
  let c0_i32_29 : BitVec 32 := 0#32
  ![v3.toNat, 0, 0]

def k0_off7 (v7 : BitVec 32) : Fin 1 → Nat :=
  ![v7.toNat]
def k0_off8 (v7 : BitVec 32) : Fin 3 → Nat :=
  let c0_i32_30 : BitVec 32 := 0#32
  let c0_i32_31 : BitVec 32 := 0#32
  ![v7.toNat, 0, 0]

def k0_chk1 (i : grid0.Coords) (v7 : BitVec 32) : Prop :=
  (∀ (k0_h1 : k0_cond1 i = 1#1), ∀ a, (k0_off4 v7) a + S1.size a ≤ S2.size a) ∧
  (∀ (k0_h1 : k0_cond1 i = 1#1), ∀ a, (k0_off5 v7) a + S1x1024x2048.size a ≤ S2x1024x2048.size a) ∧
  (∀ (k0_h1 : k0_cond1 i = 1#1), ∀ a, (k0_off7 v7) a + S1.size a ≤ S2.size a) ∧
  (∀ (k0_h1 : k0_cond1 i = 1#1), ∀ a, (k0_off8 v7) a + S1x1024x1024.size a ≤ S2x1024x1024.size a)
theorem k0_off4_inb : ∀ (i : grid0.Coords) (v7 : BitVec 32) (k0_hw1 : k0_chk1 i v7), ∀ (k0_h1 : k0_cond1 i = 1#1), ∀ a, (k0_off4 v7) a + S1.size a ≤ S2.size a := fun i v7 k0_hw1 k0_h1 => k0_hw1.1 k0_h1
theorem k0_off5_inb : ∀ (i : grid0.Coords) (v7 : BitVec 32) (k0_hw1 : k0_chk1 i v7), ∀ (k0_h1 : k0_cond1 i = 1#1), ∀ a, (k0_off5 v7) a + S1x1024x2048.size a ≤ S2x1024x2048.size a := fun i v7 k0_hw1 k0_h1 => k0_hw1.2.1 k0_h1
theorem k0_off7_inb : ∀ (i : grid0.Coords) (v7 : BitVec 32) (k0_hw1 : k0_chk1 i v7), ∀ (k0_h1 : k0_cond1 i = 1#1), ∀ a, (k0_off7 v7) a + S1.size a ≤ S2.size a := fun i v7 k0_hw1 k0_h1 => k0_hw1.2.2.1 k0_h1
theorem k0_off8_inb : ∀ (i : grid0.Coords) (v7 : BitVec 32) (k0_hw1 : k0_chk1 i v7), ∀ (k0_h1 : k0_cond1 i = 1#1), ∀ a, (k0_off8 v7) a + S1x1024x1024.size a ≤ S2x1024x1024.size a := fun i v7 k0_hw1 k0_h1 => k0_hw1.2.2.2 k0_h1

def k0_off9 (v3 : BitVec 32) : Fin 3 → Nat :=
  let c0_i32_32 : BitVec 32 := 0#32
  let c0_i32_33 : BitVec 32 := 0#32
  ![v3.toNat, 0, 0]

def k0_chk2 (i : grid0.Coords) (v3 : BitVec 32) : Prop :=
  (∀ (k0_h1 : k0_cond1 i = 1#1), ∀ a, (k0_off6 v3) a + S1x1024x2048.size a ≤ S32x1024x2048.size a) ∧
  (∀ (k0_h1 : k0_cond1 i = 1#1), ∀ a, (k0_off9 v3) a + S1x1024x1024.size a ≤ S32x1024x1024.size a)
theorem k0_off6_inb : ∀ (i : grid0.Coords) (v3 : BitVec 32) (k0_hw2 : k0_chk2 i v3), ∀ (k0_h1 : k0_cond1 i = 1#1), ∀ a, (k0_off6 v3) a + S1x1024x2048.size a ≤ S32x1024x2048.size a := fun i v3 k0_hw2 k0_h1 => k0_hw2.1 k0_h1
theorem k0_off9_inb : ∀ (i : grid0.Coords) (v3 : BitVec 32) (k0_hw2 : k0_chk2 i v3), ∀ (k0_h1 : k0_cond1 i = 1#1), ∀ a, (k0_off9 v3) a + S1x1024x1024.size a ≤ S32x1024x1024.size a := fun i v3 k0_hw2 k0_h1 => k0_hw2.2 k0_h1

def k0_off10 (i : grid0.Coords) : Fin 2 → Nat :=
  let c0_4 : Index := 0#32
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1_i32 : BitVec 32 := 1#32
  let v12 : BitVec 32 := Scalar.subi v1 c1_i32
  let c0_i32_3 : BitVec 32 := 0#32
  let v13 : BitVec 32 := Scalar.maxsi v12 c0_i32_3
  let v14 : Index := Scalar.indexCast v13
  ![0, v14.toNat]
def k0_off11 (v7 : BitVec 32) : Fin 1 → Nat :=
  ![v7.toNat]
def k0_cond2 (i : grid0.Coords) (v3 : BitVec 32) (v15 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2 : BitVec 32 := 0#32
  let v11 : BitVec 1 := Scalar.cmpi .eq v1 c0_i32_2
  let v16 : BitVec 1 := Scalar.cmpi .ne v3 v15
  let v17 : BitVec 1 := Scalar.ori v11 v16
  let v18 : BitVec 32 := Scalar.extui v17
  let c0_i32_5 : BitVec 32 := 0#32
  let v19 : BitVec 1 := Scalar.cmpi .ne v18 c0_i32_5
  v19

def k0_off12 (v7 : BitVec 32) : Fin 3 → Nat :=
  let c0_i32_26 : BitVec 32 := 0#32
  let c0_i32_27 : BitVec 32 := 0#32
  ![v7.toNat, 0, 0]
def k0_off13 (v3 : BitVec 32) : Fin 3 → Nat :=
  let c0_i32_28 : BitVec 32 := 0#32
  let c0_i32_29 : BitVec 32 := 0#32
  ![v3.toNat, 0, 0]
def k0_off14 (v7 : BitVec 32) : Fin 3 → Nat :=
  let c0_i32_30 : BitVec 32 := 0#32
  let c0_i32_31 : BitVec 32 := 0#32
  ![v7.toNat, 0, 0]
def k0_off15 (v3 : BitVec 32) : Fin 3 → Nat :=
  let c0_i32_32 : BitVec 32 := 0#32
  let c0_i32_33 : BitVec 32 := 0#32
  ![v3.toNat, 0, 0]
def k0_off16 (v7 : BitVec 32) : Fin 3 → Nat :=
  let v68 : Index := Scalar.indexCast v7
  let c0_34 : Index := 0#32
  let c0_35 : Index := 0#32
  ![v68.toNat, 0, 0]
def k0_off17 (v7 : BitVec 32) : Fin 3 → Nat :=
  let v75 : Index := Scalar.indexCast v7
  let c0_38 : Index := 0#32
  let c0_39 : Index := 0#32
  ![v75.toNat, 0, 0]
def k0_off18 (v7 : BitVec 32) : Fin 1 → Nat :=
  let c1_i32_44 : BitVec 32 := 1#32
  let v85 : BitVec 32 := Scalar.subi c1_i32_44 v7
  ![v85.toNat]
def k0_cond3 (v5 : BitVec 32) : BitVec 1 :=
  let c0_i32_42 : BitVec 32 := 0#32
  let v82 : BitVec 1 := Scalar.cmpi .sge v5 c0_i32_42
  let v83 : BitVec 32 := Scalar.extui v82
  let c0_i32_43 : BitVec 32 := 0#32
  let v84 : BitVec 1 := Scalar.cmpi .ne v83 c0_i32_43
  v84

def k0_off19 (v7 : BitVec 32) : Fin 3 → Nat :=
  let c1_i32_44 : BitVec 32 := 1#32
  let v85 : BitVec 32 := Scalar.subi c1_i32_44 v7
  let c0_i32_45 : BitVec 32 := 0#32
  let c0_i32_46 : BitVec 32 := 0#32
  ![v85.toNat, 0, 0]
def k0_off20 (v5 : BitVec 32) : Fin 3 → Nat :=
  let c0_i32_47 : BitVec 32 := 0#32
  let c0_i32_48 : BitVec 32 := 0#32
  ![v5.toNat, 0, 0]
def k0_off21 (v7 : BitVec 32) : Fin 3 → Nat :=
  let c1_i32_44 : BitVec 32 := 1#32
  let v85 : BitVec 32 := Scalar.subi c1_i32_44 v7
  let c0_i32_49 : BitVec 32 := 0#32
  let c0_i32_50 : BitVec 32 := 0#32
  ![v85.toNat, 0, 0]
def k0_off22 (v5 : BitVec 32) : Fin 3 → Nat :=
  let c0_i32_51 : BitVec 32 := 0#32
  let c0_i32_52 : BitVec 32 := 0#32
  ![v5.toNat, 0, 0]

def k0_chk3 (i : grid0.Coords) (v3 : BitVec 32) (v5 : BitVec 32) (v7 : BitVec 32) (v15 : BitVec 32) : Prop :=
  (∀ (k0_h2 : k0_cond2 i v3 v15 = 1#1), ∀ a, (k0_off11 v7) a + S1.size a ≤ S2.size a) ∧
  (∀ (k0_h2 : k0_cond2 i v3 v15 = 1#1), ∀ a, (k0_off12 v7) a + S1x1024x2048.size a ≤ S2x1024x2048.size a) ∧
  (∀ (k0_h2 : k0_cond2 i v3 v15 = 1#1), ∀ a, (k0_off13 v3) a + S1x1024x2048.size a ≤ S32x1024x2048.size a) ∧
  (∀ (k0_h2 : k0_cond2 i v3 v15 = 1#1), ∀ a, (k0_off14 v7) a + S1x1024x1024.size a ≤ S2x1024x1024.size a) ∧
  (∀ (k0_h2 : k0_cond2 i v3 v15 = 1#1), ∀ a, (k0_off15 v3) a + S1x1024x1024.size a ≤ S32x1024x1024.size a) ∧
  (∀ (k0_h2 : k0_cond2 i v3 v15 = 1#1), ∀ a, (k0_off16 v7) a + S1x1024x2048.size a ≤ S2x1024x2048.size a) ∧
  (∀ (k0_h2 : k0_cond2 i v3 v15 = 1#1), ∀ a, (k0_off17 v7) a + S1x1024x1024.size a ≤ S2x1024x1024.size a) ∧
  (∀ (k0_h2 : k0_cond2 i v3 v15 = 1#1), ∀ (k0_h3 : k0_cond3 v5 = 1#1), ∀ a, (k0_off18 v7) a + S1.size a ≤ S2.size a) ∧
  (∀ (k0_h2 : k0_cond2 i v3 v15 = 1#1), ∀ (k0_h3 : k0_cond3 v5 = 1#1), ∀ a, (k0_off19 v7) a + S1x1024x2048.size a ≤ S2x1024x2048.size a) ∧
  (∀ (k0_h2 : k0_cond2 i v3 v15 = 1#1), ∀ (k0_h3 : k0_cond3 v5 = 1#1), ∀ a, (k0_off20 v5) a + S1x1024x2048.size a ≤ S32x1024x2048.size a) ∧
  (∀ (k0_h2 : k0_cond2 i v3 v15 = 1#1), ∀ (k0_h3 : k0_cond3 v5 = 1#1), ∀ a, (k0_off21 v7) a + S1x1024x1024.size a ≤ S2x1024x1024.size a) ∧
  (∀ (k0_h2 : k0_cond2 i v3 v15 = 1#1), ∀ (k0_h3 : k0_cond3 v5 = 1#1), ∀ a, (k0_off22 v5) a + S1x1024x1024.size a ≤ S32x1024x1024.size a)
theorem k0_off11_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off11 v7) a + S1.size a ≤ S2.size a := fun i v3 v5 v7 v15 k0_hw3 k0_h2 => k0_hw3.1 k0_h2
theorem k0_off12_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off12 v7) a + S1x1024x2048.size a ≤ S2x1024x2048.size a := fun i v3 v5 v7 v15 k0_hw3 k0_h2 => k0_hw3.2.1 k0_h2
theorem k0_off13_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off13 v3) a + S1x1024x2048.size a ≤ S32x1024x2048.size a := fun i v3 v5 v7 v15 k0_hw3 k0_h2 => k0_hw3.2.2.1 k0_h2
theorem k0_off14_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off14 v7) a + S1x1024x1024.size a ≤ S2x1024x1024.size a := fun i v3 v5 v7 v15 k0_hw3 k0_h2 => k0_hw3.2.2.2.1 k0_h2
theorem k0_off15_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off15 v3) a + S1x1024x1024.size a ≤ S32x1024x1024.size a := fun i v3 v5 v7 v15 k0_hw3 k0_h2 => k0_hw3.2.2.2.2.1 k0_h2
theorem k0_off16_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off16 v7) a + S1x1024x2048.size a ≤ S2x1024x2048.size a := fun i v3 v5 v7 v15 k0_hw3 k0_h2 => k0_hw3.2.2.2.2.2.1 k0_h2
theorem k0_off17_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ a, (k0_off17 v7) a + S1x1024x1024.size a ≤ S2x1024x1024.size a := fun i v3 v5 v7 v15 k0_hw3 k0_h2 => k0_hw3.2.2.2.2.2.2.1 k0_h2
theorem k0_off18_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ (k0_h3 : k0_cond3 v5 = 1#1), ∀ a, (k0_off18 v7) a + S1.size a ≤ S2.size a := fun i v3 v5 v7 v15 k0_hw3 k0_h2 k0_h3 => k0_hw3.2.2.2.2.2.2.2.1 k0_h2 k0_h3
theorem k0_off19_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ (k0_h3 : k0_cond3 v5 = 1#1), ∀ a, (k0_off19 v7) a + S1x1024x2048.size a ≤ S2x1024x2048.size a := fun i v3 v5 v7 v15 k0_hw3 k0_h2 k0_h3 => k0_hw3.2.2.2.2.2.2.2.2.1 k0_h2 k0_h3
theorem k0_off20_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ (k0_h3 : k0_cond3 v5 = 1#1), ∀ a, (k0_off20 v5) a + S1x1024x2048.size a ≤ S32x1024x2048.size a := fun i v3 v5 v7 v15 k0_hw3 k0_h2 k0_h3 => k0_hw3.2.2.2.2.2.2.2.2.2.1 k0_h2 k0_h3
theorem k0_off21_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ (k0_h3 : k0_cond3 v5 = 1#1), ∀ a, (k0_off21 v7) a + S1x1024x1024.size a ≤ S2x1024x1024.size a := fun i v3 v5 v7 v15 k0_hw3 k0_h2 k0_h3 => k0_hw3.2.2.2.2.2.2.2.2.2.2.1 k0_h2 k0_h3
theorem k0_off22_inb : ∀ (i : grid0.Coords) (v3 : BitVec 32) (v5 : BitVec 32) (v7 : BitVec 32) (v15 : BitVec 32) (k0_hw3 : k0_chk3 i v3 v5 v7 v15), ∀ (k0_h2 : k0_cond2 i v3 v15 = 1#1), ∀ (k0_h3 : k0_cond3 v5 = 1#1), ∀ a, (k0_off22 v5) a + S1x1024x1024.size a ≤ S32x1024x1024.size a := fun i v3 v5 v7 v15 k0_hw3 k0_h2 k0_h3 => k0_hw3.2.2.2.2.2.2.2.2.2.2.2 k0_h2 k0_h3

def k0_off23 (v3 : BitVec 32) : Fin 3 → Nat :=
  let v68 : Index := Scalar.indexCast v3
  let c0_39 : Index := 0#32
  let c0_40 : Index := 0#32
  ![v68.toNat, 0, 0]
def k0_cond4 (i : grid0.Coords) (v20 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v21 : BitVec 1 := Scalar.cmpi .slt v1 v20
  let v22 : BitVec 32 := Scalar.extui v21
  let c0_i32_7 : BitVec 32 := 0#32
  let v23 : BitVec 1 := Scalar.cmpi .ne v22 c0_i32_7
  v23

def k0_off24 (v3 : BitVec 32) : Fin 3 → Nat :=
  let v97 : Index := Scalar.indexCast v3
  let c0_52 : Index := 0#32
  let c0_53 : Index := 0#32
  ![v97.toNat, 0, 0]

def k0_chk4 (i : grid0.Coords) (v3 : BitVec 32) (v20 : BitVec 32) : Prop :=
  (∀ (k0_h4 : k0_cond4 i v20 = 1#1), ∀ a, (k0_off23 v3) a + S1x1x2048.size a ≤ S32x1x2048.size a) ∧
  (∀ (k0_h4 : k0_cond4 i v20 = 1#1), ∀ a, (k0_off24 v3) a + S1x1x1024.size a ≤ S32x1x1024.size a)
theorem k0_off23_inb : ∀ (i : grid0.Coords) (v3 : BitVec 32) (v20 : BitVec 32) (k0_hw4 : k0_chk4 i v3 v20), ∀ (k0_h4 : k0_cond4 i v20 = 1#1), ∀ a, (k0_off23 v3) a + S1x1x2048.size a ≤ S32x1x2048.size a := fun i v3 v20 k0_hw4 k0_h4 => k0_hw4.1 k0_h4
theorem k0_off24_inb : ∀ (i : grid0.Coords) (v3 : BitVec 32) (v20 : BitVec 32) (k0_hw4 : k0_chk4 i v3 v20), ∀ (k0_h4 : k0_cond4 i v20 = 1#1), ∀ a, (k0_off24 v3) a + S1x1x1024.size a ≤ S32x1x1024.size a := fun i v3 v20 k0_hw4 k0_h4 => k0_hw4.2 k0_h4

def k0_off25 (i : grid0.Coords) : Fin 2 → Nat :=
  let c0_12 : Index := 0#32
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let v30 : Index := Scalar.indexCast v29
  ![0, v30.toNat]
def k0_off26 (i : grid0.Coords) : Fin 2 → Nat :=
  let c1_13 : Index := 1#32
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let v32 : Index := Scalar.indexCast v29
  ![1, v32.toNat]
def k0_off27 (i : grid0.Coords) : Fin 2 → Nat :=
  let c2_14 : Index := 2#32
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let v34 : Index := Scalar.indexCast v29
  ![2, v34.toNat]
def k0_cond6 (i : grid0.Coords) : BitVec 1 :=
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let c0_i32_15 : BitVec 32 := 0#32
  let v36 : BitVec 1 := Scalar.cmpi .eq v29 c0_i32_15
  let v37 : BitVec 32 := Scalar.extui v36
  let c0_i32_16 : BitVec 32 := 0#32
  let v38 : BitVec 1 := Scalar.cmpi .ne v37 c0_i32_16
  v38

def k0_off28 (v35 : BitVec 32) : Fin 1 → Nat :=
  ![v35.toNat]

def k0_off29 (v35 : BitVec 32) : Fin 3 → Nat :=
  let c0_i32_26 : BitVec 32 := 0#32
  let c0_i32_27 : BitVec 32 := 0#32
  ![v35.toNat, 0, 0]
def k0_off30 (v31 : BitVec 32) : Fin 3 → Nat :=
  let c0_i32_28 : BitVec 32 := 0#32
  let c0_i32_29 : BitVec 32 := 0#32
  ![v31.toNat, 0, 0]

def k0_off31 (v35 : BitVec 32) : Fin 1 → Nat :=
  ![v35.toNat]
def k0_off32 (v35 : BitVec 32) : Fin 3 → Nat :=
  let c0_i32_30 : BitVec 32 := 0#32
  let c0_i32_31 : BitVec 32 := 0#32
  ![v35.toNat, 0, 0]

def k0_chk5 (i : grid0.Coords) (v35 : BitVec 32) : Prop :=
  (∀ (k0_h6 : k0_cond6 i = 1#1), ∀ a, (k0_off28 v35) a + S1.size a ≤ S2.size a) ∧
  (∀ (k0_h6 : k0_cond6 i = 1#1), ∀ a, (k0_off29 v35) a + S1x1024x2048.size a ≤ S2x1024x2048.size a) ∧
  (∀ (k0_h6 : k0_cond6 i = 1#1), ∀ a, (k0_off31 v35) a + S1.size a ≤ S2.size a) ∧
  (∀ (k0_h6 : k0_cond6 i = 1#1), ∀ a, (k0_off32 v35) a + S1x1024x1024.size a ≤ S2x1024x1024.size a)
theorem k0_off28_inb : ∀ (i : grid0.Coords) (v35 : BitVec 32) (k0_hw5 : k0_chk5 i v35), ∀ (k0_h6 : k0_cond6 i = 1#1), ∀ a, (k0_off28 v35) a + S1.size a ≤ S2.size a := fun i v35 k0_hw5 k0_h6 => k0_hw5.1 k0_h6
theorem k0_off29_inb : ∀ (i : grid0.Coords) (v35 : BitVec 32) (k0_hw5 : k0_chk5 i v35), ∀ (k0_h6 : k0_cond6 i = 1#1), ∀ a, (k0_off29 v35) a + S1x1024x2048.size a ≤ S2x1024x2048.size a := fun i v35 k0_hw5 k0_h6 => k0_hw5.2.1 k0_h6
theorem k0_off31_inb : ∀ (i : grid0.Coords) (v35 : BitVec 32) (k0_hw5 : k0_chk5 i v35), ∀ (k0_h6 : k0_cond6 i = 1#1), ∀ a, (k0_off31 v35) a + S1.size a ≤ S2.size a := fun i v35 k0_hw5 k0_h6 => k0_hw5.2.2.1 k0_h6
theorem k0_off32_inb : ∀ (i : grid0.Coords) (v35 : BitVec 32) (k0_hw5 : k0_chk5 i v35), ∀ (k0_h6 : k0_cond6 i = 1#1), ∀ a, (k0_off32 v35) a + S1x1024x1024.size a ≤ S2x1024x1024.size a := fun i v35 k0_hw5 k0_h6 => k0_hw5.2.2.2 k0_h6

def k0_off33 (v31 : BitVec 32) : Fin 3 → Nat :=
  let c0_i32_32 : BitVec 32 := 0#32
  let c0_i32_33 : BitVec 32 := 0#32
  ![v31.toNat, 0, 0]

def k0_chk6 (i : grid0.Coords) (v31 : BitVec 32) : Prop :=
  (∀ (k0_h6 : k0_cond6 i = 1#1), ∀ a, (k0_off30 v31) a + S1x1024x2048.size a ≤ S32x1024x2048.size a) ∧
  (∀ (k0_h6 : k0_cond6 i = 1#1), ∀ a, (k0_off33 v31) a + S1x1024x1024.size a ≤ S32x1024x1024.size a)
theorem k0_off30_inb : ∀ (i : grid0.Coords) (v31 : BitVec 32) (k0_hw6 : k0_chk6 i v31), ∀ (k0_h6 : k0_cond6 i = 1#1), ∀ a, (k0_off30 v31) a + S1x1024x2048.size a ≤ S32x1024x2048.size a := fun i v31 k0_hw6 k0_h6 => k0_hw6.1 k0_h6
theorem k0_off33_inb : ∀ (i : grid0.Coords) (v31 : BitVec 32) (k0_hw6 : k0_chk6 i v31), ∀ (k0_h6 : k0_cond6 i = 1#1), ∀ a, (k0_off33 v31) a + S1x1024x1024.size a ≤ S32x1024x1024.size a := fun i v31 k0_hw6 k0_h6 => k0_hw6.2 k0_h6

def k0_off34 (i : grid0.Coords) : Fin 2 → Nat :=
  let c0_20 : Index := 0#32
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let c1_i32_18 : BitVec 32 := 1#32
  let v40 : BitVec 32 := Scalar.subi v29 c1_i32_18
  let c0_i32_19 : BitVec 32 := 0#32
  let v41 : BitVec 32 := Scalar.maxsi v40 c0_i32_19
  let v42 : Index := Scalar.indexCast v41
  ![0, v42.toNat]
def k0_off35 (v35 : BitVec 32) : Fin 1 → Nat :=
  ![v35.toNat]
def k0_cond7 (i : grid0.Coords) (v31 : BitVec 32) (v43 : BitVec 32) : BitVec 1 :=
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let c0_i32_17 : BitVec 32 := 0#32
  let v39 : BitVec 1 := Scalar.cmpi .eq v29 c0_i32_17
  let v44 : BitVec 1 := Scalar.cmpi .ne v31 v43
  let v45 : BitVec 1 := Scalar.ori v39 v44
  let v46 : BitVec 32 := Scalar.extui v45
  let c0_i32_21 : BitVec 32 := 0#32
  let v47 : BitVec 1 := Scalar.cmpi .ne v46 c0_i32_21
  v47

def k0_off36 (v35 : BitVec 32) : Fin 3 → Nat :=
  let c0_i32_26 : BitVec 32 := 0#32
  let c0_i32_27 : BitVec 32 := 0#32
  ![v35.toNat, 0, 0]
def k0_off37 (v31 : BitVec 32) : Fin 3 → Nat :=
  let c0_i32_28 : BitVec 32 := 0#32
  let c0_i32_29 : BitVec 32 := 0#32
  ![v31.toNat, 0, 0]
def k0_off38 (v35 : BitVec 32) : Fin 3 → Nat :=
  let c0_i32_30 : BitVec 32 := 0#32
  let c0_i32_31 : BitVec 32 := 0#32
  ![v35.toNat, 0, 0]
def k0_off39 (v31 : BitVec 32) : Fin 3 → Nat :=
  let c0_i32_32 : BitVec 32 := 0#32
  let c0_i32_33 : BitVec 32 := 0#32
  ![v31.toNat, 0, 0]
def k0_off40 (v35 : BitVec 32) : Fin 3 → Nat :=
  let v68 : Index := Scalar.indexCast v35
  let c0_34 : Index := 0#32
  let c0_35 : Index := 0#32
  ![v68.toNat, 0, 0]
def k0_off41 (v35 : BitVec 32) : Fin 3 → Nat :=
  let v75 : Index := Scalar.indexCast v35
  let c0_38 : Index := 0#32
  let c0_39 : Index := 0#32
  ![v75.toNat, 0, 0]
def k0_off42 (v35 : BitVec 32) : Fin 1 → Nat :=
  let c1_i32_44 : BitVec 32 := 1#32
  let v85 : BitVec 32 := Scalar.subi c1_i32_44 v35
  ![v85.toNat]
def k0_cond8 (v33 : BitVec 32) : BitVec 1 :=
  let c0_i32_42 : BitVec 32 := 0#32
  let v82 : BitVec 1 := Scalar.cmpi .sge v33 c0_i32_42
  let v83 : BitVec 32 := Scalar.extui v82
  let c0_i32_43 : BitVec 32 := 0#32
  let v84 : BitVec 1 := Scalar.cmpi .ne v83 c0_i32_43
  v84

def k0_off43 (v35 : BitVec 32) : Fin 3 → Nat :=
  let c1_i32_44 : BitVec 32 := 1#32
  let v85 : BitVec 32 := Scalar.subi c1_i32_44 v35
  let c0_i32_45 : BitVec 32 := 0#32
  let c0_i32_46 : BitVec 32 := 0#32
  ![v85.toNat, 0, 0]
def k0_off44 (v33 : BitVec 32) : Fin 3 → Nat :=
  let c0_i32_47 : BitVec 32 := 0#32
  let c0_i32_48 : BitVec 32 := 0#32
  ![v33.toNat, 0, 0]
def k0_off45 (v35 : BitVec 32) : Fin 3 → Nat :=
  let c1_i32_44 : BitVec 32 := 1#32
  let v85 : BitVec 32 := Scalar.subi c1_i32_44 v35
  let c0_i32_49 : BitVec 32 := 0#32
  let c0_i32_50 : BitVec 32 := 0#32
  ![v85.toNat, 0, 0]
def k0_off46 (v33 : BitVec 32) : Fin 3 → Nat :=
  let c0_i32_51 : BitVec 32 := 0#32
  let c0_i32_52 : BitVec 32 := 0#32
  ![v33.toNat, 0, 0]

def k0_chk7 (i : grid0.Coords) (v31 : BitVec 32) (v33 : BitVec 32) (v35 : BitVec 32) (v43 : BitVec 32) : Prop :=
  (∀ (k0_h7 : k0_cond7 i v31 v43 = 1#1), ∀ a, (k0_off35 v35) a + S1.size a ≤ S2.size a) ∧
  (∀ (k0_h7 : k0_cond7 i v31 v43 = 1#1), ∀ a, (k0_off36 v35) a + S1x1024x2048.size a ≤ S2x1024x2048.size a) ∧
  (∀ (k0_h7 : k0_cond7 i v31 v43 = 1#1), ∀ a, (k0_off37 v31) a + S1x1024x2048.size a ≤ S32x1024x2048.size a) ∧
  (∀ (k0_h7 : k0_cond7 i v31 v43 = 1#1), ∀ a, (k0_off38 v35) a + S1x1024x1024.size a ≤ S2x1024x1024.size a) ∧
  (∀ (k0_h7 : k0_cond7 i v31 v43 = 1#1), ∀ a, (k0_off39 v31) a + S1x1024x1024.size a ≤ S32x1024x1024.size a) ∧
  (∀ (k0_h7 : k0_cond7 i v31 v43 = 1#1), ∀ a, (k0_off40 v35) a + S1x1024x2048.size a ≤ S2x1024x2048.size a) ∧
  (∀ (k0_h7 : k0_cond7 i v31 v43 = 1#1), ∀ a, (k0_off41 v35) a + S1x1024x1024.size a ≤ S2x1024x1024.size a) ∧
  (∀ (k0_h7 : k0_cond7 i v31 v43 = 1#1), ∀ (k0_h8 : k0_cond8 v33 = 1#1), ∀ a, (k0_off42 v35) a + S1.size a ≤ S2.size a) ∧
  (∀ (k0_h7 : k0_cond7 i v31 v43 = 1#1), ∀ (k0_h8 : k0_cond8 v33 = 1#1), ∀ a, (k0_off43 v35) a + S1x1024x2048.size a ≤ S2x1024x2048.size a) ∧
  (∀ (k0_h7 : k0_cond7 i v31 v43 = 1#1), ∀ (k0_h8 : k0_cond8 v33 = 1#1), ∀ a, (k0_off44 v33) a + S1x1024x2048.size a ≤ S32x1024x2048.size a) ∧
  (∀ (k0_h7 : k0_cond7 i v31 v43 = 1#1), ∀ (k0_h8 : k0_cond8 v33 = 1#1), ∀ a, (k0_off45 v35) a + S1x1024x1024.size a ≤ S2x1024x1024.size a) ∧
  (∀ (k0_h7 : k0_cond7 i v31 v43 = 1#1), ∀ (k0_h8 : k0_cond8 v33 = 1#1), ∀ a, (k0_off46 v33) a + S1x1024x1024.size a ≤ S32x1024x1024.size a)
theorem k0_off35_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off35 v35) a + S1.size a ≤ S2.size a := fun i v31 v33 v35 v43 k0_hw7 k0_h7 => k0_hw7.1 k0_h7
theorem k0_off36_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off36 v35) a + S1x1024x2048.size a ≤ S2x1024x2048.size a := fun i v31 v33 v35 v43 k0_hw7 k0_h7 => k0_hw7.2.1 k0_h7
theorem k0_off37_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off37 v31) a + S1x1024x2048.size a ≤ S32x1024x2048.size a := fun i v31 v33 v35 v43 k0_hw7 k0_h7 => k0_hw7.2.2.1 k0_h7
theorem k0_off38_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off38 v35) a + S1x1024x1024.size a ≤ S2x1024x1024.size a := fun i v31 v33 v35 v43 k0_hw7 k0_h7 => k0_hw7.2.2.2.1 k0_h7
theorem k0_off39_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off39 v31) a + S1x1024x1024.size a ≤ S32x1024x1024.size a := fun i v31 v33 v35 v43 k0_hw7 k0_h7 => k0_hw7.2.2.2.2.1 k0_h7
theorem k0_off40_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off40 v35) a + S1x1024x2048.size a ≤ S2x1024x2048.size a := fun i v31 v33 v35 v43 k0_hw7 k0_h7 => k0_hw7.2.2.2.2.2.1 k0_h7
theorem k0_off41_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ a, (k0_off41 v35) a + S1x1024x1024.size a ≤ S2x1024x1024.size a := fun i v31 v33 v35 v43 k0_hw7 k0_h7 => k0_hw7.2.2.2.2.2.2.1 k0_h7
theorem k0_off42_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ (k0_h8 : k0_cond8 v33 = 1#1), ∀ a, (k0_off42 v35) a + S1.size a ≤ S2.size a := fun i v31 v33 v35 v43 k0_hw7 k0_h7 k0_h8 => k0_hw7.2.2.2.2.2.2.2.1 k0_h7 k0_h8
theorem k0_off43_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ (k0_h8 : k0_cond8 v33 = 1#1), ∀ a, (k0_off43 v35) a + S1x1024x2048.size a ≤ S2x1024x2048.size a := fun i v31 v33 v35 v43 k0_hw7 k0_h7 k0_h8 => k0_hw7.2.2.2.2.2.2.2.2.1 k0_h7 k0_h8
theorem k0_off44_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ (k0_h8 : k0_cond8 v33 = 1#1), ∀ a, (k0_off44 v33) a + S1x1024x2048.size a ≤ S32x1024x2048.size a := fun i v31 v33 v35 v43 k0_hw7 k0_h7 k0_h8 => k0_hw7.2.2.2.2.2.2.2.2.2.1 k0_h7 k0_h8
theorem k0_off45_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ (k0_h8 : k0_cond8 v33 = 1#1), ∀ a, (k0_off45 v35) a + S1x1024x1024.size a ≤ S2x1024x1024.size a := fun i v31 v33 v35 v43 k0_hw7 k0_h7 k0_h8 => k0_hw7.2.2.2.2.2.2.2.2.2.2.1 k0_h7 k0_h8
theorem k0_off46_inb : ∀ (i : grid0.Coords) (v31 : BitVec 32) (v33 : BitVec 32) (v35 : BitVec 32) (v43 : BitVec 32) (k0_hw7 : k0_chk7 i v31 v33 v35 v43), ∀ (k0_h7 : k0_cond7 i v31 v43 = 1#1), ∀ (k0_h8 : k0_cond8 v33 = 1#1), ∀ a, (k0_off46 v33) a + S1x1024x1024.size a ≤ S32x1024x1024.size a := fun i v31 v33 v35 v43 k0_hw7 k0_h7 k0_h8 => k0_hw7.2.2.2.2.2.2.2.2.2.2.2 k0_h7 k0_h8

def k0_off47 (v31 : BitVec 32) : Fin 3 → Nat :=
  let v68 : Index := Scalar.indexCast v31
  let c0_36 : Index := 0#32
  let c0_37 : Index := 0#32
  ![v68.toNat, 0, 0]
def k0_cond9 (i : grid0.Coords) (v48 : BitVec 32) : BitVec 1 :=
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let v49 : BitVec 1 := Scalar.cmpi .slt v29 v48
  let v50 : BitVec 32 := Scalar.extui v49
  let c0_i32_23 : BitVec 32 := 0#32
  let v51 : BitVec 1 := Scalar.cmpi .ne v50 c0_i32_23
  v51

def k0_off48 (v31 : BitVec 32) : Fin 3 → Nat :=
  let v97 : Index := Scalar.indexCast v31
  let c0_49 : Index := 0#32
  let c0_50 : Index := 0#32
  ![v97.toNat, 0, 0]

def k0_chk8 (i : grid0.Coords) (v31 : BitVec 32) (v48 : BitVec 32) : Prop :=
  (∀ (k0_h9 : k0_cond9 i v48 = 1#1), ∀ a, (k0_off47 v31) a + S1x1x2048.size a ≤ S32x1x2048.size a) ∧
  (∀ (k0_h9 : k0_cond9 i v48 = 1#1), ∀ a, (k0_off48 v31) a + S1x1x1024.size a ≤ S32x1x1024.size a)
theorem k0_off47_inb : ∀ (i : grid0.Coords) (v31 : BitVec 32) (v48 : BitVec 32) (k0_hw8 : k0_chk8 i v31 v48), ∀ (k0_h9 : k0_cond9 i v48 = 1#1), ∀ a, (k0_off47 v31) a + S1x1x2048.size a ≤ S32x1x2048.size a := fun i v31 v48 k0_hw8 k0_h9 => k0_hw8.1 k0_h9
theorem k0_off48_inb : ∀ (i : grid0.Coords) (v31 : BitVec 32) (v48 : BitVec 32) (k0_hw8 : k0_chk8 i v31 v48), ∀ (k0_h9 : k0_cond9 i v48 = 1#1), ∀ a, (k0_off48 v31) a + S1x1x1024.size a ≤ S32x1x1024.size a := fun i v31 v48 k0_hw8 k0_h9 => k0_hw8.2 k0_h9

def k0_cond5 (i : grid0.Coords) (v24 : BitVec 32) : BitVec 1 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v25 : BitVec 1 := Scalar.cmpi .sge v1 v24
  let v26 : BitVec 32 := Scalar.extui v25
  let c0_i32_9 : BitVec 32 := 0#32
  let v27 : BitVec 1 := Scalar.cmpi .ne v26 c0_i32_9
  v27

def k0_cond10 (i : grid0.Coords) (v52 : BitVec 32) : BitVec 1 :=
  let arg0 : BitVec 32 := BitVec.ofNat 32 (i 0).val
  let c2_i32_10 : BitVec 32 := 2#32
  let v28 : BitVec 32 := Scalar.muli arg0 c2_i32_10
  let c1_i32_11 : BitVec 32 := 1#32
  let v29 : BitVec 32 := Scalar.addi v28 c1_i32_11
  let v53 : BitVec 1 := Scalar.cmpi .sge v29 v52
  let v54 : BitVec 32 := Scalar.extui v53
  let c0_i32_25 : BitVec 32 := 0#32
  let v55 : BitVec 1 := Scalar.cmpi .ne v54 c0_i32_25
  v55

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S622592x128 : Shape := ⟨2, ![622592, 128]⟩
abbrev S3x304 : Shape := ⟨2, ![3, 304]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S304x256x1024 : Shape := ⟨3, ![304, 256, 1024]⟩
abbrev S1x304 : Shape := ⟨2, ![1, 304]⟩
abbrev S304 : Shape := ⟨1, ![304]⟩
abbrev S_ : Shape := ⟨0, ![]⟩
abbrev S304x1 : Shape := ⟨2, ![304, 1]⟩
abbrev S304x3 : Shape := ⟨2, ![304, 3]⟩
abbrev S304x1x1024x2048 : Shape := ⟨4, ![304, 1, 1024, 2048]⟩
abbrev S304x1024x2048 : Shape := ⟨3, ![304, 1024, 2048]⟩
abbrev S304x256x2048 : Shape := ⟨3, ![304, 256, 2048]⟩
abbrev S304x1x1x2048 : Shape := ⟨4, ![304, 1, 1, 2048]⟩
abbrev S304x1x2048 : Shape := ⟨3, ![304, 1, 2048]⟩
abbrev S304x1x1024x1024 : Shape := ⟨4, ![304, 1, 1024, 1024]⟩
abbrev S304x1024x1024 : Shape := ⟨3, ![304, 1024, 1024]⟩
abbrev S304x1x1x1024 : Shape := ⟨4, ![304, 1, 1, 1024]⟩
abbrev S304x1x1024 : Shape := ⟨3, ![304, 1, 1024]⟩
abbrev S304x1x1 : Shape := ⟨3, ![304, 1, 1]⟩

abbrev nBuf : Space → Nat
  | .hbm => 172
  | .vmem => 0
  | .smem => 0
  | _ => 0

abbrev hbmTy0_0 (i : Nat) : BufTy := match i % 128 with
  | 0 => ⟨S622592x128, .f32⟩
  | 1 => ⟨S3x304, .i32⟩
  | 2 => ⟨S1, .i32⟩
  | 3 => ⟨S32x1024x2048, .f32⟩
  | 4 => ⟨S32x1x2048, .f32⟩
  | 5 => ⟨S32x1024x1024, .f32⟩
  | 6 => ⟨S32x1x1024, .f32⟩
  | 7 => ⟨S304x256x1024, .f32⟩
  | 8 => ⟨S1x304, .i32⟩
  | 9 => ⟨S304, .i32⟩
  | 10 => ⟨S_, .i32⟩
  | 11 => ⟨S304, .i32⟩
  | 12 => ⟨S304, .i1⟩
  | 13 => ⟨S_, .i32⟩
  | 14 => ⟨S304, .i32⟩
  | 15 => ⟨S304, .i32⟩
  | 16 => ⟨S304, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S304x1, .i32⟩
  | 34 => ⟨S304x1, .i32⟩
  | 35 => ⟨S304x1, .i32⟩
  | 36 => ⟨S304x3, .i32⟩
  | 37 => ⟨S304x1x1024x2048, .f32⟩
  | 38 => ⟨S304x1024x2048, .f32⟩
  | 39 => ⟨S304x256x2048, .f32⟩
  | 40 => ⟨S_, .i32⟩
  | 41 => ⟨S304, .i32⟩
  | 42 => ⟨S304, .i1⟩
  | 43 => ⟨S_, .i32⟩
  | 44 => ⟨S304, .i32⟩
  | 45 => ⟨S304, .i32⟩
  | 46 => ⟨S304, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S304x1, .i32⟩
  | 64 => ⟨S304x1, .i32⟩
  | 65 => ⟨S304x1, .i32⟩
  | 66 => ⟨S304x3, .i32⟩
  | 67 => ⟨S304x1x1x2048, .f32⟩
  | 68 => ⟨S304x1x2048, .f32⟩
  | 69 => ⟨S304x256x2048, .f32⟩
  | 70 => ⟨S304x256x2048, .f32⟩
  | 71 => ⟨S304x256x1024, .f32⟩
  | 72 => ⟨S304x256x1024, .f32⟩
  | 73 => ⟨S_, .f32⟩
  | 74 => ⟨S304x256x1024, .f32⟩
  | 75 => ⟨S304x256x1024, .f32⟩
  | 76 => ⟨S_, .f32⟩
  | 77 => ⟨S_, .f32⟩
  | 78 => ⟨S_, .f32⟩
  | 79 => ⟨S304x256x1024, .f32⟩
  | 80 => ⟨S304x256x1024, .f32⟩
  | 81 => ⟨S_, .f32⟩
  | 82 => ⟨S304x256x1024, .f32⟩
  | 83 => ⟨S304x256x1024, .f32⟩
  | 84 => ⟨S_, .f32⟩
  | 85 => ⟨S304x256x1024, .f32⟩
  | 86 => ⟨S304x256x1024, .f32⟩
  | 87 => ⟨S_, .f32⟩
  | 88 => ⟨S304x256x1024, .f32⟩
  | 89 => ⟨S304x256x1024, .f32⟩
  | 90 => ⟨S304x256x1024, .f32⟩
  | 91 => ⟨S304x256x1024, .f32⟩
  | 92 => ⟨S_, .f32⟩
  | 93 => ⟨S304x256x1024, .f32⟩
  | 94 => ⟨S304x256x1024, .f32⟩
  | 95 => ⟨S_, .f32⟩
  | 96 => ⟨S304x256x1024, .f32⟩
  | 97 => ⟨S304x256x1024, .f32⟩
  | 98 => ⟨S304x256x1024, .f32⟩
  | 99 => ⟨S304x256x1024, .f32⟩
  | 100 => ⟨S_, .i32⟩
  | 101 => ⟨S304, .i32⟩
  | 102 => ⟨S304, .i1⟩
  | 103 => ⟨S_, .i32⟩
  | 104 => ⟨S304, .i32⟩
  | 105 => ⟨S304, .i32⟩
  | 106 => ⟨S304, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S304x1, .i32⟩
  | 124 => ⟨S304x1, .i32⟩
  | 125 => ⟨S304x1, .i32⟩
  | 126 => ⟨S304x3, .i32⟩
  | 127 => ⟨S304x1x1024x1024, .f32⟩
  | _ => ⟨S622592x128, .f32⟩

abbrev hbmTy0_1 (i : Nat) : BufTy := match i % 128 with
  | 0 => ⟨S304x1024x1024, .f32⟩
  | 1 => ⟨S304x256x1024, .f32⟩
  | 2 => ⟨S_, .i32⟩
  | 3 => ⟨S304, .i32⟩
  | 4 => ⟨S304, .i1⟩
  | 5 => ⟨S_, .i32⟩
  | 6 => ⟨S304, .i32⟩
  | 7 => ⟨S304, .i32⟩
  | 8 => ⟨S304, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S304x1, .i32⟩
  | 26 => ⟨S304x1, .i32⟩
  | 27 => ⟨S304x1, .i32⟩
  | 28 => ⟨S304x3, .i32⟩
  | 29 => ⟨S304x1x1x1024, .f32⟩
  | 30 => ⟨S304x1x1024, .f32⟩
  | 31 => ⟨S304x256x1024, .f32⟩
  | 32 => ⟨S304x256x1024, .f32⟩
  | 33 => ⟨S304, .i32⟩
  | 34 => ⟨S_, .i32⟩
  | 35 => ⟨S304, .i32⟩
  | 36 => ⟨S304, .i1⟩
  | 37 => ⟨S304x1x1, .i1⟩
  | 38 => ⟨S_, .f32⟩
  | 39 => ⟨S_, .f32⟩
  | 40 => ⟨S304x256x1024, .i1⟩
  | 41 => ⟨S304x256x1024, .f32⟩
  | 42 => ⟨S304x256x1024, .f32⟩
  | 43 => ⟨S622592x128, .f32⟩
  | _ => ⟨S622592x128, .f32⟩

abbrev hbmTy (i : Nat) : BufTy := match i / 128 with
  | 0 => hbmTy0_0 i
  | 1 => hbmTy0_1 i
  | _ => ⟨S622592x128, .f32⟩

abbrev bufTy : (tb : Table) → Fin (tcTables nBuf tb) → BufTy
  | .hbm, ⟨i, _⟩ => hbmTy i
  | _, _ => ⟨S622592x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_c_2 : Ref sig .tc := ⟨.hbm, 18, rfl⟩
abbrev main_v8 : Ref sig .tc := ⟨.hbm, 19, rfl⟩
abbrev main_c_3 : Ref sig .tc := ⟨.hbm, 20, rfl⟩
abbrev main_c_4 : Ref sig .tc := ⟨.hbm, 21, rfl⟩
abbrev main_v9 : Ref sig .tc := ⟨.hbm, 22, rfl⟩
abbrev main_c_5 : Ref sig .tc := ⟨.hbm, 23, rfl⟩
abbrev main_v10 : Ref sig .tc := ⟨.hbm, 24, rfl⟩
abbrev main_c_6 : Ref sig .tc := ⟨.hbm, 25, rfl⟩
abbrev main_c_7 : Ref sig .tc := ⟨.hbm, 26, rfl⟩
abbrev main_v11 : Ref sig .tc := ⟨.hbm, 27, rfl⟩
abbrev main_c_8 : Ref sig .tc := ⟨.hbm, 28, rfl⟩
abbrev main_c_9 : Ref sig .tc := ⟨.hbm, 29, rfl⟩
abbrev main_v12 : Ref sig .tc := ⟨.hbm, 30, rfl⟩
abbrev main_c_10 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_11 : Ref sig .tc := ⟨.hbm, 40, rfl⟩
abbrev main_v21 : Ref sig .tc := ⟨.hbm, 41, rfl⟩
abbrev main_v22 : Ref sig .tc := ⟨.hbm, 42, rfl⟩
abbrev main_c_12 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_13 : Ref sig .tc := ⟨.hbm, 47, rfl⟩
abbrev main_c_14 : Ref sig .tc := ⟨.hbm, 48, rfl⟩
abbrev main_v26 : Ref sig .tc := ⟨.hbm, 49, rfl⟩
abbrev main_c_15 : Ref sig .tc := ⟨.hbm, 50, rfl⟩
abbrev main_c_16 : Ref sig .tc := ⟨.hbm, 51, rfl⟩
abbrev main_v27 : Ref sig .tc := ⟨.hbm, 52, rfl⟩
abbrev main_c_17 : Ref sig .tc := ⟨.hbm, 53, rfl⟩
abbrev main_v28 : Ref sig .tc := ⟨.hbm, 54, rfl⟩
abbrev main_c_18 : Ref sig .tc := ⟨.hbm, 55, rfl⟩
abbrev main_c_19 : Ref sig .tc := ⟨.hbm, 56, rfl⟩
abbrev main_v29 : Ref sig .tc := ⟨.hbm, 57, rfl⟩
abbrev main_c_20 : Ref sig .tc := ⟨.hbm, 58, rfl⟩
abbrev main_c_21 : Ref sig .tc := ⟨.hbm, 59, rfl⟩
abbrev main_v30 : Ref sig .tc := ⟨.hbm, 60, rfl⟩
abbrev main_c_22 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst : Ref sig .tc := ⟨.hbm, 73, rfl⟩
abbrev main_v42 : Ref sig .tc := ⟨.hbm, 74, rfl⟩
abbrev main_v43 : Ref sig .tc := ⟨.hbm, 75, rfl⟩
abbrev main_cst_23 : Ref sig .tc := ⟨.hbm, 76, rfl⟩
abbrev main_cst_24 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v44 : Ref sig .tc := ⟨.hbm, 83, rfl⟩
abbrev main_cst_25 : Ref sig .tc := ⟨.hbm, 84, rfl⟩
abbrev main_v45 : Ref sig .tc := ⟨.hbm, 85, rfl⟩
abbrev main_v46 : Ref sig .tc := ⟨.hbm, 86, rfl⟩
abbrev main_cst_26 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_27 : Ref sig .tc := ⟨.hbm, 92, rfl⟩
abbrev main_v51 : Ref sig .tc := ⟨.hbm, 93, rfl⟩
abbrev main_v52 : Ref sig .tc := ⟨.hbm, 94, rfl⟩
abbrev main_cst_28 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_29 : Ref sig .tc := ⟨.hbm, 100, rfl⟩
abbrev main_v57 : Ref sig .tc := ⟨.hbm, 101, rfl⟩
abbrev main_v58 : Ref sig .tc := ⟨.hbm, 102, rfl⟩
abbrev main_c_30 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_31 : Ref sig .tc := ⟨.hbm, 107, rfl⟩
abbrev main_c_32 : Ref sig .tc := ⟨.hbm, 108, rfl⟩
abbrev main_v62 : Ref sig .tc := ⟨.hbm, 109, rfl⟩
abbrev main_c_33 : Ref sig .tc := ⟨.hbm, 110, rfl⟩
abbrev main_c_34 : Ref sig .tc := ⟨.hbm, 111, rfl⟩
abbrev main_v63 : Ref sig .tc := ⟨.hbm, 112, rfl⟩
abbrev main_c_35 : Ref sig .tc := ⟨.hbm, 113, rfl⟩
abbrev main_v64 : Ref sig .tc := ⟨.hbm, 114, rfl⟩
abbrev main_c_36 : Ref sig .tc := ⟨.hbm, 115, rfl⟩
abbrev main_c_37 : Ref sig .tc := ⟨.hbm, 116, rfl⟩
abbrev main_v65 : Ref sig .tc := ⟨.hbm, 117, rfl⟩
abbrev main_c_38 : Ref sig .tc := ⟨.hbm, 118, rfl⟩
abbrev main_c_39 : Ref sig .tc := ⟨.hbm, 119, rfl⟩
abbrev main_v66 : Ref sig .tc := ⟨.hbm, 120, rfl⟩
abbrev main_c_40 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_c_41 : Ref sig .tc := ⟨.hbm, 130, rfl⟩
abbrev main_v75 : Ref sig .tc := ⟨.hbm, 131, rfl⟩
abbrev main_v76 : Ref sig .tc := ⟨.hbm, 132, rfl⟩
abbrev main_c_42 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_c_43 : Ref sig .tc := ⟨.hbm, 137, rfl⟩
abbrev main_c_44 : Ref sig .tc := ⟨.hbm, 138, rfl⟩
abbrev main_v80 : Ref sig .tc := ⟨.hbm, 139, rfl⟩
abbrev main_c_45 : Ref sig .tc := ⟨.hbm, 140, rfl⟩
abbrev main_c_46 : Ref sig .tc := ⟨.hbm, 141, rfl⟩
abbrev main_v81 : Ref sig .tc := ⟨.hbm, 142, rfl⟩
abbrev main_c_47 : Ref sig .tc := ⟨.hbm, 143, rfl⟩
abbrev main_v82 : Ref sig .tc := ⟨.hbm, 144, rfl⟩
abbrev main_c_48 : Ref sig .tc := ⟨.hbm, 145, rfl⟩
abbrev main_c_49 : Ref sig .tc := ⟨.hbm, 146, rfl⟩
abbrev main_v83 : Ref sig .tc := ⟨.hbm, 147, rfl⟩
abbrev main_c_50 : Ref sig .tc := ⟨.hbm, 148, rfl⟩
abbrev main_c_51 : Ref sig .tc := ⟨.hbm, 149, rfl⟩
abbrev main_v84 : Ref sig .tc := ⟨.hbm, 150, rfl⟩
abbrev main_c_52 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_53 : Ref sig .tc := ⟨.hbm, 166, rfl⟩
abbrev main_call1_v0 : Ref sig .tc := ⟨.hbm, 167, rfl⟩
abbrev main_call1_v1 : Ref sig .tc := ⟨.hbm, 168, rfl⟩
abbrev main_call1_v2 : Ref sig .tc := ⟨.hbm, 169, rfl⟩
abbrev main_v99 : Ref sig .tc := ⟨.hbm, 170, rfl⟩
abbrev main_v100 : Ref sig .tc := ⟨.hbm, 171, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x5128 : Shape := ⟨2, ![1024, 5128]⟩
abbrev S4 : Shape := ⟨1, ![4]⟩
abbrev S1024x3072 : Shape := ⟨2, ![1024, 3072]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x256 : Shape := ⟨2, ![1024, 256]⟩
abbrev S1x1024 : Shape := ⟨2, ![1, 1024]⟩
abbrev S1x4 : Shape := ⟨2, ![1, 4]⟩
abbrev S1x128 : Shape := ⟨2, ![1, 128]⟩
abbrev S17408x512 : Shape := ⟨2, ![17408, 512]⟩
abbrev S17408x1536 : Shape := ⟨2, ![17408, 1536]⟩
abbrev S17408x128 : Shape := ⟨2, ![17408, 128]⟩
abbrev S17408x1024 : Shape := ⟨2, ![17408, 1024]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x1536 : Shape := ⟨2, ![1024, 1536]⟩
abbrev S256x1536 : Shape := ⟨2, ![256, 1536]⟩
abbrev S256x256 : Shape := ⟨2, ![256, 256]⟩
abbrev S256x128 : Shape := ⟨2, ![256, 128]⟩

abbrev nBuf : Space → Nat
  | .hbm => 33
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x5128, .f32⟩
  | .hbm, ⟨4, _⟩ => ⟨S4, .f32⟩
  | .hbm, ⟨5, _⟩ => ⟨S4, .f32⟩
  | .hbm, ⟨6, _⟩ => ⟨S1024x5128, .bf16⟩
  | .hbm, ⟨7, _⟩ => ⟨S1024x3072, .bf16⟩
  | .hbm, ⟨8, _⟩ => ⟨S1024x2048, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1024x256, .bf16⟩
  | .hbm, ⟨18, _⟩ => ⟨S1x1024, .f32⟩
  | .hbm, ⟨19, _⟩ => ⟨S1x4, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1x4, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S17408x512, .f32⟩
  | .hbm, ⟨28, _⟩ => ⟨S17408x1536, .f32⟩
  | .hbm, ⟨29, _⟩ => ⟨S17408x512, .f32⟩
  | .hbm, ⟨30, _⟩ => ⟨S17408x128, .f32⟩
  | .hbm, ⟨31, _⟩ => ⟨S17408x1024, .f32⟩
  | .hbm, ⟨32, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3072, .bf16⟩
  | .local _ .vmem, ⟨6, _⟩ => ⟨S1024x2048, .bf16⟩
  | .local _ .vmem, ⟨7, _⟩ => ⟨S1024x256, .bf16⟩
  | .local _ .vmem, ⟨8, _⟩ => ⟨S1x128, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_call2_v0 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x5128 : Shape := ⟨2, ![1024, 5128]⟩
abbrev S4 : Shape := ⟨1, ![4]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5128 : Shape := ⟨2, ![17408, 5128]⟩
abbrev S17408x512 : Shape := ⟨2, ![17408, 512]⟩
abbrev S17408x1536 : Shape := ⟨2, ![17408, 1536]⟩
abbrev S17408x4 : Shape := ⟨2, ![17408, 4]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x5128, .f32⟩
  | .hbm, ⟨4, _⟩ => ⟨S4, .f32⟩
  | .hbm, ⟨5, _⟩ => ⟨S4, .f32⟩
  | .hbm, ⟨6, _⟩ => ⟨S17408x1024, .f32⟩
  | .hbm, ⟨7, _⟩ => ⟨S17408x1024, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x1024, .f32⟩
  | .hbm, ⟨19, _⟩ => ⟨S17408x1024, .f32⟩
  | .hbm, ⟨20, _⟩ => ⟨S1x1024, .f32⟩
  | .hbm, ⟨21, _⟩ => ⟨S17408x1024, .f32⟩
  | .hbm, ⟨22, _⟩ => ⟨S17408x1024, .f32⟩
  | .hbm, ⟨23, _⟩ => ⟨S17408x5128, .f32⟩
  | .hbm, ⟨24, _⟩ => ⟨S17408x512, .f32⟩
  | .hbm, ⟨25, _⟩ => ⟨S17408x512, .f32⟩
  | .hbm, ⟨26, _⟩ => ⟨S17408x1536, .f32⟩
  | .hbm, ⟨27, _⟩ => ⟨S17408x512, .f32⟩
  | .hbm, ⟨28, _⟩ => ⟨S17408x4, .f32⟩
  | .hbm, ⟨29, _⟩ => ⟨S17408x4, .f32⟩
  | .hbm, ⟨30, _⟩ => ⟨S17408x1024, .f32⟩
  | .hbm, ⟨31, _⟩ => ⟨S17408x1024, .f32⟩
  | .hbm, ⟨32, _⟩ => ⟨S17408x512, .f32⟩
  | .hbm, ⟨33, _⟩ => ⟨S17408x512, .f32⟩
  | .hbm, ⟨34, _⟩ => ⟨S_, .f32⟩
  | .hbm, ⟨35, _⟩ => ⟨S17408x512, .f32⟩
  | .hbm, ⟨36, _⟩ => ⟨S17408x512, .f32⟩
  | .hbm, ⟨37, _⟩ => ⟨S_, .f32⟩
  | .hbm, ⟨38, _⟩ => ⟨S17408x512, .f32⟩
  | .hbm, ⟨39, _⟩ => ⟨S17408x512, .f32⟩
  | .hbm, ⟨40, _⟩ => ⟨S17408x512, .f32⟩
  | .hbm, ⟨41, _⟩ => ⟨S17408x1024, .f32⟩
  | .hbm, ⟨42, _⟩ => ⟨S17408x1024, .f32⟩
  | .hbm, ⟨43, _⟩ => ⟨S_, .f32⟩
  | .hbm, ⟨44, _⟩ => ⟨S17408x1024, .f32⟩
  | .hbm, ⟨45, _⟩ => ⟨S17408x1024, .f32⟩
  | .hbm, ⟨46, _⟩ => ⟨S_, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S17408x1024, .f32⟩
  | .hbm, ⟨51, _⟩ => ⟨S_, .f32⟩
  | .hbm, ⟨52, _⟩ => ⟨S17408x1024, .f32⟩
  | .hbm, ⟨53, _⟩ => ⟨S17408x1024, .f32⟩
  | .hbm, ⟨54, _⟩ => ⟨S_, .f32⟩
  | .hbm, ⟨55, _⟩ => ⟨S17408x1024, .f32⟩
  | .hbm, ⟨56, _⟩ => ⟨S17408x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel3.lean ====
abbrev S17408x512 : Shape := ⟨2, ![17408, 512]⟩
abbrev S1x128x30x512 : Shape := ⟨4, ![1, 128, 30, 512]⟩
abbrev S31x512 : Shape := ⟨2, ![31, 512]⟩
abbrev S1x512 : Shape := ⟨2, ![1, 512]⟩
abbrev S1024x512 : Shape := ⟨2, ![1024, 512]⟩
abbrev S64x512 : Shape := ⟨2, ![64, 512]⟩
abbrev S1x8x30x512 : Shape := ⟨4, ![1, 8, 30, 512]⟩
abbrev S8x40x512 : Shape := ⟨3, ![8, 40, 512]⟩
abbrev S7x32x512 : Shape := ⟨3, ![7, 32, 512]⟩
abbrev S8x8x512 : Shape := ⟨3, ![8, 8, 512]⟩
abbrev S8x30x512 : Shape := ⟨3, ![8, 30, 512]⟩
abbrev S8x512 : Shape := ⟨2, ![8, 512]⟩
abbrev S1x8x512 : Shape := ⟨3, ![1, 8, 512]⟩
abbrev S1x32x512 : Shape := ⟨3, ![1, 32, 512]⟩
abbrev S32x512 : Shape := ⟨2, ![32, 512]⟩
abbrev S8 : Shape := ⟨1, ![8]⟩
abbrev S8x1 : Shape := ⟨2, ![8, 1]⟩
abbrev S8x32x512 : Shape := ⟨3, ![8, 32, 512]⟩

abbrev nBuf : Space → Nat
  | .hbm => 8
  | .vmem => 14
  | .smem => 0
  | _ => 0

abbrev bufTy : (tb : Table) → Fin (tcTables nBuf tb) → BufTy
  | .hbm, ⟨0, _⟩ => ⟨S17408x512, .f32⟩
  | .hbm, ⟨1, _⟩ => ⟨S1x128x30x512, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1024x512, .bf16⟩
  | .hbm, ⟨7, _⟩ => ⟨S1x128x30x512, .f32⟩
  | .local _ .vmem, ⟨0, _⟩ => ⟨S64x512, .f32⟩
  | .local _ .vmem, ⟨1, _⟩ => ⟨S64x512, .f32⟩
  | .local _ .vmem, ⟨2, _⟩ => ⟨S1x8x30x512, .f32⟩
  | .local _ .vmem, ⟨3, _⟩ => ⟨S1x8x30x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S64x512, .bf16⟩
  | .local _ .vmem, ⟨9, _⟩ => ⟨S64x512, .bf16⟩
  | .local _ .vmem, ⟨10, _⟩ => ⟨S1x8x30x512, .f32⟩
  | .local _ .vmem, ⟨11, _⟩ => ⟨S1x8x30x512, .f32⟩
  | .local _ .vmem, ⟨12, _⟩ => ⟨S8x40x512, .f32⟩
  | .local _ .vmem, ⟨13, _⟩ => ⟨S7x32x512, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x30x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S17408x512 : Shape := ⟨2, ![17408, 512]⟩
abbrev S1x128x30x512 : Shape := ⟨4, ![1, 128, 30, 512]⟩
abbrev S31x512 : Shape := ⟨2, ![31, 512]⟩
abbrev S1x512 : Shape := ⟨2, ![1, 512]⟩
abbrev S128x30x512 : Shape := ⟨3, ![128, 30, 512]⟩
abbrev S1024x512 : Shape := ⟨2, ![1024, 512]⟩
abbrev S128x8x512 : Shape := ⟨3, ![128, 8, 512]⟩
abbrev S128x38x512 : Shape := ⟨3, ![128, 38, 512]⟩

abbrev nBuf : Space → Nat
  | .hbm => 12
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S1x128x30x512, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S128x30x512, .f32⟩
  | .hbm, ⟨7, _⟩ => ⟨S1024x512, .f32⟩
  | .hbm, ⟨8, _⟩ => ⟨S128x8x512, .f32⟩
  | .hbm, ⟨9, _⟩ => ⟨S128x38x512, .f32⟩
  | .hbm, ⟨10, _⟩ => ⟨S128x30x512, .f32⟩
  | .hbm, ⟨11, _⟩ => ⟨S1x128x30x512, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel4.lean ====
abbrev S17408x512 : Shape := ⟨2, ![17408, 512]⟩
abbrev S31x512 : Shape := ⟨2, ![31, 512]⟩
abbrev S1x512 : Shape := ⟨2, ![1, 512]⟩
abbrev S_ : Shape := ⟨0, ![]⟩
abbrev S1x8x30x512 : Shape := ⟨4, ![1, 8, 30, 512]⟩
abbrev S16384x512 : Shape := ⟨2, ![16384, 512]⟩
abbrev S512x512 : Shape := ⟨2, ![512, 512]⟩
abbrev S1x1x30x512 : Shape := ⟨4, ![1, 1, 30, 512]⟩
abbrev S1x544x512 : Shape := ⟨3, ![1, 544, 512]⟩
abbrev S7x536x512 : Shape := ⟨3, ![7, 536, 512]⟩
abbrev S1x8x512 : Shape := ⟨3, ![1, 8, 512]⟩
abbrev S1x30x512 : Shape := ⟨3, ![1, 30, 512]⟩
abbrev S1x512x512 : Shape := ⟨3, ![1, 512, 512]⟩
abbrev S1x536x512 : Shape := ⟨3, ![1, 536, 512]⟩
abbrev S536x512 : Shape := ⟨2, ![536, 512]⟩
abbrev S32x512 : Shape := ⟨2, ![32, 512]⟩
abbrev S1x32x512 : Shape := ⟨3, ![1, 32, 512]⟩
abbrev S32 : Shape := ⟨1, ![32]⟩
abbrev S32x1 : Shape := ⟨2, ![32, 1]⟩

abbrev nBuf : Space → Nat
  | .hbm => 9
  | .vmem => 14
  | .smem => 0
  | _ => 0

abbrev bufTy : (tb : Table) → Fin (tcTables nBuf tb) → BufTy
  | .hbm, ⟨0, _⟩ => ⟨S17408x512, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S1x8x30x512, .f32⟩
  | .hbm, ⟨7, _⟩ => ⟨S16384x512, .bf16⟩
  | .hbm, ⟨8, _⟩ => ⟨S1x8x30x512, .f32⟩
  | .local _ .vmem, ⟨0, _⟩ => ⟨S512x512, .f32⟩
  | .local _ .vmem, ⟨1, _⟩ => ⟨S512x512, .f32⟩
  | .local _ .vmem, ⟨2, _⟩ => ⟨S1x1x30x512, .f32⟩
  | .local _ .vmem, ⟨3, _⟩ => ⟨S1x1x30x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S1x1x30x512, .f32⟩
  | .local _ .vmem, ⟨11, _⟩ => ⟨S1x1x30x512, .f32⟩
  | .local _ .vmem, ⟨12, _⟩ => ⟨S1x544x512, .f32⟩
  | .local _ .vmem, ⟨13, _⟩ => ⟨S7x536x512, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x30x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S17408x512 : Shape := ⟨2, ![17408, 512]⟩
abbrev S31x512 : Shape := ⟨2, ![31, 512]⟩
abbrev S1x512 : Shape := ⟨2, ![1, 512]⟩
abbrev S_ : Shape := ⟨0, ![]⟩
abbrev S8x30x512 : Shape := ⟨3, ![8, 30, 512]⟩
abbrev S16384x512 : Shape := ⟨2, ![16384, 512]⟩
abbrev S8x2048x512 : Shape := ⟨3, ![8, 2048, 512]⟩
abbrev S8x2078x512 : Shape := ⟨3, ![8, 2078, 512]⟩
abbrev S1x8x30x512 : Shape := ⟨4, ![1, 8, 30, 512]⟩

abbrev nBuf : Space → Nat
  | .hbm => 12
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S8x30x512, .f32⟩
  | .hbm, ⟨7, _⟩ => ⟨S16384x512, .f32⟩
  | .hbm, ⟨8, _⟩ => ⟨S8x2048x512, .f32⟩
  | .hbm, ⟨9, _⟩ => ⟨S8x2078x512, .f32⟩
  | .hbm, ⟨10, _⟩ => ⟨S8x30x512, .f32⟩
  | .hbm, ⟨11, _⟩ => ⟨S1x8x30x512, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel5.lean ====
abbrev S17408x1536 : Shape := ⟨2, ![17408, 1536]⟩
abbrev S17408x512 : Shape := ⟨2, ![17408, 512]⟩
abbrev S17408x128 : Shape := ⟨2, ![17408, 128]⟩
abbrev S4x1536 : Shape := ⟨2, ![4, 1536]⟩
abbrev S1x128 : Shape := ⟨2, ![1, 128]⟩
abbrev S_ : Shape := ⟨0, ![]⟩
abbrev S1x8x3x1536 : Shape := ⟨4, ![1, 8, 3, 1536]⟩
abbrev S1x8x4x128x128 : Shape := ⟨5, ![1, 8, 4, 128, 128]⟩
abbrev S16384x512 : Shape := ⟨2, ![16384, 512]⟩
abbrev S512x1536 : Shape := ⟨2, ![512, 1536]⟩
abbrev S512x512 : Shape := ⟨2, ![512, 512]⟩
abbrev S512x128 : Shape := ⟨2, ![512, 128]⟩
abbrev S1x1x3x1536 : Shape := ⟨4, ![1, 1, 3, 1536]⟩
abbrev S1x1x4x128x128 : Shape := ⟨5, ![1, 1, 4, 128, 128]⟩
abbrev S520x1536 : Shape := ⟨2, ![520, 1536]⟩
abbrev S4x128x128 : Shape := ⟨3, ![4, 128, 128]⟩
abbrev S8x1536 : Shape := ⟨2, ![8, 1536]⟩
abbrev S3x1536 : Shape := ⟨2, ![3, 1536]⟩
abbrev S1x1536 : Shape := ⟨2, ![1, 1536]⟩
abbrev S128x128 : Shape := ⟨2, ![128, 128]⟩
abbrev S128x1536 : Shape := ⟨2, ![128, 1536]⟩
abbrev S128x384 : Shape := ⟨2, ![128, 384]⟩
abbrev S128 : Shape := ⟨1, ![128]⟩
abbrev S128x1 : Shape := ⟨2, ![128, 1]⟩
abbrev S128x256 : Shape := ⟨2, ![128, 256]⟩
abbrev S1x128x128 : Shape := ⟨3, ![1, 128, 128]⟩
abbrev S256x128 : Shape := ⟨2, ![256, 128]⟩
abbrev S1x1x1x128x128 : Shape := ⟨5, ![1, 1, 1, 128, 128]⟩

abbrev nBuf : Space → Nat
  | .hbm => 12
  | .vmem => 20
  | .smem => 0
  | _ => 0

abbrev bufTy : (tb : Table) → Fin (tcTables nBuf tb) → BufTy
  | .hbm, ⟨0, _⟩ => ⟨S17408x1536, .f32⟩
  | .hbm, ⟨1, _⟩ => ⟨S17408x512, .f32⟩
  | .hbm, ⟨2, _⟩ => ⟨S17408x128, .f32⟩
  | .hbm, ⟨3, _⟩ => ⟨S4x1536, .f32⟩
  | .hbm, ⟨4, _⟩ => ⟨S1x128, .f32⟩
  | .hbm, ⟨5, _⟩ => ⟨S_, .f32⟩
  | .hbm, ⟨6, _⟩ => ⟨S1x8x3x1536, .f32⟩
  | .hbm, ⟨7, _⟩ => ⟨S_, .f32⟩
  | .hbm, ⟨8, _⟩ => ⟨S1x8x4x128x128, .f32⟩
  | .hbm, ⟨9, _⟩ => ⟨S16384x512, .bf16⟩
  | .hbm, ⟨10, _⟩ => ⟨S1x8x3x1536, .f32⟩
  | .hbm, ⟨11, _⟩ => ⟨S1x8x4x128x128, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x1x3x1536, .f32⟩
  | .local _ .vmem, ⟨7, _⟩ => ⟨S1x1x3x1536, .f32⟩
  | .local _ .vmem, ⟨8, _⟩ => ⟨S1x1x4x128x128, .f32⟩
  | .local _ .vmem, ⟨9, _⟩ => ⟨S1x1x4x128x128, .f32⟩
  | .local _ .vmem, ⟨10, _⟩ => ⟨S4x1536, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S1x1x3x1536, .f32⟩
  | .local _ .vmem, ⟨15, _⟩ => ⟨S1x1x3x1536, .f32⟩
  | .local _ .vmem, ⟨16, _⟩ => ⟨S1x1x4x128x128, .f32⟩
  | .local _ .vmem, ⟨17, _⟩ => ⟨S1x1x4x128x128, .f32⟩
  | .local _ .vmem, ⟨18, _⟩ => ⟨S520x1536, .f32⟩
  | .local _ .vmem, ⟨19, _⟩ => ⟨S4x128x128, .f32⟩
  | _, _ => ⟨S17408x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S17408x1536 : Shape := ⟨2, ![17408, 1536]⟩
abbrev S17408x512 : Shape := ⟨2, ![17408, 512]⟩
abbrev S17408x128 : Shape := ⟨2, ![17408, 128]⟩
abbrev S4x1536 : Shape := ⟨2, ![4, 1536]⟩
abbrev S1x128 : Shape := ⟨2, ![1, 128]⟩
abbrev S_ : Shape := ⟨0, ![]⟩
abbrev S8x3x1536 : Shape := ⟨3, ![8, 3, 1536]⟩
abbrev S16384x1536 : Shape := ⟨2, ![16384, 1536]⟩
abbrev S8x2048x1536 : Shape := ⟨3, ![8, 2048, 1536]⟩
abbrev S8x2051x1536 : Shape := ⟨3, ![8, 2051, 1536]⟩
abbrev S1x8x3x1536 : Shape := ⟨4, ![1, 8, 3, 1536]⟩

abbrev nBuf : Space → Nat
  | .hbm => 12
  | .vmem => 0
  | .smem => 0
  | _ => 0

abbrev bufTy : (tb : Table) → Fin (tcTables nBuf tb) → BufTy
  | .hbm, ⟨0, _⟩ => ⟨S17408x1536, .f32⟩
  | .hbm, ⟨1, _⟩ => ⟨S17408x512, .f32⟩
  | .hbm, ⟨2, _⟩ => ⟨S17408x128, .f32⟩
  | .hbm, ⟨3, _⟩ => ⟨S4x1536, .f32⟩
  | .hbm, ⟨4, _⟩ => ⟨S1x128, .f32⟩
  | .hbm, ⟨5, _⟩ => ⟨S_, .f32⟩
  | .hbm, ⟨6, _⟩ => ⟨S8x3x1536, .f32⟩
  | .hbm, ⟨7, _⟩ => ⟨S16384x1536, .f32⟩
  | .hbm, ⟨8, _⟩ => ⟨S8x2048x1536, .f32⟩
  | .hbm, ⟨9, _⟩ => ⟨S8x2051x1536, .f32⟩
  | .hbm, ⟨10, _⟩ => ⟨S8x3x1536, .f32⟩
  | .hbm, ⟨11, _⟩ => ⟨S1x8x3x1536, .f32⟩
  | _, _ => ⟨S17408x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel6.lean ====
abbrev S17408x1536 : Shape := ⟨2, ![17408, 1536]⟩
abbrev S17408x512 : Shape := ⟨2, ![17408, 512]⟩
abbrev S17408x128 : Shape := ⟨2, ![17408, 128]⟩
abbrev S1x128x3x1536 : Shape := ⟨4, ![1, 128, 3, 1536]⟩
abbrev S1x128x4x128x128 : Shape := ⟨5, ![1, 128, 4, 128, 128]⟩
abbrev S4x1536 : Shape := ⟨2, ![4, 1536]⟩
abbrev S1x128 : Shape := ⟨2, ![1, 128]⟩
abbrev S1024x512 : Shape := ⟨2, ![1024, 512]⟩
abbrev S128x1536 : Shape := ⟨2, ![128, 1536]⟩
abbrev S128x512 : Shape := ⟨2, ![128, 512]⟩
abbrev S128x128 : Shape := ⟨2, ![128, 128]⟩
abbrev S1x16x3x1536 : Shape := ⟨4, ![1, 16, 3, 1536]⟩
abbrev S1x16x4x128x128 : Shape := ⟨5, ![1, 16, 4, 128, 128]⟩
abbrev S16x1536 : Shape := ⟨2, ![16, 1536]⟩
abbrev S8x1536 : Shape := ⟨2, ![8, 1536]⟩
abbrev S1x1x3x1536 : Shape := ⟨4, ![1, 1, 3, 1536]⟩
abbrev S3x1536 : Shape := ⟨2, ![3, 1536]⟩
abbrev S1x1536 : Shape := ⟨2, ![1, 1536]⟩
abbrev S128x384 : Shape := ⟨2, ![128, 384]⟩
abbrev S128 : Shape := ⟨1, ![128]⟩
abbrev S128x1 : Shape := ⟨2, ![128, 1]⟩
abbrev S128x256 : Shape := ⟨2, ![128, 256]⟩
abbrev S8x128 : Shape := ⟨2, ![8, 128]⟩
abbrev S16x128 : Shape := ⟨2, ![16, 128]⟩
abbrev S1x1x1x128x128 : Shape := ⟨5, ![1, 1, 1, 128, 128]⟩

abbrev nBuf : Space → Nat
  | .hbm => 10
  | .vmem => 19
  | .smem => 0
  | _ => 0

abbrev bufTy : (tb : Table) → Fin (tcTables nBuf tb) → BufTy
  | .hbm, ⟨0, _⟩ => ⟨S17408x1536, .f32⟩
  | .hbm, ⟨1, _⟩ => ⟨S17408x512, .f32⟩
  | .hbm, ⟨2, _⟩ => ⟨S17408x128, .f32⟩
  | .hbm, ⟨3, _⟩ => ⟨S1x128x3x1536, .f32⟩
  | .hbm, ⟨4, _⟩ => ⟨S1x128x4x128x128, .f32⟩
  | .hbm, ⟨5, _⟩ => ⟨S4x1536, .f32⟩
  | .hbm, ⟨6, _⟩ => ⟨S1x128, .f32⟩
  | .hbm, ⟨7, _⟩ => ⟨S1024x512, .bf16⟩
  | .hbm, ⟨8, _⟩ => ⟨S1x128x3x1536, .f32⟩
  | .hbm, ⟨9, _⟩ => ⟨S1x128x4x128x128, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1x16x3x1536, .f32⟩
  | .local _ .vmem, ⟨7, _⟩ => ⟨S1x16x3x1536, .f32⟩
  | .local _ .vmem, ⟨8, _⟩ => ⟨S1x16x4x128x128, .f32⟩
  | .local _ .vmem, ⟨9, _⟩ => ⟨S1x16x4x128x128, .f32⟩
  | .local _ .vmem, ⟨10, _⟩ => ⟨S4x1536, .f32⟩
  | .local _ .vmem, ⟨11, _⟩ => ⟨S1x128, .f32⟩
  | .local _ .vmem, ⟨12, _⟩ => ⟨S128x512, .bf16⟩
  | .local _ .vmem, ⟨13, _⟩ => ⟨S128x512, .bf16⟩
  | .local _ .vmem, ⟨14, _⟩ => ⟨S1x16x3x1536, .f32⟩
  | .local _ .vmem, ⟨15, _⟩ => ⟨S1x16x3x1536, .f32⟩
  | .local _ .vmem, ⟨16, _⟩ => ⟨S1x16x4x128x128, .f32⟩
  | .local _ .vmem, ⟨17, _⟩ => ⟨S1x16x4x128x128, .f32⟩
  | .local _ .vmem, ⟨18, _⟩ => ⟨S16x1536, .f32⟩
  | _, _ => ⟨S17408x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x3x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S17408x1536 : Shape := ⟨2, ![17408, 1536]⟩
abbrev S17408x512 : Shape := ⟨2, ![17408, 512]⟩
abbrev S17408x128 : Shape := ⟨2, ![17408, 128]⟩
abbrev S1x128x3x1536 : Shape := ⟨4, ![1, 128, 3, 1536]⟩
abbrev S1x128x4x128x128 : Shape := ⟨5, ![1, 128, 4, 128, 128]⟩
abbrev S4x1536 : Shape := ⟨2, ![4, 1536]⟩
abbrev S1x128 : Shape := ⟨2, ![1, 128]⟩
abbrev S128x3x1536 : Shape := ⟨3, ![128, 3, 1536]⟩
abbrev S1024x1536 : Shape := ⟨2, ![1024, 1536]⟩
abbrev S128x8x1536 : Shape := ⟨3, ![128, 8, 1536]⟩
abbrev S128x11x1536 : Shape := ⟨3, ![128, 11, 1536]⟩

abbrev nBuf : Space → Nat
  | .hbm => 13
  | .vmem => 0
  | .smem => 0
  | _ => 0

abbrev bufTy : (tb : Table) → Fin (tcTables nBuf tb) → BufTy
  | .hbm, ⟨0, _⟩ => ⟨S17408x1536, .f32⟩
  | .hbm, ⟨1, _⟩ => ⟨S17408x512, .f32⟩
  | .hbm, ⟨2, _⟩ => ⟨S17408x128, .f32⟩
  | .hbm, ⟨3, _⟩ => ⟨S1x128x3x1536, .f32⟩
  | .hbm, ⟨4, _⟩ => ⟨S1x128x4x128x128, .f32⟩
  | .hbm, ⟨5, _⟩ => ⟨S4x1536, .f32⟩
  | .hbm, ⟨6, _⟩ => ⟨S1x128, .f32⟩
  | .hbm, ⟨7, _⟩ => ⟨S128x3x1536, .f32⟩
  | .hbm, ⟨8, _⟩ => ⟨S1024x1536, .f32⟩
  | .hbm, ⟨9, _⟩ => ⟨S128x8x1536, .f32⟩
  | .hbm, ⟨10, _⟩ => ⟨S128x11x1536, .f32⟩
  | .hbm, ⟨11, _⟩ => ⟨S128x3x1536, .f32⟩
  | .hbm, ⟨12, _⟩ => ⟨S1x128x3x1536, .f32⟩
  | _, _ => ⟨S17408x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Proof.Moe.lean ====
/-
  The two copies of one expert's weights, and the swap of the weights in use: the pieces every block of the
  feed-forward kernel runs, as programs of their own, with what each takes and leaves.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline's own beside the transfers' counters. -/
local notation "𝕄" => MT nD τ sig Unit (Elt F) ℕ (Pipeline.UD sig nD τ) ℕ

abbrev EC : UEmb Counters (MT nD τ sig Unit (Elt F) ℕ (Pipeline.UD sig nD τ) ℕ) := countersEmb (U := Pipeline.UD sig nD τ)

/-! ## The memrefs -/

abbrev GU : Memref sig .tc .hbm S32x1024x2048 .f32 := Memref.whole main_arg3
abbrev WD : Memref sig .tc .hbm S32x1024x1024 .f32 := Memref.whole main_arg5
abbrev B9 : Memref sig .tc .vmem S2x1024x2048 .f32 := Memref.whole cc0_scratch0
abbrev B10 : Memref sig .tc .vmem S2x1024x1024 .f32 := Memref.whole cc0_scratch1
abbrev B11 : Memref sig .tc .vmem S1024x2048 .bf16 := Memref.whole cc0_scratch2
abbrev B12 : Memref sig .tc .vmem S1024x1024 .bf16 := Memref.whole cc0_scratch3

/-- The slice of the first weights at an offset. -/
abbrev gu (o : Fin 3 → ℕ) (h : ∀ a, o a + S1x1024x2048.size a ≤ S32x1024x2048.size a) : Memref sig .tc .hbm S1024x2048 .f32 :=
  (GU.slice (Rect.unit (s := S32x1024x2048) o S1x1024x2048.size h) (fun _ => rfl)).squeeze S1024x2048 squeezes_S1x1024x2048_S1024x2048
/-- The slice of the second weights at an offset. -/
abbrev wd (o : Fin 3 → ℕ) (h : ∀ a, o a + S1x1024x1024.size a ≤ S32x1024x1024.size a) : Memref sig .tc .hbm S1024x1024 .f32 :=
  (WD.slice (Rect.unit (s := S32x1024x1024) o S1x1024x1024.size h) (fun _ => rfl)).squeeze S1024x1024 squeezes_S1x1024x1024_S1024x1024
/-- A half of the first staging pair. -/
abbrev st9 (o : Fin 3 → ℕ) (h : ∀ a, o a + S1x1024x2048.size a ≤ S2x1024x2048.size a) : Memref sig .tc .vmem S1024x2048 .f32 :=
  (B9.slice (Rect.unit (s := S2x1024x2048) o S1x1024x2048.size h) (fun _ => rfl)).squeeze S1024x2048 squeezes_S1x1024x2048_S1024x2048
/-- A half of the second staging pair. -/
abbrev st10 (o : Fin 3 → ℕ) (h : ∀ a, o a + S1x1024x1024.size a ≤ S2x1024x1024.size a) : Memref sig .tc .vmem S1024x1024 .f32 :=
  (B10.slice (Rect.unit (s := S2x1024x1024) o S1x1024x1024.size h) (fun _ => rfl)).squeeze S1024x1024 squeezes_S1x1024x1024_S1024x1024
/-- One of the two semaphores. -/
abbrev dsem (o : Fin 1 → ℕ) (h : ∀ a, o a + S1.size a ≤ S2.size a) : DmaSem sig :=
  ((cc0_scratch4.slice (Rect.unit (s := S2) o S1.size h)).squeeze S_ squeezes_S1_S_).sem

theorem inb3 (w : Fin 2) : ∀ a, (![w.val, 0, 0] : Fin 3 → ℕ) a + S1x1024x2048.size a ≤ S2x1024x2048.size a := by revert w; decide
theorem inb3' (w : Fin 2) : ∀ a, (![w.val, 0, 0] : Fin 3 → ℕ) a + S1x1024x1024.size a ≤ S2x1024x1024.size a := by revert w; decide
theorem inb1 (w : Fin 2) : ∀ a, (![w.val] : Fin 1 → ℕ) a + S1.size a ≤ S2.size a := by revert w; decide
theorem inbe (e : Fin 32) : ∀ a, (![e.val, 0, 0] : Fin 3 → ℕ) a + S1x1024x2048.size a ≤ S32x1024x2048.size a := by revert e; decide
theorem inbe' (e : Fin 32) : ∀ a, (![e.val, 0, 0] : Fin 3 → ℕ) a + S1x1024x1024.size a ≤ S32x1024x1024.size a := by revert e; decide

/-! ## The pieces as programs -/

abbrev In1 (o : Fin 1 → ℕ) : Prop := ∀ a, o a + S1.size a ≤ S2.size a
abbrev In9 (o : Fin 3 → ℕ) : Prop := ∀ a, o a + S1x1024x2048.size a ≤ S2x1024x2048.size a
abbrev In10 (o : Fin 3 → ℕ) : Prop := ∀ a, o a + S1x1024x1024.size a ≤ S2x1024x1024.size a
abbrev InG (o : Fin 3 → ℕ) : Prop := ∀ a, o a + S1x1024x2048.size a ≤ S32x1024x2048.size a
abbrev InD (o : Fin 3 → ℕ) : Prop := ∀ a, o a + S1x1024x1024.size a ≤ S32x1024x1024.size a

/-- Start the two copies of an expert's weights. -/
def issueP (o1 : Fin 1 → ℕ) (h1 : In1 o1) (o2 : Fin 3 → ℕ) (h2 : In9 o2) (o3 : Fin 3 → ℕ) (h3 : InG o3) (o4 : Fin 1 → ℕ) (h4 : In1 o4) (o5 : Fin 3 → ℕ) (h5 : In10 o5) (o6 : Fin 3 → ℕ) (h6 : InD o6) : Prog (TpuEff nD τ sig (Elt F) Λ₀ .tc) PUnit := do
  Prog.lift (.enqueueDma (gu o3 h3) (.here (st9 o2 h2)) (.dma (dsem o1 h1)) ((View.wordExact_bits rfl).reshape _ _) ((View.wordExact_bits rfl).reshape _ _) ⟨Or.inl rfl, trivial⟩)
  Prog.lift (.enqueueDma (wd o6 h6) (.here (st10 o5 h5)) (.dma (dsem o4 h4)) ((View.wordExact_bits rfl).reshape _ _) ((View.wordExact_bits rfl).reshape _ _) ⟨Or.inl rfl, trivial⟩)
  pure ⟨⟩

/-- Wait for the two copies, and round the weights into the matrices in use. -/
def takeP (o1 : Fin 1 → ℕ) (h1 : In1 o1) (o2 : Fin 3 → ℕ) (h2 : In9 o2) (o3 : Fin 3 → ℕ) (h3 : InG o3) (o5 : Fin 3 → ℕ) (h5 : In10 o5) (o6 : Fin 3 → ℕ) (h6 : InD o6) (o7 : Fin 3 → ℕ) (h7 : In9 o7) (o8 : Fin 3 → ℕ) (h8 : In10 o8)
    (P1 : Vec F S1x1024x2048 .f32 → Vec F S1024x2048 .bf16) (P2 : Vec F S1x1024x1024 .f32 → Vec F S1024x1024 .bf16) : Prog (TpuEff nD τ sig (Elt F) Λ₀ .tc) PUnit := do
  Prog.lift (.waitDma2 (dsem o1 h1) (gu o3 h3) (st9 o2 h2) ((View.wordExact_bits rfl).reshape _ _) ((View.wordExact_bits rfl).reshape _ _))
  Prog.lift (.waitDma2 (dsem o1 h1) (wd o6 h6) (st10 o5 h5) ((View.wordExact_bits rfl).reshape _ _) ((View.wordExact_bits rfl).reshape _ _))
  let v69 : Vec F S1x1024x2048 .f32 ← Prog.lift (.load B9 (Rect.unit (s := S2x1024x2048) o7 S1x1024x2048.size h7).toLoadRect (View.loadsAt_vmem h_S1x1024x2048))
  let v72 : Vec F S1024x2048 .bf16 ← Prog.lift (.load B11 (Rect.unit (s := S1024x2048) ![0, 0] S1024x2048.size inb_S1024x2048_S1024x2048_0_0).toLoadRect (View.loadsAt_vmem h_S1024x2048))
  Prog.lift (.store B11 (Rect.unit (s := S1024x2048) ![0, 0] S1024x2048.size inb_S1024x2048_S1024x2048_0_0) (P1 v69) Finset.univ (View.stores_vmem h_S1024x2048 ((Memref.isWhole_whole _).storeExact_slice rfl _ packedbf16_S1024x2048_S1024x2048_0_0) (fun _ => rfl)) (.inl rfl))
  let v76 : Vec F S1x1024x1024 .f32 ← Prog.lift (.load B10 (Rect.unit (s := S2x1024x1024) o8 S1x1024x1024.size h8).toLoadRect (View.loadsAt_vmem h_S1x1024x1024))
  let v79 : Vec F S1024x1024 .bf16 ← Prog.lift (.load B12 (Rect.unit (s := S1024x1024) ![0, 0] S1024x1024.size inb_S1024x1024_S1024x1024_0_0).toLoadRect (View.loadsAt_vmem h_S1024x1024))
  Prog.lift (.store B12 (Rect.unit (s := S1024x1024) ![0, 0] S1024x1024.size inb_S1024x1024_S1024x1024_0_0) (P2 v76) Finset.univ (View.stores_vmem h_S1024x1024 ((Memref.isWhole_whole _).storeExact_slice rfl _ packedbf16_S1024x1024_S1024x1024_0_0) (fun _ => rfl)) (.inl rfl))
  pure ⟨⟩

/-! ## What is held -/

abbrev s9 (w : Fin 2) := st9 ![w.val, 0, 0] (inb3 w)
abbrev s10 (w : Fin 2) := st10 ![w.val, 0, 0] (inb3' w)
abbrev g3 (e : Fin 32) := gu ![e.val, 0, 0] (inbe e)
abbrev g5 (e : Fin 32) := wd ![e.val, 0, 0] (inbe' e)
abbrev sm (w : Fin 2) : DmaSem sig := dsem ![w.val] (inb1 w)

variable (c : Dev nD)

/-- The two copies' amounts on their semaphore. -/
def amts : Fin 2 → ℕ := ![(s9 0).view.dmaCredit, (s10 0).view.dmaCredit]

theorem amts_pos : ∀ t, 0 < amts t := fun
  | 0 => Nat.pos_of_ne_zero fun h => absurd (((s9 0).view.amount_eq_zero_iff (.dma (sm 0))).1 h) (by decide)
  | 1 => Nat.pos_of_ne_zero fun h => absurd (((s10 0).view.amount_eq_zero_iff (.dma (sm 0))).1 h) (by decide)

variable (W1 : Buf (Elt F) ((c : Thread nD τ).loc main_arg3)) (W2 : Buf (Elt F) ((c : Thread nD τ).loc main_arg5))
variable (w : Fin 2) (e : Fin 32)
variable (f9 : Buf (Elt F) ((c : Thread nD τ).loc cc0_scratch0)) (f10 : Buf (Elt F) ((c : Thread nD τ).loc cc0_scratch1))

/-- A half of the first staging pair, held. -/
def H9 : sProp 𝕄 := (s9 w).view.loc (c : Thread nD τ) ↦[(s9 w).view.set]{fullShare} f9
/-- A half of the second staging pair, held. -/
def H10 : sProp 𝕄 := (s10 w).view.loc (c : Thread nD τ) ↦[(s10 w).view.set]{fullShare} f10
/-- One expert's first weights, held. -/
def G3 : sProp 𝕄 := (g3 e).view.loc (c : Thread nD τ) ↦[(g3 e).view.set]{fullShare} W1
/-- One expert's second weights, held. -/
def G5 : sProp 𝕄 := (g5 e).view.loc (c : Thread nD τ) ↦[(g5 e).view.set]{fullShare} W2
/-- A semaphore at zero. -/
def Sm : sProp 𝕄 := semVal ((c : Thread nD τ), SemLoc.dma (sm w)) 0

/-- A staging half after its copy. -/
def got9 : Buf (Elt F) ((c : Thread nD τ).loc cc0_scratch0) := (s9 w).view.write (Elt F) f9 ((g3 e).view.read (Elt F) W1) Finset.univ
def got10 : Buf (Elt F) ((c : Thread nD τ).loc cc0_scratch1) := (s10 w).view.write (Elt F) f10 ((g5 e).view.read (Elt F) W2) Finset.univ

/-- What the two copies deliver. -/
def deliver : Fin 2 → sProp 𝕄
  | 0 => iprop(H9 c w (got9 c W1 w e f9) ∗ G3 c W1 e)
  | 1 => iprop(H10 c w (got10 c W2 w e f10) ∗ G5 c W2 e)
  | ⟨_ + 2, h⟩ => absurd h (Nat.not_lt.2 (Nat.le_add_left _ _))

instance deliver_storable (t) : Storable (upEmb : UEmb _ 𝕄) (deliver c W1 W2 w e f9 f10 t) := by
  match t with
  | 0 => unfold deliver H9 G3; infer_instance
  | 1 => unfold deliver H10 G5; infer_instance

theorem amt9 : (s9 w).view.amount (.dma (sm w)) = amts ⟨0, by decide⟩ := rfl
theorem amt10 : (s10 w).view.amount (.dma (sm w)) = amts ⟨1, by decide⟩ := rfl

/-- The two copies of expert `e`'s weights into half `w`: `j` started, `u` units waited for. -/
def Fly (j u : ℕ) : sProp 𝕄 := MixedBatch EC (c : Thread nD τ) (.dma (sm w)) () amts (deliver c W1 W2 w e f9 f10) j u

/-- The weakest precondition of a piece of the body. -/
abbrev wpB {α : Type} (p : Prog (TpuEff nD τ sig (Elt F) Λ₀ .tc) α) (Q : α → sProp 𝕄) : sProp 𝕄 :=
  wp frame (wpE (defs₀ (F := F)) Variants.none (c : Thread nD τ) none) Set.univ p Q

theorem ret_intro {α : Type} {a : α} {Q : α → sProp 𝕄} : Q a ⊢ wpB (F := F) c (.ret a) Q := by
  unfold wpB; rw [wp_ret]; exact fupd_intro

/-- A piece at the head of a program, by what it takes and leaves. -/
theorem seq {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h : P ⊢ wpB c p R) : P ⊢ iprop((∀ a, R a -∗ wpB c (k a) Q) -∗ wpB c (p >>= k) Q) := by
  unfold wpB at h ⊢
  rw [wp_bind]
  iintro HP Hk
  iapply (wp_wand _ _ _) $$ [HP]
  · iapply h; iexact HP
  iexact Hk

theorem fly_alloc : Sm (F := F) c w ⊢ |={Set.univ}=> Fly c W1 W2 w e f9 f10 0 0 :=
  mixedBatch_alloc' (Lvl := ℕ) EC (c : Thread nD τ) () amts (deliver c W1 W2 w e f9 f10) (sm := SemLoc.dma (sm w)) (E := Set.univ)

theorem start9 {α : Type} {k : PUnit → Prog (TpuEff nD τ sig (Elt F) Λ₀ .tc) α} {Q : α → sProp 𝕄} {hs hd ht} :
    iprop(G3 c W1 e ∗ H9 c w f9 ∗ Fly c W1 W2 w e f9 f10 0 0)
      ⊢ iprop((Fly c W1 W2 w e f9 f10 1 0 -∗ wpB c (k ⟨⟩) Q) -∗ wpB c (.op (.enqueueDma (g3 e) (.here (s9 w)) (.dma (sm w)) hs hd ht) k) Q) :=
  wp_dmaMixedBatch (Lvl := ℕ) EC Variants.none (c : Thread nD τ) none () amts (Finset.Subset.refl _) (by decide : 0 < 2) (amt9 w) (Nat.zero_le _) (D := deliver c W1 W2 w e f9 f10) .rfl

theorem start10 {α : Type} {k : PUnit → Prog (TpuEff nD τ sig (Elt F) Λ₀ .tc) α} {Q : α → sProp 𝕄} {hs hd ht} :
    iprop(G5 c W2 e ∗ H10 c w f10 ∗ Fly c W1 W2 w e f9 f10 1 0)
      ⊢ iprop((Fly c W1 W2 w e f9 f10 2 0 -∗ wpB c (k ⟨⟩) Q) -∗ wpB c (.op (.enqueueDma (g5 e) (.here (s10 w)) (.dma (sm w)) hs hd ht) k) Q) :=
  wp_dmaMixedBatch (Lvl := ℕ) EC Variants.none (c : Thread nD τ) none () amts (Finset.Subset.refl _) (by decide : 1 < 2) (amt10 w) (Nat.zero_le _) (D := deliver c W1 W2 w e f9 f10) .rfl

/-- What the core owes: nothing, whatever it has waited for. -/
def Owe : sProp 𝕄 := iprop(∃ W, owes (c : Thread nD τ) 0 W)

theorem sum2 : 0 + (s9 w).view.dmaCredit + (s10 w).view.dmaCredit = sumTo amts 2 := rfl

theorem wait9 {α : Type} {k : PUnit → Prog (TpuEff nD τ sig (Elt F) Λ₀ .tc) α} {Q : α → sProp 𝕄} {hs hd} :
    iprop(Fly c W1 W2 w e f9 f10 2 0 ∗ Owe (F := F) c)
      ⊢ iprop((iprop(Fly c W1 W2 w e f9 f10 2 (0 + (s9 w).view.dmaCredit) ∗ Owe (F := F) c) -∗ wpB c (k ⟨⟩) Q) -∗ wpB c (.op (.waitDma2 (sm w) (g3 e) (s9 w) hs hd) k) Q) := by
  unfold Owe Fly
  iintro ⟨HB, ⟨%W, HO⟩⟩ Hk
  iapply (wp_waitMixedBatch (Lvl := ℕ) EC Variants.none (c : Thread nD τ) none () rfl (by rw [← sum2 w]; exact Nat.le_add_right _ _)) $$ [HB HO]
  · isplitl [HB]; · iexact HB
    iexact HO
  iintro ⟨HB, HO⟩
  iapply Hk
  isplitl [HB]; · iexact HB
  iexists _; iexact HO

theorem wait10 {α : Type} {k : PUnit → Prog (TpuEff nD τ sig (Elt F) Λ₀ .tc) α} {Q : α → sProp 𝕄} {hs hd} :
    iprop(Fly c W1 W2 w e f9 f10 2 (0 + (s9 w).view.dmaCredit) ∗ Owe (F := F) c)
      ⊢ iprop((iprop((H9 c w (got9 c W1 w e f9) ∗ G3 c W1 e) ∗ (H10 c w (got10 c W2 w e f10) ∗ G5 c W2 e) ∗ Sm (F := F) c w ∗ Owe (F := F) c) -∗ wpB c (k ⟨⟩) Q)
        -∗ wpB c (.op (.waitDma2 (sm w) (g5 e) (s10 w) hs hd) k) Q) := by
  unfold Owe Fly Sm
  iintro ⟨HB, ⟨%W, HO⟩⟩ Hk
  iapply (wp_waitMixedBatchAll (Lvl := ℕ) EC Variants.none (c : Thread nD τ) none () rfl amts_pos (sum2 w)) $$ [HB HO]
  · isplitl [HB]; · iexact HB
    iexact HO
  rw [show (bigSep Finset.univ (deliver c W1 W2 w e f9 f10)) = iprop((H9 c w (got9 c W1 w e f9) ∗ G3 c W1 e) ∗ (H10 c w (got10 c W2 w e f10) ∗ G5 c W2 e)) from
    BI.bigSep_eq_bigSepL_of_eq (I := Fin 2) (S := Finset.univ) [0, 1] (by decide) (by decide) _]
  iintro ⟨⟨H1, H2⟩, HS, HO⟩
  iapply Hk
  isplitl [H1]; · iexact H1
  isplitl [H2]; · iexact H2
  isplitl [HS]; · iexact HS
  iexists _; iexact HO

/-- Starting the two copies. -/
theorem issue_spec {o1 h1 o2 h2 o3 h3 o4 h4 o5 h5 o6 h6}
    (e1 : o1 = ![w.val]) (e2 : o2 = ![w.val, 0, 0]) (e3 : o3 = ![e.val, 0, 0]) (e4 : o4 = ![w.val]) (e5 : o5 = ![w.val, 0, 0]) (e6 : o6 = ![e.val, 0, 0]) :
    iprop(H9 c w f9 ∗ H10 c w f10 ∗ G3 c W1 e ∗ G5 c W2 e ∗ Sm (F := F) c w)
    ⊢ wpB c (issueP (F := F) o1 h1 o2 h2 o3 h3 o4 h4 o5 h5 o6 h6) (fun _ => Fly c W1 W2 w e f9 f10 2 0) := by
  subst e1 e2 e3 e4 e5 e6
  iintro ⟨H9, H10, G3, G5, Hs⟩
  imod (fly_alloc c W1 W2 w e f9 f10) $$ Hs with HB
  iapply (start9 c W1 W2 w e f9 f10) $$ [H9 G3 HB]
  · isplitl [G3]; · iexact G3
    isplitl [H9]; · iexact H9
    iexact HB
  iintro HB
  iapply (start10 c W1 W2 w e f9 f10) $$ [H10 G5 HB]
  · isplitl [G5]; · iexact G5
    isplitl [H10]; · iexact H10
    iexact HB
  iintro HB
  iapply (ret_intro c)
  iexact HB

abbrev R11 : Rect S1024x2048 := Rect.unit (s := S1024x2048) ![0, 0] S1024x2048.size inb_S1024x2048_S1024x2048_0_0
abbrev R12 : Rect S1024x1024 := Rect.unit (s := S1024x1024) ![0, 0] S1024x1024.size inb_S1024x1024_S1024x1024_0_0

/-- One expert's weights as the copies carry them. -/
def slab1 : Vec F S1x1024x2048 .f32 := GU.view.readAt (Elt F) (Rect.unit (s := S32x1024x2048) ![e.val, 0, 0] S1x1024x2048.size (inbe e)).toLoadRect W1
def slab2 : Vec F S1x1024x1024 .f32 := WD.view.readAt (Elt F) (Rect.unit (s := S32x1024x1024) ![e.val, 0, 0] S1x1024x1024.size (inbe' e)).toLoadRect W2

theorem shapeCast_inj {s t : Shape} {β : Type} (h : s.ShapeCasts t) {x y : s.Idx → β} (hxy : shapeCast t x h = shapeCast t y h) : x = y := by
  funext i
  have := congrFun hxy ((Shape.reshapeEquiv h).symm i)
  simpa [shapeCast] using this

theorem slot9_read : B9.view.readAt (Elt F) (Rect.unit (s := S2x1024x2048) ![w.val, 0, 0] S1x1024x2048.size (inb3 w)).toLoadRect (got9 c W1 w e f9) = slab1 c W1 e := by
  apply shapeCast_inj (t := S1024x2048) shapeCasts_S1x1024x2048_S1024x2048
  exact (View.read_write_univ (Val := Elt F) (v := (s9 w).view) f9 _)
theorem slot10_read : B10.view.readAt (Elt F) (Rect.unit (s := S2x1024x1024) ![w.val, 0, 0] S1x1024x1024.size (inb3' w)).toLoadRect (got10 c W2 w e f10) = slab2 c W2 e := by
  apply shapeCast_inj (t := S1024x1024) shapeCasts_S1x1024x1024_S1024x1024
  exact (View.read_write_univ (Val := Elt F) (v := (s10 w).view) f10 _)

theorem set9 : B9.view.setOn (Rect.unit (s := S2x1024x2048) ![w.val, 0, 0] S1x1024x2048.size (inb3 w)).toLoadRect.set ⊆ (s9 w).view.set := by
  exact ((View.set_reshape _ _).trans (View.set_slice _ _)).ge

theorem set10 : B10.view.setOn (Rect.unit (s := S2x1024x1024) ![w.val, 0, 0] S1x1024x1024.size (inb3' w)).toLoadRect.set ⊆ (s10 w).view.set := by
  exact ((View.set_reshape _ _).trans (View.set_slice _ _)).ge

/-- The matrices in use, and what is read off them. -/
def Use (x1 : Vec F S1024x2048 .bf16) (x2 : Vec F S1024x1024 .bf16) : sProp 𝕄 :=
  iprop(∃ f1 f2, ⌜(B11.access R11).read (Elt F) f1 = x1 ∧ (B12.access R12).read (Elt F) f2 = x2⌝
    ∗ (B11.view.loc (c : Thread nD τ) ↦{fullShare} f1) ∗ (B12.view.loc (c : Thread nD τ) ↦{fullShare} f2))

/-- Waiting for the two copies and taking the weights into use. -/
theorem take_spec {o1 h1 o2 h2 o3 h3 o5 h5 o6 h6 o7 h7 o8 h8} {P1 P2} (x1 x2)
    (e1 : o1 = ![w.val]) (e2 : o2 = ![w.val, 0, 0]) (e3 : o3 = ![e.val, 0, 0]) (e5 : o5 = ![w.val, 0, 0]) (e6 : o6 = ![e.val, 0, 0])
    (e7 : o7 = ![w.val, 0, 0]) (e8 : o8 = ![w.val, 0, 0]) :
    iprop(Fly c W1 W2 w e f9 f10 2 0 ∗ Owe (F := F) c ∗ Use c x1 x2)
    ⊢ wpB c (takeP (F := F) o1 h1 o2 h2 o3 h3 o5 h5 o6 h6 o7 h7 o8 h8 P1 P2) (fun _ =>
      iprop(H9 c w (got9 c W1 w e f9) ∗ H10 c w (got10 c W2 w e f10) ∗ G3 c W1 e ∗ G5 c W2 e ∗ Sm (F := F) c w ∗ Owe (F := F) c
        ∗ Use c (P1 (slab1 c W1 e)) (P2 (slab2 c W2 e)))) := by
  subst e1 e2 e3 e5 e6 e7 e8
  iintro ⟨HB, HO, HU⟩
  iapply (wait9 c W1 W2 w e f9 f10) $$ [HB HO]
  · isplitl [HB]; · iexact HB
    iexact HO
  iintro ⟨HB, HO⟩
  iapply (wait10 c W1 W2 w e f9 f10) $$ [HB HO]
  · isplitl [HB]; · iexact HB
    iexact HO
  iintro ⟨⟨H9, G3⟩, ⟨H10, G5⟩, HS, HO⟩
  unfold Use
  icases HU with ⟨%f1, %f2, -, H11, H12⟩
  unfold H9 H10
  iapply (wp_load Variants.none (c : Thread nD τ) none Set.univ (m := B9) (S := (s9 w).view.set) (set9 w)) $$ H9
  iintro H9
  iapply (wp_load Variants.none (c : Thread nD τ) none Set.univ (m := B11) (S := Finset.univ) (Finset.subset_univ _)) $$ H11
  iintro H11
  iapply (wp_store Variants.none (c : Thread nD τ) none Set.univ (m := B11) (r := R11) (f := f1) (S := Finset.univ) (Finset.subset_univ _)) $$ H11
  iintro H11
  iapply (wp_load Variants.none (c : Thread nD τ) none Set.univ (m := B10) (S := (s10 w).view.set) (set10 w)) $$ H10
  iintro H10
  iapply (wp_load Variants.none (c : Thread nD τ) none Set.univ (m := B12) (S := Finset.univ) (Finset.subset_univ _)) $$ H12
  iintro H12
  iapply (wp_store Variants.none (c : Thread nD τ) none Set.univ (m := B12) (r := R12) (f := f2) (S := Finset.univ) (Finset.subset_univ _)) $$ H12
  iintro H12
  iapply (ret_intro c)
  isplitl [H9]; · iexact H9
  isplitl [H10]; · iexact H10
  isplitl [G3]; · iexact G3
  isplitl [G5]; · iexact G5
  isplitl [HS]; · iexact HS
  isplitl [HO]; · iexact HO
  iexists ((B11.access R11).write (Elt F) f1 (P1 (B9.view.readAt (Elt F) (Rect.unit (s := S2x1024x2048) ![w.val, 0, 0] S1x1024x2048.size (inb3 w)).toLoadRect (got9 c W1 w e f9))) Finset.univ)
  iexists ((B12.access R12).write (Elt F) f2 (P2 (B10.view.readAt (Elt F) (Rect.unit (s := S2x1024x1024) ![w.val, 0, 0] S1x1024x1024.size (inb3' w)).toLoadRect (got10 c W2 w e f10))) Finset.univ)
  isplitr
  · ipureintro
    exact ⟨(View.read_write_univ _ _).trans (congrArg P1 (slot9_read c W1 w e f9)), (View.read_write_univ _ _).trans (congrArg P2 (slot10_read c W2 w e f10))⟩
  isplitl [H11]; · iexact H11
  iexact H12

end Cert.KernelIdeal.Moe
-- ==== Proof.MoeComp.lean ====
/-
  One block's arithmetic: the eight strided loads, the two products, and the eight strided stores; and the zero store
  of a block past the last one.
-/
module

public import proofs.«01_k».proof.Proof.Moe

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's user algebra: the pipeline's own beside the transfers' counters. -/
local notation "𝕄" => MT nD τ sig Unit (Elt F) ℕ (Pipeline.UD sig nD τ) ℕ

variable (c : Dev nD)

/-! ## Loads and stores of a memref by what is read through it -/

theorem own_load {α : Type} {cs : CoreSpace} {s : Shape} {e : EltTy} (m : Memref sig .tc cs s e) (r : LoadRect s) {hl : m.view.LoadsAt r} {q} (X : s.Idx → Elt F e)
    {k : (r.shape.Idx → Elt F e) → Prog (TpuEff nD τ sig (Elt F) Λ₀ .tc) α} {Q : α → sProp 𝕄} :
    owns (c : Thread nD τ) m q X ⊢ iprop((owns (c : Thread nD τ) m q X -∗ wpB c (k (fun x => X (r.idx x))) Q) -∗ wpB c (.op (.load m r hl) k) Q) := by
  unfold owns
  iintro ⟨%f, %hf, H⟩ Hk
  iapply (wp_load Variants.none (c : Thread nD τ) none Set.univ (m := m) (r := r) (f := f) (S := m.view.set) (View.setOn_subset_set _ _)) $$ H
  iintro H
  rw [show m.view.readAt (Elt F) r f = fun x => X (r.idx x) from by rw [← hf]; rfl]
  iapply Hk
  iexists f
  isplitr
  · ipureintro; exact hf
  iexact H

theorem own_store {α : Type} {cs : CoreSpace} {s : Shape} {e : EltTy} (m : Memref sig .tc cs s e) (r : Rect s) (X : s.Idx → Elt F e) (v : r.shape.Idx → Elt F e)
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    owns (c : Thread nD τ) m fullShare X ⊢ iprop((∀ X', iprop(⌜(∀ x, X' (r.emb x) = v x) ∧ ∀ y, (∀ x, y ≠ r.emb x) → X' y = X y⌝ ∗ owns (c : Thread nD τ) m fullShare X') -∗ wpB c (k ⟨⟩) Q)
      -∗ wpB c (.op (.store m r v Finset.univ hx hm) k) Q) := by
  unfold owns
  iintro ⟨%f, %hf, H⟩ Hk
  iapply (wp_store Variants.none (c : Thread nD τ) none Set.univ (m := m) (r := r) (f := f) (S := m.view.set) (View.set_slice_subset _ _)) $$ H
  iintro H
  iapply Hk $$ %(m.view.read (Elt F) ((m.access r).write (Elt F) f v Finset.univ))
  isplitr
  · ipureintro
    refine ⟨fun x => View.read_slice_write_emb (Val := Elt F) r f v (Finset.mem_univ x), fun y hy => ?_⟩
    rw [← hf]
    refine View.read_slice_write_of_not_mem (Val := Elt F) r f v Finset.univ fun h => ?_
    obtain ⟨x, -, hx⟩ := Finset.mem_map.1 h
    exact hy x hx.symm
  iexists _
  isplitr
  · ipureintro; rfl
  iexact H

/-! ## The strided rows of a half -/

/-- Where the `j`-th strided rows of the half at row `b` start. -/
abbrev rowOff (b : ℕ) (j : Fin 8) : Fin 2 → ℕ := ![b + j.val, 0]

abbrev InR (b : ℕ) (j : Fin 8) : Prop := ∀ a, S256x128.size a = 0 ∨ rowOff b j a + (![8, 1] : Fin 2 → ℕ) a * (S256x128.size a - 1) < S4096x128.size a

theorem inR (b : ℕ) (hb : b ≤ 2048) (j : Fin 8) : InR b j := fun a => Or.inr (by
  have hj := j.isLt
  match a with
  | 0 => show b + j.val + 8 * (256 - 1) < 4096; omega
  | 1 => show 0 + 1 * (128 - 1) < 128; omega)

/-- The `j`-th strided rows: rows `b + j`, `b + j + 8`, … -/
abbrev rowsL (b : ℕ) (j : Fin 8) (h : InR b j) : LoadRect S4096x128 := ⟨rowOff b j, S256x128.size, ![8, 1], h⟩
abbrev rowsR (b : ℕ) (j : Fin 8) (h : InR b j) : Rect S4096x128 := ⟨rowsL b j h, spos_8_1⟩

theorem rowsR_emb_ne (b : ℕ) {j j' : Fin 8} (hj : j ≠ j') (h h') (x : (rowsR b j h).shape.Idx) (x' : (rowsR b j' h').shape.Idx) :
    (rowsR b j h).emb x ≠ (rowsR b j' h').emb x' := fun he => by
  have h0 : b + j.val + 8 * (x 0).val = b + j'.val + 8 * (x' 0).val := congrArg (fun i : S4096x128.Idx => (i 0).val) he
  have := j.isLt; have := j'.isLt
  exact hj (Fin.ext (by omega))

theorem slices_col (j : Fin 8) : S256x1024.Slices ![0, 128 * j.val] S256x128 := by revert j; decide

/-- The `j`-th lanes of a block's result. -/
def colOf (v : FVec F S256x1024 .f32) (j : Fin 8) : FVec F S256x128 .f32 := extractStridedSlice S256x128 ![0, 128 * j.val] v (slices_col j)

/-- One block's result, from its rows, the matrices in use and the two biases. -/
def blockOut (x : Fin 8 → Vec F S256x128 .f32) (x1 : Vec F S1024x2048 .bf16) (x2 : Vec F S1024x1024 .bf16) (b1 : Vec F S1x1x2048 .f32) (b2 : Vec F S1x1x1024 .f32) : FVec F S256x1024 .f32 :=
  k0_pay8 (k0_pay5 (x 0) (x 1) (x 2) (x 3) (x 4) (x 5) (x 6) (x 7) x1 b1) (k0_pay6 (x 0) (x 1) (x 2) (x 3) (x 4) (x 5) (x 6) (x 7) x1 b1) (k0_pay7 (x 0) (x 1) (x 2) (x 3) (x 4) (x 5) (x 6) (x 7) x1 b1) (Scalar.ofBits .f32 0x3F800000#32) x2 b2

/-- The strided stores of a block's result. -/
def storesP (a8 : Memref sig .tc .vmem S4096x128 .f32) (b : ℕ) (hb : ∀ j, InR b j) (v : Fin 8 → FVec F S256x128 .f32) : List (Fin 8) → Prog (TpuEff nD τ sig (Elt F) Λ₀ .tc) PUnit
  | [] => .ret ⟨⟩
  | j :: l => .op (.load a8 (rowsL b j (hb j)) (View.loadsAt_vmem h_S256x128)) fun _ =>
      .op (.store a8 (rowsR b j (hb j)) (v j) Finset.univ (View.stores_vmem_bits_univ h_S256x128 rfl) (.inl rfl)) fun _ => storesP a8 b hb v l

theorem stores_spec (a8 : Memref sig .tc .vmem S4096x128 .f32) (b : ℕ) (hb : ∀ j, InR b j) (v : Fin 8 → FVec F S256x128 .f32) : ∀ (l : List (Fin 8)) (X : S4096x128.Idx → Elt F .f32),
    owns (c : Thread nD τ) a8 fullShare X ⊢ wpB c (storesP a8 b hb v l) (fun _ => iprop(∃ X', ⌜(∀ j ∈ l, ∀ x, X' ((rowsR b j (hb j)).emb x) = v j x)
      ∧ ∀ y, (∀ j ∈ l, ∀ x, y ≠ (rowsR b j (hb j)).emb x) → X' y = X y⌝ ∗ owns (c : Thread nD τ) a8 fullShare X'))
  | [], X => by
    iintro H
    iapply (ret_intro c)
    iexists X
    isplitr
    · ipureintro; exact ⟨fun j hj => absurd hj (by simp), fun y _ => rfl⟩
    iexact H
  | j :: l, X => by
    iintro H
    iapply (own_load c a8 (rowsL b j (hb j)) X) $$ H
    iintro H
    iapply (own_store c a8 (rowsR b j (hb j)) X (v j)) $$ H
    iintro %X1 ⟨%h1, H⟩
    iapply (wp_wand _ _ _) $$ [H]
    · iapply (stores_spec a8 b hb v l X1); iexact H
    iintro %_ ⟨%X2, %h2, H⟩
    iexists X2
    isplitr
    · ipureintro
      refine ⟨fun j' hj' x => ?_, fun y hy => ?_⟩
      · by_cases hm : j' ∈ l
        · exact h2.1 j' hm x
        · have hjj : j' = j := by simpa [hm] using hj'
          subst hjj
          rw [h2.2 _ fun j'' hj'' x' => rowsR_emb_ne b (j := j') (j' := j'') (fun he => hm (by rw [he]; exact hj'')) _ _ x x']
          exact h1.1 x
      · rw [h2.2 y fun j' hj' => hy j' (List.mem_cons_of_mem _ hj'), h1.2 y (hy j List.mem_cons_self)]
    iexact H

/-- A block's loads, arithmetic and stores. -/
def compP (a3 : Memref sig .tc .vmem S4096x128 .f32) (a5 : Memref sig .tc .vmem S32x1x2048 .f32) (a7 : Memref sig .tc .vmem S32x1x1024 .f32) (a8 : Memref sig .tc .vmem S4096x128 .f32)
    (b : ℕ) (hb : ∀ j, InR b j) (o5 : Fin 3 → ℕ) (h5 : ∀ a, o5 a + S1x1x2048.size a ≤ S32x1x2048.size a) (o7 : Fin 3 → ℕ) (h7 : ∀ a, o7 a + S1x1x1024.size a ≤ S32x1x1024.size a) :
    Prog (TpuEff nD τ sig (Elt F) Λ₀ .tc) PUnit :=
  .op (.load a3 (rowsL b 0 (hb 0)) (View.loadsAt_vmem h_S256x128)) fun (x0 : Vec F S256x128 .f32) =>
  .op (.load a3 (rowsL b 1 (hb 1)) (View.loadsAt_vmem h_S256x128)) fun (x1 : Vec F S256x128 .f32) =>
  .op (.load a3 (rowsL b 2 (hb 2)) (View.loadsAt_vmem h_S256x128)) fun (x2 : Vec F S256x128 .f32) =>
  .op (.load a3 (rowsL b 3 (hb 3)) (View.loadsAt_vmem h_S256x128)) fun (x3 : Vec F S256x128 .f32) =>
  .op (.load a3 (rowsL b 4 (hb 4)) (View.loadsAt_vmem h_S256x128)) fun (x4 : Vec F S256x128 .f32) =>
  .op (.load a3 (rowsL b 5 (hb 5)) (View.loadsAt_vmem h_S256x128)) fun (x5 : Vec F S256x128 .f32) =>
  .op (.load a3 (rowsL b 6 (hb 6)) (View.loadsAt_vmem h_S256x128)) fun (x6 : Vec F S256x128 .f32) =>
  .op (.load a3 (rowsL b 7 (hb 7)) (View.loadsAt_vmem h_S256x128)) fun (x7 : Vec F S256x128 .f32) =>
  .op (.load B11 R11.toLoadRect (View.loadsAt_vmem h_S1024x2048)) fun (y1 : Vec F S1024x2048 .bf16) =>
  .op (.load a5 (Rect.unit (s := S32x1x2048) o5 S1x1x2048.size h5).toLoadRect (View.loadsAt_vmem h_S1x1x2048)) fun (b1 : Vec F S1x1x2048 .f32) =>
  .op (.load B12 R12.toLoadRect (View.loadsAt_vmem h_S1024x1024)) fun (y2 : Vec F S1024x1024 .bf16) =>
  .op (.load a7 (Rect.unit (s := S32x1x1024) o7 S1x1x1024.size h7).toLoadRect (View.loadsAt_vmem h_S1x1x1024)) fun (b2 : Vec F S1x1x1024 .f32) =>
  storesP a8 b hb (colOf (k0_pay8 (k0_pay5 x0 x1 x2 x3 x4 x5 x6 x7 y1 b1) (k0_pay6 x0 x1 x2 x3 x4 x5 x6 x7 y1 b1) (k0_pay7 x0 x1 x2 x3 x4 x5 x6 x7 y1 b1) (Scalar.ofBits .f32 0x3F800000#32) y2 b2)) [0, 1, 2, 3, 4, 5, 6, 7]

/-- What a block's stores write, from what its memrefs hold. -/
def blockRes (b : ℕ) (hb : ∀ j, InR b j) (e : Fin 32) (h5 : ∀ a, (![e.val, 0, 0] : Fin 3 → ℕ) a + S1x1x2048.size a ≤ S32x1x2048.size a) (h7 : ∀ a, (![e.val, 0, 0] : Fin 3 → ℕ) a + S1x1x1024.size a ≤ S32x1x1024.size a)
    (X3 : S4096x128.Idx → Elt F .f32) (X5 : S32x1x2048.Idx → Elt F .f32) (X7 : S32x1x1024.Idx → Elt F .f32) (x1 : Vec F S1024x2048 .bf16) (x2 : Vec F S1024x1024 .bf16) : FVec F S256x1024 .f32 :=
  blockOut (fun j x => X3 ((rowsL b j (hb j)).idx x)) x1 x2 (fun x => X5 ((Rect.unit (s := S32x1x2048) ![e.val, 0, 0] S1x1x2048.size h5).toLoadRect.idx x))
    (fun x => X7 ((Rect.unit (s := S32x1x1024) ![e.val, 0, 0] S1x1x1024.size h7).toLoadRect.idx x))

theorem comp_spec (a3 a5 a7 a8) (b : ℕ) (hb : ∀ j, InR b j) (e : Fin 32) (o5 h5 o7 h7) (e5 : o5 = ![e.val, 0, 0]) (e7 : o7 = ![e.val, 0, 0]) (X3 X5 X7 x1 x2 X) :
    iprop(owns (c : Thread nD τ) a3 fullShare X3 ∗ owns (c : Thread nD τ) a5 fullShare X5 ∗ owns (c : Thread nD τ) a7 fullShare X7 ∗ Use (F := F) c x1 x2 ∗ owns (c : Thread nD τ) a8 fullShare X)
    ⊢ wpB c (compP a3 a5 a7 a8 b hb o5 h5 o7 h7) (fun _ => iprop(owns (c : Thread nD τ) a3 fullShare X3 ∗ owns (c : Thread nD τ) a5 fullShare X5 ∗ owns (c : Thread nD τ) a7 fullShare X7 ∗ Use (F := F) c x1 x2
      ∗ ∃ X', ⌜(∀ j, ∀ x, X' ((rowsR b j (hb j)).emb x) = colOf (blockRes b hb e (e5 ▸ h5) (e7 ▸ h7) X3 X5 X7 x1 x2) j x)
      ∧ ∀ y, (∀ j, ∀ x, y ≠ (rowsR b j (hb j)).emb x) → X' y = X y⌝ ∗ owns (c : Thread nD τ) a8 fullShare X')) := by
  subst e5 e7
  iintro ⟨H3, H5, H7, HU, H8⟩
  iapply (own_load c a3 (rowsL b 0 (hb 0)) X3) $$ H3
  iintro H3
  iapply (own_load c a3 (rowsL b 1 (hb 1)) X3) $$ H3
  iintro H3
  iapply (own_load c a3 (rowsL b 2 (hb 2)) X3) $$ H3
  iintro H3
  iapply (own_load c a3 (rowsL b 3 (hb 3)) X3) $$ H3
  iintro H3
  iapply (own_load c a3 (rowsL b 4 (hb 4)) X3) $$ H3
  iintro H3
  iapply (own_load c a3 (rowsL b 5 (hb 5)) X3) $$ H3
  iintro H3
  iapply (own_load c a3 (rowsL b 6 (hb 6)) X3) $$ H3
  iintro H3
  iapply (own_load c a3 (rowsL b 7 (hb 7)) X3) $$ H3
  iintro H3
  unfold Use
  icases HU with ⟨%f1, %f2, %hf, H11, H12⟩
  iapply (wp_load Variants.none (c : Thread nD τ) none Set.univ (m := B11) (S := Finset.univ) (Finset.subset_univ _)) $$ H11
  iintro H11
  iapply (own_load c a5 _ X5) $$ H5
  iintro H5
  iapply (wp_load Variants.none (c : Thread nD τ) none Set.univ (m := B12) (S := Finset.univ) (Finset.subset_univ _)) $$ H12
  iintro H12
  iapply (own_load c a7 _ X7) $$ H7
  iintro H7
  rw [show B11.view.readAt (Elt F) R11.toLoadRect f1 = x1 from hf.1, show B12.view.readAt (Elt F) R12.toLoadRect f2 = x2 from hf.2]
  iapply (wp_wand _ _ _) $$ [H8]
  · iapply (stores_spec c a8 b hb _ [0, 1, 2, 3, 4, 5, 6, 7] X); iexact H8
  iintro %_ ⟨%X', %hX, H8⟩
  isplitl [H3]; · iexact H3
  isplitl [H5]; · iexact H5
  isplitl [H7]; · iexact H7
  isplitl [H11 H12]
  · iexists f1; iexists f2
    isplitr
    · ipureintro; exact hf
    isplitl [H11]; · iexact H11
    iexact H12
  iexists X'
  isplitr
  · ipureintro
    exact ⟨fun j x => hX.1 j (by revert j; decide) x, fun y hy => hX.2 y fun j _ => hy j⟩
  iexact H8

/-- A half of the result, at zero. -/
def zeroP (a8 : Memref sig .tc .vmem S4096x128 .f32) (b : ℕ) (hb : ∀ a, (![b, 0] : Fin 2 → ℕ) a + S2048x128.size a ≤ S4096x128.size a) : Prog (TpuEff nD τ sig (Elt F) Λ₀ .tc) PUnit :=
  .op (.load a8 (Rect.unit (s := S4096x128) ![b, 0] S2048x128.size hb).toLoadRect (View.loadsAt_vmem h_S2048x128)) fun _ =>
  .op (.store a8 (Rect.unit (s := S4096x128) ![b, 0] S2048x128.size hb) (k0_pay32 (F := F)) Finset.univ (View.stores_vmem_bits_univ h_S2048x128 rfl) (.inl rfl)) fun _ => .ret ⟨⟩

theorem zero_spec (a8) (b : ℕ) (hb) (X) :
    owns (c : Thread nD τ) a8 fullShare X ⊢ wpB c (zeroP (F := F) a8 b hb) (fun _ => iprop(∃ X', ⌜(∀ x, X' ((Rect.unit (s := S4096x128) ![b, 0] S2048x128.size hb).emb x) = k0_pay32 (F := F) x)
      ∧ ∀ y, (∀ x, y ≠ (Rect.unit (s := S4096x128) ![b, 0] S2048x128.size hb).emb x) → X' y = X y⌝ ∗ owns (c : Thread nD τ) a8 fullShare X')) := by
  iintro H
  iapply (own_load c a8 _ X) $$ H
  iintro H
  iapply (own_store c a8 _ X (k0_pay32 (F := F))) $$ H
  iintro %X1 ⟨%h1, H⟩
  iapply (ret_intro c)
  iexists X1
  isplitr
  · ipureintro; exact h1
  iexact H

end Cert.KernelIdeal.Moe
-- ==== Proof.MoeWords.lean ====
/-
  The kernel's words: its conditions and its offsets as facts about the block's number and the schedule's numbers.
-/
module

public import proofs.«01_k».proof.Proof.MoeComp

@[expose] public section

namespace Cert.KernelIdeal.Moe

open Cert.KernelIdeal Cert.KernelIdeal.Gen
open Idealize.ShloMosaic Idealize.ShloMosaic.WordCmp

/-- A number as a word. -/
abbrev wd32 (n : ℕ) : BitVec 32 := BitVec.ofNat 32 n

/-- The grid point's number. -/
abbrev pt (i : grid0.Coords) : ℕ := (i 0).val

theorem pt_lt (i : grid0.Coords) : pt i < 152 := (i 0).isLt

/-- The number of a grid point's first block, as a word. -/
theorem word_even (p : ℕ) : Scalar.addi (Scalar.muli (BitVec.ofNat 32 p) 2#32) 0#32 = wd32 (2 * p) := by
  change BitVec.ofNat 32 p * BitVec.ofNat 32 2 + BitVec.ofNat 32 0 = _
  rw [← BitVec.ofNat_mul, ← BitVec.ofNat_add, mul_comm, Nat.add_zero]

/-- The number of a grid point's second block, as a word. -/
theorem word_odd (p : ℕ) : Scalar.addi (Scalar.muli (BitVec.ofNat 32 p) 2#32) 1#32 = wd32 (2 * p + 1) := by
  change BitVec.ofNat 32 p * BitVec.ofNat 32 2 + BitVec.ofNat 32 1 = _
  rw [← BitVec.ofNat_mul, ← BitVec.ofNat_add, mul_comm]

theorem wd32_nat {n : ℕ} (h : n < 2 ^ 31) : (wd32 n).toNat = n := by
  rw [BitVec.toNat_ofNat]; exact Nat.mod_eq_of_lt (h.trans (by decide))

theorem wd32_int {n : ℕ} (h : n < 2 ^ 31) : (wd32 n).toInt = n := by
  rw [BitVec.toInt_eq_toNat_cond, wd32_nat h]; split
  · rfl
  · omega

/-- A flag widened and tested against zero is the flag. -/
theorem flag_tested (b : Bool) : Scalar.cmpi .ne (Scalar.extui (BitVec.ofBool b) : BitVec 32) 0#32 = 1#1 ↔ b = true := by cases b <;> decide

theorem eq_flag {a b : ℕ} (ha : a < 2 ^ 31) (hb : b < 2 ^ 31) : Scalar.cmpi .eq (wd32 a) (wd32 b) = BitVec.ofBool (decide (a = b)) := by
  change IntOp.cmpi .eq (wd32 a) (wd32 b) = _
  rw [cmpi_eq_eq]; congr 1
  rw [decide_eq_decide]
  exact ⟨fun h => by rw [← wd32_nat ha, ← wd32_nat hb]; exact congrArg _ h, fun h => by rw [h]⟩

theorem ne_flag {a b : ℕ} (ha : a < 2 ^ 31) (hb : b < 2 ^ 31) : Scalar.cmpi .ne (wd32 a) (wd32 b) = BitVec.ofBool (decide (a ≠ b)) := by
  change IntOp.cmpi .ne (wd32 a) (wd32 b) = _
  rw [cmpi_ne_eq]; congr 1
  rw [decide_eq_decide]
  exact not_congr ⟨fun h => by rw [← wd32_nat ha, ← wd32_nat hb]; exact congrArg _ h, fun h => by rw [h]⟩

theorem slt_flag {a b : ℕ} (ha : a < 2 ^ 31) (hb : b < 2 ^ 31) : Scalar.cmpi .slt (wd32 a) (wd32 b) = BitVec.ofBool (decide (a < b)) := by
  change IntOp.cmpi .slt (wd32 a) (wd32 b) = _
  rw [cmpi_slt_eq]; congr 1
  rw [decide_eq_decide, wd32_int ha, wd32_int hb]; omega

theorem sge_flag {a b : ℕ} (ha : a < 2 ^ 31) (hb : b < 2 ^ 31) : Scalar.cmpi .sge (wd32 a) (wd32 b) = BitVec.ofBool (decide (b ≤ a)) := by
  change IntOp.cmpi .sge (wd32 a) (wd32 b) = _
  rw [cmpi_sge_eq]; congr 1
  rw [decide_eq_decide, wd32_int ha, wd32_int hb]; omega

theorem cond1_iff (i : grid0.Coords) : k0_cond1 i = 1#1 ↔ pt i = 0 := by
  have := pt_lt i
  unfold k0_cond1
  dsimp only
  rw [word_even, eq_flag (b := 0) (by simp only [pt] at *; omega) (by decide), flag_tested, decide_eq_true_iff]
  simp only [pt]; omega

theorem or_flag (a b : Bool) : Scalar.ori (BitVec.ofBool a) (BitVec.ofBool b) = BitVec.ofBool (a || b) := by cases a <;> cases b <;> rfl

theorem cond2_iff (i : grid0.Coords) (e e' : Fin 32) : k0_cond2 i (wd32 e.val) (wd32 e'.val) = 1#1 ↔ (pt i = 0 ∨ e ≠ e') := by
  have := pt_lt i; have := e.isLt; have := e'.isLt
  unfold k0_cond2
  dsimp only
  rw [word_even, eq_flag (b := 0) (by simp only [pt] at *; omega) (by decide), ne_flag (by omega) (by omega), or_flag, flag_tested, Bool.or_eq_true, decide_eq_true_iff, decide_eq_true_iff]
  rw [Ne, Ne, Fin.ext_iff]
  exact or_congr (by simp only [pt]; omega) Iff.rfl

theorem cond3_some (n : Fin 32) : k0_cond3 (wd32 n.val) = 1#1 := by revert n; decide
theorem cond3_none : k0_cond3 4294967295#32 ≠ 1#1 := by decide

theorem cond4_iff (i : grid0.Coords) (N : ℕ) (hN : N ≤ 304) : k0_cond4 i (wd32 N) = 1#1 ↔ 2 * pt i < N := by
  have := pt_lt i
  unfold k0_cond4
  dsimp only
  rw [word_even, slt_flag (by simp only [pt] at *; omega) (by omega), flag_tested, decide_eq_true_iff]

theorem cond5_iff (i : grid0.Coords) (N : ℕ) (hN : N ≤ 304) : k0_cond5 i (wd32 N) = 1#1 ↔ ¬ 2 * pt i < N := by
  have := pt_lt i
  unfold k0_cond5
  dsimp only
  rw [word_even, sge_flag (by simp only [pt] at *; omega) (by omega), flag_tested, decide_eq_true_iff, Nat.not_lt]

theorem cond6_not (i : grid0.Coords) : k0_cond6 i ≠ 1#1 := by
  have := pt_lt i
  unfold k0_cond6
  dsimp only
  rw [word_odd, eq_flag (b := 0) (by simp only [pt] at *; omega) (by decide), Ne, flag_tested, decide_eq_true_iff]
  omega

theorem cond7_iff (i : grid0.Coords) (e e' : Fin 32) : k0_cond7 i (wd32 e.val) (wd32 e'.val) = 1#1 ↔ e ≠ e' := by
  have := pt_lt i; have := e.isLt; have := e'.isLt
  unfold k0_cond7
  dsimp only
  rw [word_odd, eq_flag (b := 0) (by simp only [pt] at *; omega) (by decide), ne_flag (by omega) (by omega), or_flag, flag_tested, Bool.or_eq_true, decide_eq_true_iff, decide_eq_true_iff]
  rw [Ne, Ne, Fin.ext_iff]
  exact ⟨fun h => h.resolve_left (by omega), Or.inr⟩

theorem cond8_some (n : Fin 32) : k0_cond8 (wd32 n.val) = 1#1 := by revert n; decide
theorem cond8_none : k0_cond8 4294967295#32 ≠ 1#1 := by decide

theorem cond9_iff (i : grid0.Coords) (N : ℕ) (hN : N ≤ 304) : k0_cond9 i (wd32 N) = 1#1 ↔ 2 * pt i + 1 < N := by
  have := pt_lt i
  unfold k0_cond9
  dsimp only
  rw [word_odd, slt_flag (by simp only [pt] at *; omega) (by omega), flag_tested, decide_eq_true_iff]

theorem cond10_iff (i : grid0.Coords) (N : ℕ) (hN : N ≤ 304) : k0_cond10 i (wd32 N) = 1#1 ↔ ¬ 2 * pt i + 1 < N := by
  have := pt_lt i
  unfold k0_cond10
  dsimp only
  rw [word_odd, sge_flag (by simp only [pt] at *; omega) (by omega), flag_tested, decide_eq_true_iff, Nat.not_lt]

theorem off1_eq (i : grid0.Coords) : k0_off1 i = ![0, 2 * pt i] := by
  have := pt_lt i
  unfold k0_off1
  dsimp only
  rw [word_even, Scalar.indexCast, wd32_nat (by simp only [pt] at *; omega)]

end Cert.KernelIdeal.Moe
-- ==== Proof.MoeSpine.lean ====
/-
  The kernel's body as a chain of the pieces: one block after the other, each a start, a swap, a product and a clearing.
-/
module

public import proofs.«01_k».proof.Proof.MoeWords

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The programs of the body. -/
abbrev BP (F : FTy → Type) (α : Type) : Type 1 := Prog (TpuEff nD τ sig (Elt F) Λ₀ .tc) α

/-- A piece run on a flag, and what follows it. -/
abbrev joinP {α : Type} (b : BitVec 1) (t : b = 1#1 → BP F PUnit) (K : BP F α) : BP F α :=
  if h : b = 1#1 then t h >>= fun _ => K else K

abbrev InT (o : Fin 2 → ℕ) : Prop := ∀ a, o a + S1x1.size a ≤ S3x304.size a

/-- A word of the schedule, and what follows it. -/
abbrev tabP {α : Type} (o : Fin 2 → ℕ) (h : InT o) (k : BitVec 32 → BP F α) : BP F α :=
  (smemLoad (Memref.whole main_arg1) (Rect.unit (s := S3x304) o S1x1.size h) numel1_S1x1 rfl : BP F (Elt F .i32)) >>= k

/-- A piece run on a flag, handed what follows it. -/
abbrev passP {α : Type} (b : BitVec 1) (t : b = 1#1 → BP F α → BP F α) (K : BP F α) : BP F α :=
  if h : b = 1#1 then t h K else K

/-- The number of valid blocks, and what follows it. -/
abbrev nvP {α : Type} (k : BitVec 32 → BP F α) : BP F α :=
  (smemLoad (Memref.whole main_arg2) (Rect.unit (s := S1) ![0] S1.size inb_S1_S1_0) numel1_S1 rfl : BP F (Elt F .i32)) >>= k

/-- A condition the body relies on, and what follows it. -/
abbrev relyP {α : Type} (P : Prop) (d : Decidable P) (k : P → BP F α) : BP F α :=
  (Prog.lift (TpuEff.assume P d) : BP F (PLift P)) >>= fun h => k h.down

section A

variable {α : Type} (i : grid0.Coords) (a3 : Memref sig .tc .vmem S4096x128 .f32) (a5 : Memref sig .tc .vmem S32x1x2048 .f32) (a7 : Memref sig .tc .vmem S32x1x1024 .f32) (a8 : Memref sig .tc .vmem S4096x128 .f32)

/-- The first block's start of its own weights: run at the first block only. -/
abbrev firstA (v3 v7 : BitVec 32) (h2 : k0_chk2 i v3) (h1 : k0_chk1 i v7) (h : k0_cond1 i = 1#1) : BP F PUnit :=
  issueP (k0_off4 v7) (k0_off4_inb i v7 h1 h) (k0_off5 v7) (k0_off5_inb i v7 h1 h) (k0_off6 v3) (k0_off6_inb i v3 h2 h)
    (k0_off7 v7) (k0_off7_inb i v7 h1 h) (k0_off8 v7) (k0_off8_inb i v7 h1 h) (k0_off9 v3) (k0_off9_inb i v3 h2 h)

/-- The start of the next expert's weights. -/
abbrev nextA (v3 v5 v7 v15 : BitVec 32) (h3 : k0_chk3 i v3 v5 v7 v15) (h : k0_cond2 i v3 v15 = 1#1) (h' : k0_cond3 v5 = 1#1) : BP F PUnit :=
  issueP (k0_off18 v7) (k0_off18_inb i v3 v5 v7 v15 h3 h h') (k0_off19 v7) (k0_off19_inb i v3 v5 v7 v15 h3 h h') (k0_off20 v5) (k0_off20_inb i v3 v5 v7 v15 h3 h h')
    (k0_off18 v7) (k0_off18_inb i v3 v5 v7 v15 h3 h h') (k0_off21 v7) (k0_off21_inb i v3 v5 v7 v15 h3 h h') (k0_off22 v5) (k0_off22_inb i v3 v5 v7 v15 h3 h h')

/-- The swap: take this expert's weights into use, start the next one's. -/
abbrev swapA (v3 v5 v7 v15 : BitVec 32) (h3 : k0_chk3 i v3 v5 v7 v15) (h : k0_cond2 i v3 v15 = 1#1) (K : BP F α) : BP F α :=
  takeP (k0_off11 v7) (k0_off11_inb i v3 v5 v7 v15 h3 h) (k0_off12 v7) (k0_off12_inb i v3 v5 v7 v15 h3 h) (k0_off13 v3) (k0_off13_inb i v3 v5 v7 v15 h3 h)
    (k0_off14 v7) (k0_off14_inb i v3 v5 v7 v15 h3 h) (k0_off15 v3) (k0_off15_inb i v3 v5 v7 v15 h3 h) (k0_off16 v7) (k0_off16_inb i v3 v5 v7 v15 h3 h) (k0_off17 v7) (k0_off17_inb i v3 v5 v7 v15 h3 h) k0_pay30 k0_pay31 >>= fun _ =>
  joinP (k0_cond3 v5) (nextA i v3 v5 v7 v15 h3 h) K

/-- The first block of a step, after its expert is read. -/
def blockA (v3 : BitVec 32) (K : BP F α) : BP F α :=
  relyP (k0_chk2 i v3) (k0_chk2.dec i v3) fun h2 =>
  tabP (k0_off2 i) (k0_off2_inb i) fun v5 =>
  tabP (k0_off3 i) (k0_off3_inb i) fun v7 =>
  relyP (k0_chk1 i v7) (k0_chk1.dec i v7) fun h1 =>
  joinP (k0_cond1 i) (firstA i v3 v7 h2 h1) <|
  tabP (k0_off10 i) (k0_off10_inb i) fun v15 =>
  relyP (k0_chk3 i v3 v5 v7 v15) (k0_chk3.dec i v3 v5 v7 v15) fun h3 =>
  passP (k0_cond2 i v3 v15) (swapA i v3 v5 v7 v15 h3) <|
  nvP fun v20 =>
  relyP (k0_chk4 i v3 v20) (k0_chk4.dec i v3 v20) fun h4 =>
  joinP (k0_cond4 i v20) (fun h => compP a3 a5 a7 a8 0 (inR 0 (by decide)) (k0_off23 v3) (k0_off23_inb i v3 v20 h4 h) (k0_off24 v3) (k0_off24_inb i v3 v20 h4 h)) <|
  nvP fun v24 =>
  joinP (k0_cond5 i v24) (fun _ => zeroP a8 0 inb_S4096x128_S2048x128_0_0) K

end A

section B

variable {α : Type} (i : grid0.Coords) (a3 : Memref sig .tc .vmem S4096x128 .f32) (a5 : Memref sig .tc .vmem S32x1x2048 .f32) (a7 : Memref sig .tc .vmem S32x1x1024 .f32) (a8 : Memref sig .tc .vmem S4096x128 .f32)

abbrev firstB (v31 v35 : BitVec 32) (h6 : k0_chk6 i v31) (h5 : k0_chk5 i v35) (h : k0_cond6 i = 1#1) : BP F PUnit :=
  issueP (k0_off28 v35) (k0_off28_inb i v35 h5 h) (k0_off29 v35) (k0_off29_inb i v35 h5 h) (k0_off30 v31) (k0_off30_inb i v31 h6 h)
    (k0_off31 v35) (k0_off31_inb i v35 h5 h) (k0_off32 v35) (k0_off32_inb i v35 h5 h) (k0_off33 v31) (k0_off33_inb i v31 h6 h)

abbrev nextB (v31 v33 v35 v43 : BitVec 32) (h7 : k0_chk7 i v31 v33 v35 v43) (h : k0_cond7 i v31 v43 = 1#1) (h' : k0_cond8 v33 = 1#1) : BP F PUnit :=
  issueP (k0_off42 v35) (k0_off42_inb i v31 v33 v35 v43 h7 h h') (k0_off43 v35) (k0_off43_inb i v31 v33 v35 v43 h7 h h') (k0_off44 v33) (k0_off44_inb i v31 v33 v35 v43 h7 h h')
    (k0_off42 v35) (k0_off42_inb i v31 v33 v35 v43 h7 h h') (k0_off45 v35) (k0_off45_inb i v31 v33 v35 v43 h7 h h') (k0_off46 v33) (k0_off46_inb i v31 v33 v35 v43 h7 h h')

abbrev swapB (v31 v33 v35 v43 : BitVec 32) (h7 : k0_chk7 i v31 v33 v35 v43) (h : k0_cond7 i v31 v43 = 1#1) (K : BP F α) : BP F α :=
  takeP (k0_off35 v35) (k0_off35_inb i v31 v33 v35 v43 h7 h) (k0_off36 v35) (k0_off36_inb i v31 v33 v35 v43 h7 h) (k0_off37 v31) (k0_off37_inb i v31 v33 v35 v43 h7 h)
    (k0_off38 v35) (k0_off38_inb i v31 v33 v35 v43 h7 h) (k0_off39 v31) (k0_off39_inb i v31 v33 v35 v43 h7 h) (k0_off40 v35) (k0_off40_inb i v31 v33 v35 v43 h7 h) (k0_off41 v35) (k0_off41_inb i v31 v33 v35 v43 h7 h) k0_pay1 k0_pay2 >>= fun _ =>
  joinP (k0_cond8 v33) (nextB i v31 v33 v35 v43 h7 h) K

/-- The second block of a step, after its expert is read. -/
def blockB (v31 : BitVec 32) (K : BP F α) : BP F α :=
  relyP (k0_chk6 i v31) (k0_chk6.dec i v31) fun h6 =>
  tabP (k0_off26 i) (k0_off26_inb i) fun v33 =>
  tabP (k0_off27 i) (k0_off27_inb i) fun v35 =>
  relyP (k0_chk5 i v35) (k0_chk5.dec i v35) fun h5 =>
  joinP (k0_cond6 i) (firstB i v31 v35 h6 h5) <|
  tabP (k0_off34 i) (k0_off34_inb i) fun v43 =>
  relyP (k0_chk7 i v31 v33 v35 v43) (k0_chk7.dec i v31 v33 v35 v43) fun h7 =>
  passP (k0_cond7 i v31 v43) (swapB i v31 v33 v35 v43 h7) <|
  nvP fun v48 =>
  relyP (k0_chk8 i v31 v48) (k0_chk8.dec i v31 v48) fun h8 =>
  joinP (k0_cond9 i v48) (fun h => compP a3 a5 a7 a8 2048 (inR 2048 (by decide)) (k0_off47 v31) (k0_off47_inb i v31 v48 h8 h) (k0_off48 v31) (k0_off48_inb i v31 v48 h8 h)) <|
  nvP fun v52 =>
  joinP (k0_cond10 i v52) (fun _ => zeroP a8 2048 inb_S4096x128_S2048x128_2048_0) K

end B

variable (i : grid0.Coords) (a3 : Memref sig .tc .vmem S4096x128 .f32) (h3 : a3.IsWhole) (a5 : Memref sig .tc .vmem S32x1x2048 .f32) (h5 : a5.IsWhole) (a7 : Memref sig .tc .vmem S32x1x1024 .f32) (h7 : a7.IsWhole) (a8 : Memref sig .tc .vmem S4096x128 .f32) (h8 : a8.IsWhole)

theorem next_eq {α β : Type} {p : BP F α} {k k' : α → BP F β} (h : ∀ a, k a = k' a) : p >>= k = p >>= k' := congrArg (p >>= ·) (funext h)

theorem join_eq {α : Type} {b : BitVec 1} (K : PUnit → BP F α) {t : b = 1#1 → BP F α} {t' : b = 1#1 → BP F PUnit} {K' : BP F α}
    (ht : ∀ h, t h = (t' h >>= fun _ => K ⟨⟩)) (hK : K ⟨⟩ = K') : dite (b = 1#1) t (fun _ => K ⟨⟩) = joinP b t' K' := by
  subst hK
  unfold joinP
  exact congrArg (fun t => dite (b = 1#1) t fun _ => K ⟨⟩) (funext ht)

theorem pass_eq {α : Type} {b : BitVec 1} (K : PUnit → BP F α) {t : b = 1#1 → BP F α} {t' : b = 1#1 → BP F α → BP F α} {K' : BP F α}
    (ht : ∀ h, t h = t' h (K ⟨⟩)) (hK : K ⟨⟩ = K') : dite (b = 1#1) t (fun _ => K ⟨⟩) = passP b t' K' := by
  subst hK
  unfold passP
  exact congrArg (fun t => dite (b = 1#1) t fun _ => K ⟨⟩) (funext ht)

set_option maxRecDepth 65536 in
theorem partA_eq :
    k0_part5 (F := F) i (Memref.whole main_arg1) (Memref.isWhole_whole _) (Memref.whole main_arg2) (Memref.isWhole_whole _) a3 h3 (Memref.whole main_arg3) (Memref.isWhole_whole _) a5 h5 (Memref.whole main_arg5) (Memref.isWhole_whole _) a7 h7 a8 h8
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    = tabP (k0_off1 i) (k0_off1_inb i) fun v3 => blockA i a3 a5 a7 a8 v3 <|
        tabP (k0_off25 i) (k0_off25_inb i) fun v31 => pure ⟨Scalar.addi (Scalar.muli (BitVec.ofNat 32 (i 0).val) 2#32) 1#32, v31⟩ := by
  rw [k0_part5_eq_skeleton]
  unfold k0_part5_skel blockA
  extract_lets
  refine next_eq fun v3 => ?_
  refine next_eq fun h2 => ?_
  extract_lets
  refine next_eq fun v5 => ?_
  refine next_eq fun v7 => ?_
  refine next_eq fun h1 => ?_
  extract_lets
  refine join_eq _ ?_ ?_
  · intro h
    rfl
  refine next_eq fun v15 => ?_
  refine next_eq fun h3 => ?_
  extract_lets
  refine pass_eq _ ?_ ?_
  · intro h
    rfl
  refine next_eq fun v20 => ?_
  refine next_eq fun h4 => ?_
  extract_lets
  refine join_eq _ ?_ ?_
  · intro h
    rw [k0_part1_eq_skeleton, k0_part2_eq_skeleton]
    rfl
  refine next_eq fun v24 => ?_
  extract_lets
  refine join_eq _ ?_ ?_
  · intro h
    rfl
  rfl

set_option maxRecDepth 65536 in
theorem body_eq :
    cc0__moe_ffn_kernel (F := F) i (Memref.whole main_arg1) (Memref.isWhole_whole _) (Memref.whole main_arg2) (Memref.isWhole_whole _) a3 h3 (Memref.whole main_arg3) (Memref.isWhole_whole _) a5 h5 (Memref.whole main_arg5) (Memref.isWhole_whole _) a7 h7 a8 h8
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    = (tabP (k0_off1 i) (k0_off1_inb i) fun v3 => blockA i a3 a5 a7 a8 v3 <|
        tabP (k0_off25 i) (k0_off25_inb i) fun v31 => (pure ⟨Scalar.addi (Scalar.muli (BitVec.ofNat 32 (i 0).val) 2#32) 1#32, v31⟩ : BP F (Σ' (v29 : BitVec 32), Elt F .i32))) >>= fun r =>
      blockB i a3 a5 a7 a8 r.2 (pure ⟨⟩) := by
  rw [cc0__moe_ffn_kernel_eq_skeleton, cc0__moe_ffn_kernel_skel]
  rw [partA_eq]
  refine next_eq fun r => ?_
  obtain ⟨v29, v31⟩ := r
  unfold blockB
  dsimp -zeta only
  refine next_eq (F := F) (fun h6 => ?_)
  extract_lets
  refine next_eq fun v33 => ?_
  refine next_eq fun v35 => ?_
  refine next_eq fun h5 => ?_
  extract_lets
  refine join_eq _ ?_ ?_
  · intro h
    rfl
  refine next_eq fun v43 => ?_
  refine next_eq fun h7 => ?_
  extract_lets
  refine pass_eq _ ?_ ?_
  · intro h
    rfl
  refine next_eq fun v48 => ?_
  refine next_eq fun h8 => ?_
  extract_lets
  refine join_eq _ ?_ ?_
  · intro h
    rw [k0_part3_eq_skeleton, k0_part4_eq_skeleton]
    rfl
  refine next_eq fun v52 => ?_
  extract_lets
  refine join_eq _ ?_ ?_
  · intro h
    rfl
  rfl

end Cert.KernelIdeal.Moe
-- ==== Proof.MoeOffs.lean ====
/-
  The offsets and the conditions the body relies on, at the schedule's numbers.
-/
module

public import proofs.«01_k».proof.Proof.MoeSpine

@[expose] public section

namespace Cert.KernelIdeal.Moe

open Cert.KernelIdeal Cert.KernelIdeal.Gen
open Idealize.ShloMosaic Idealize.ShloMosaic.WordCmp

/-- The other half of the staging pairs. -/
abbrev other (w : Fin 2) : Fin 2 := 1 - w

/-! ## Offsets -/

theorem off4_eq (w : Fin 2) : k0_off4 (wd32 w.val) = ![w.val] := by revert w; decide
theorem off7_eq (w : Fin 2) : k0_off7 (wd32 w.val) = ![w.val] := by revert w; decide
theorem off11_eq (w : Fin 2) : k0_off11 (wd32 w.val) = ![w.val] := by revert w; decide
theorem off28_eq (w : Fin 2) : k0_off28 (wd32 w.val) = ![w.val] := by revert w; decide
theorem off31_eq (w : Fin 2) : k0_off31 (wd32 w.val) = ![w.val] := by revert w; decide
theorem off35_eq (w : Fin 2) : k0_off35 (wd32 w.val) = ![w.val] := by revert w; decide
theorem off5_eq (w : Fin 2) : k0_off5 (wd32 w.val) = ![w.val, 0, 0] := by revert w; decide
theorem off12_eq (w : Fin 2) : k0_off12 (wd32 w.val) = ![w.val, 0, 0] := by revert w; decide
theorem off16_eq (w : Fin 2) : k0_off16 (wd32 w.val) = ![w.val, 0, 0] := by revert w; decide
theorem off29_eq (w : Fin 2) : k0_off29 (wd32 w.val) = ![w.val, 0, 0] := by revert w; decide
theorem off36_eq (w : Fin 2) : k0_off36 (wd32 w.val) = ![w.val, 0, 0] := by revert w; decide
theorem off40_eq (w : Fin 2) : k0_off40 (wd32 w.val) = ![w.val, 0, 0] := by revert w; decide
theorem off8_eq (w : Fin 2) : k0_off8 (wd32 w.val) = ![w.val, 0, 0] := by revert w; decide
theorem off14_eq (w : Fin 2) : k0_off14 (wd32 w.val) = ![w.val, 0, 0] := by revert w; decide
theorem off17_eq (w : Fin 2) : k0_off17 (wd32 w.val) = ![w.val, 0, 0] := by revert w; decide
theorem off32_eq (w : Fin 2) : k0_off32 (wd32 w.val) = ![w.val, 0, 0] := by revert w; decide
theorem off38_eq (w : Fin 2) : k0_off38 (wd32 w.val) = ![w.val, 0, 0] := by revert w; decide
theorem off41_eq (w : Fin 2) : k0_off41 (wd32 w.val) = ![w.val, 0, 0] := by revert w; decide
theorem off18_eq (w : Fin 2) : k0_off18 (wd32 w.val) = ![(other w).val] := by revert w; decide
theorem off42_eq (w : Fin 2) : k0_off42 (wd32 w.val) = ![(other w).val] := by revert w; decide
theorem off19_eq (w : Fin 2) : k0_off19 (wd32 w.val) = ![(other w).val, 0, 0] := by revert w; decide
theorem off43_eq (w : Fin 2) : k0_off43 (wd32 w.val) = ![(other w).val, 0, 0] := by revert w; decide
theorem off21_eq (w : Fin 2) : k0_off21 (wd32 w.val) = ![(other w).val, 0, 0] := by revert w; decide
theorem off45_eq (w : Fin 2) : k0_off45 (wd32 w.val) = ![(other w).val, 0, 0] := by revert w; decide
theorem off6_eq (e : Fin 32) : k0_off6 (wd32 e.val) = ![e.val, 0, 0] := by revert e; decide
theorem off13_eq (e : Fin 32) : k0_off13 (wd32 e.val) = ![e.val, 0, 0] := by revert e; decide
theorem off20_eq (e : Fin 32) : k0_off20 (wd32 e.val) = ![e.val, 0, 0] := by revert e; decide
theorem off30_eq (e : Fin 32) : k0_off30 (wd32 e.val) = ![e.val, 0, 0] := by revert e; decide
theorem off37_eq (e : Fin 32) : k0_off37 (wd32 e.val) = ![e.val, 0, 0] := by revert e; decide
theorem off44_eq (e : Fin 32) : k0_off44 (wd32 e.val) = ![e.val, 0, 0] := by revert e; decide
theorem off9_eq (e : Fin 32) : k0_off9 (wd32 e.val) = ![e.val, 0, 0] := by revert e; decide
theorem off15_eq (e : Fin 32) : k0_off15 (wd32 e.val) = ![e.val, 0, 0] := by revert e; decide
theorem off22_eq (e : Fin 32) : k0_off22 (wd32 e.val) = ![e.val, 0, 0] := by revert e; decide
theorem off33_eq (e : Fin 32) : k0_off33 (wd32 e.val) = ![e.val, 0, 0] := by revert e; decide
theorem off39_eq (e : Fin 32) : k0_off39 (wd32 e.val) = ![e.val, 0, 0] := by revert e; decide
theorem off46_eq (e : Fin 32) : k0_off46 (wd32 e.val) = ![e.val, 0, 0] := by revert e; decide
theorem off23_eq (e : Fin 32) : k0_off23 (wd32 e.val) = ![e.val, 0, 0] := by revert e; decide
theorem off24_eq (e : Fin 32) : k0_off24 (wd32 e.val) = ![e.val, 0, 0] := by revert e; decide
theorem off47_eq (e : Fin 32) : k0_off47 (wd32 e.val) = ![e.val, 0, 0] := by revert e; decide
theorem off48_eq (e : Fin 32) : k0_off48 (wd32 e.val) = ![e.val, 0, 0] := by revert e; decide

theorem off2_eq (i : grid0.Coords) : k0_off2 i = ![1, 2 * pt i] := by
  have := pt_lt i
  unfold k0_off2
  dsimp only
  rw [word_even, Scalar.indexCast, wd32_nat (by simp only [pt] at *; omega)]

theorem off3_eq (i : grid0.Coords) : k0_off3 i = ![2, 2 * pt i] := by
  have := pt_lt i
  unfold k0_off3
  dsimp only
  rw [word_even, Scalar.indexCast, wd32_nat (by simp only [pt] at *; omega)]

theorem off25_eq (i : grid0.Coords) : k0_off25 i = ![0, 2 * pt i + 1] := by
  have := pt_lt i
  unfold k0_off25
  dsimp only
  rw [word_odd, Scalar.indexCast, wd32_nat (by simp only [pt] at *; omega)]

theorem off26_eq (i : grid0.Coords) : k0_off26 i = ![1, 2 * pt i + 1] := by
  have := pt_lt i
  unfold k0_off26
  dsimp only
  rw [word_odd, Scalar.indexCast, wd32_nat (by simp only [pt] at *; omega)]

theorem off27_eq (i : grid0.Coords) : k0_off27 i = ![2, 2 * pt i + 1] := by
  have := pt_lt i
  unfold k0_off27
  dsimp only
  rw [word_odd, Scalar.indexCast, wd32_nat (by simp only [pt] at *; omega)]

theorem less_one {n : ℕ} (h : n + 1 < 2 ^ 31) : Scalar.maxsi (Scalar.subi (wd32 (n + 1)) 1#32) 0#32 = wd32 n := by
  have h1 : Scalar.subi (wd32 (n + 1)) 1#32 = wd32 n := by
    change BitVec.ofNat 32 (n + 1) - 1#32 = BitVec.ofNat 32 n
    rw [BitVec.ofNat_add]; exact BitVec.add_sub_cancel _ _
  rw [h1]
  rcases Nat.eq_zero_or_pos n with h0 | h0
  · subst h0; rfl
  · have hs : (0#32).slt (wd32 n) = true := by
      rw [BitVec.slt, decide_eq_true_iff, wd32_int (n := n) (by omega)]; exact Int.natCast_pos.2 h0
    change (if (0#32).slt (wd32 n) then wd32 n else 0#32) = _
    rw [if_pos hs]

theorem off10_eq (i : grid0.Coords) : k0_off10 i = ![0, 2 * pt i - 1] := by
  have := pt_lt i
  unfold k0_off10
  dsimp only
  rw [word_even, Scalar.indexCast]
  rcases Nat.eq_zero_or_pos (i 0).val with h | h
  · simp only [pt, h]; rfl
  · obtain ⟨n, hn⟩ : ∃ n, 2 * (i 0).val = n + 1 := ⟨2 * (i 0).val - 1, by omega⟩
    simp only [pt] at *
    rw [hn, less_one (by omega), wd32_nat (by omega)]
    rfl

theorem off34_eq (i : grid0.Coords) : k0_off34 i = ![0, 2 * pt i] := by
  have := pt_lt i
  unfold k0_off34
  dsimp only
  rw [word_odd, Scalar.indexCast]
  simp only [pt] at *
  rw [less_one (by omega), wd32_nat (by omega)]

/-! ## The conditions -/

theorem in1_of {o : Fin 1 → ℕ} {w : Fin 2} (h : o = ![w.val]) : In1 o := h ▸ inb1 w
theorem in9_of {o : Fin 3 → ℕ} {w : Fin 2} (h : o = ![w.val, 0, 0]) : In9 o := h ▸ inb3 w
theorem in10_of {o : Fin 3 → ℕ} {w : Fin 2} (h : o = ![w.val, 0, 0]) : In10 o := h ▸ inb3' w
theorem inG_of {o : Fin 3 → ℕ} {e : Fin 32} (h : o = ![e.val, 0, 0]) : InG o := h ▸ inbe e
theorem inD_of {o : Fin 3 → ℕ} {e : Fin 32} (h : o = ![e.val, 0, 0]) : InD o := h ▸ inbe' e
theorem inb5 (e : Fin 32) : ∀ a, (![e.val, 0, 0] : Fin 3 → ℕ) a + S1x1x2048.size a ≤ S32x1x2048.size a := by revert e; decide
theorem inb7 (e : Fin 32) : ∀ a, (![e.val, 0, 0] : Fin 3 → ℕ) a + S1x1x1024.size a ≤ S32x1x1024.size a := by revert e; decide
theorem in5_of {o : Fin 3 → ℕ} {e : Fin 32} (h : o = ![e.val, 0, 0]) : ∀ a, o a + S1x1x2048.size a ≤ S32x1x2048.size a := h ▸ inb5 e
theorem in7_of {o : Fin 3 → ℕ} {e : Fin 32} (h : o = ![e.val, 0, 0]) : ∀ a, o a + S1x1x1024.size a ≤ S32x1x1024.size a := h ▸ inb7 e

/-- The next expert's word: minus one where there is none. -/
def nWord : Option (Fin 32) → BitVec 32
  | none => 4294967295#32
  | some n => wd32 n.val

theorem chk1_ok (i : grid0.Coords) (w : Fin 2) : k0_chk1 i (wd32 w.val) :=
  ⟨fun _ => in1_of (off4_eq w), fun _ => in9_of (off5_eq w), fun _ => in1_of (off7_eq w), fun _ => in10_of (off8_eq w)⟩
theorem chk2_ok (i : grid0.Coords) (e : Fin 32) : k0_chk2 i (wd32 e.val) := ⟨fun _ => inG_of (off6_eq e), fun _ => inD_of (off9_eq e)⟩
theorem chk5_ok (i : grid0.Coords) (w : Fin 2) : k0_chk5 i (wd32 w.val) :=
  ⟨fun _ => in1_of (off28_eq w), fun _ => in9_of (off29_eq w), fun _ => in1_of (off31_eq w), fun _ => in10_of (off32_eq w)⟩
theorem chk6_ok (i : grid0.Coords) (e : Fin 32) : k0_chk6 i (wd32 e.val) := ⟨fun _ => inG_of (off30_eq e), fun _ => inD_of (off33_eq e)⟩
theorem chk4_ok (i : grid0.Coords) (e : Fin 32) (N : BitVec 32) : k0_chk4 i (wd32 e.val) N := ⟨fun _ => in5_of (off23_eq e), fun _ => in7_of (off24_eq e)⟩
theorem chk8_ok (i : grid0.Coords) (e : Fin 32) (N : BitVec 32) : k0_chk8 i (wd32 e.val) N := ⟨fun _ => in5_of (off47_eq e), fun _ => in7_of (off48_eq e)⟩
theorem chk3_ok (i : grid0.Coords) (e : Fin 32) (w : Fin 2) (v : BitVec 32) : ∀ n : Option (Fin 32), k0_chk3 i (wd32 e.val) (nWord n) (wd32 w.val) v
  | none => ⟨fun _ => in1_of (off11_eq w), fun _ => in9_of (off12_eq w), fun _ => inG_of (off13_eq e), fun _ => in10_of (off14_eq w), fun _ => inD_of (off15_eq e), fun _ => in9_of (off16_eq w), fun _ => in10_of (off17_eq w),
      fun _ h => absurd h cond3_none, fun _ h => absurd h cond3_none, fun _ h => absurd h cond3_none, fun _ h => absurd h cond3_none, fun _ h => absurd h cond3_none⟩
  | some n => ⟨fun _ => in1_of (off11_eq w), fun _ => in9_of (off12_eq w), fun _ => inG_of (off13_eq e), fun _ => in10_of (off14_eq w), fun _ => inD_of (off15_eq e), fun _ => in9_of (off16_eq w), fun _ => in10_of (off17_eq w),
      fun _ _ => in1_of (off18_eq w), fun _ _ => in9_of (off19_eq w), fun _ _ => inG_of (off20_eq n), fun _ _ => in10_of (off21_eq w), fun _ _ => inD_of (off22_eq n)⟩
theorem chk7_ok (i : grid0.Coords) (e : Fin 32) (w : Fin 2) (v : BitVec 32) : ∀ n : Option (Fin 32), k0_chk7 i (wd32 e.val) (nWord n) (wd32 w.val) v
  | none => ⟨fun _ => in1_of (off35_eq w), fun _ => in9_of (off36_eq w), fun _ => inG_of (off37_eq e), fun _ => in10_of (off38_eq w), fun _ => inD_of (off39_eq e), fun _ => in9_of (off40_eq w), fun _ => in10_of (off41_eq w),
      fun _ h => absurd h cond8_none, fun _ h => absurd h cond8_none, fun _ h => absurd h cond8_none, fun _ h => absurd h cond8_none, fun _ h => absurd h cond8_none⟩
  | some n => ⟨fun _ => in1_of (off35_eq w), fun _ => in9_of (off36_eq w), fun _ => inG_of (off37_eq e), fun _ => in10_of (off38_eq w), fun _ => inD_of (off39_eq e), fun _ => in9_of (off40_eq w), fun _ => in10_of (off41_eq w),
      fun _ _ => in1_of (off42_eq w), fun _ _ => in9_of (off43_eq w), fun _ _ => inG_of (off44_eq n), fun _ _ => in10_of (off45_eq w), fun _ _ => inD_of (off46_eq n)⟩

end Cert.KernelIdeal.Moe
-- ==== Proof.MoeBlock.lean ====
/-
  What the copies' state is between blocks, and what one block takes and leaves.
-/
module

public import proofs.«01_k».proof.Proof.MoeOffs

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The schedule -/

/-- The blocks' experts, the experts that follow, and the halves they are staged in. -/
structure Plan where
  ex : ℕ → Fin 32
  nx : ℕ → Option (Fin 32)
  hf : ℕ → Fin 2
  nv : ℕ
  pos : 1 ≤ nv
  le : nv ≤ 304
  step : ∀ b, b + 1 < 304 → (ex (b + 1) = ex b ∧ nx (b + 1) = nx b ∧ hf (b + 1) = hf b) ∨ (ex (b + 1) ≠ ex b ∧ nx b = some (ex (b + 1)) ∧ hf (b + 1) = other (hf b))
  last : nx 303 = none

/-- A cell of the schedule's table. -/
def tIx (r : ℕ) (b : ℕ) (hr : r < 3) (hb : b < 304) : S3x304.Idx
  | 0 => ⟨r, hr⟩
  | 1 => ⟨b, hb⟩

/-- The one cell of the count. -/
def nIx : S1.Idx | 0 => ⟨0, by decide⟩

/-- The table and the count say what the plan says. -/
structure Fits (pl : Plan) (T : S3x304.Idx → BitVec 32) (N : S1.Idx → BitVec 32) : Prop where
  e : ∀ b (hb : b < 304), T (tIx 0 b (by decide) hb) = wd32 (pl.ex b).val
  n : ∀ b (hb : b < 304), T (tIx 1 b (by decide) hb) = nWord (pl.nx b)
  h : ∀ b (hb : b < 304), T (tIx 2 b (by decide) hb) = wd32 (pl.hf b).val
  v : N nIx = wd32 pl.nv

namespace Plan

variable (pl : Plan)

/-- The copies under way after block `b`. -/
def next (b : ℕ) : Option (Fin 2 × Fin 32) := (pl.nx b).map fun n => (other (pl.hf b), n)

/-- The copies under way before block `b`. -/
def before : ℕ → Option (Fin 2 × Fin 32)
  | 0 => none
  | b + 1 => pl.next b

theorem same {b : ℕ} (hb : b + 1 < 304) (h : pl.ex (b + 1) = pl.ex b) : pl.next b = pl.next (b + 1) := by
  rcases pl.step b hb with ⟨_, h2, h3⟩ | ⟨h1, _⟩
  · unfold next; rw [h2, h3]
  · exact absurd h h1

theorem moved {b : ℕ} (hb : b + 1 < 304) (h : pl.ex (b + 1) ≠ pl.ex b) : pl.next b = some (pl.hf (b + 1), pl.ex (b + 1)) := by
  rcases pl.step b hb with ⟨h1, _⟩ | ⟨_, h2, h3⟩
  · exact absurd h1 h
  · unfold next; rw [h2, h3]; rfl

end Plan

variable (c : Dev nD)

/-! ## Reading the schedule -/

theorem tab_read (o : Fin 2 → ℕ) (h : InT o) (r b : ℕ) (hr : r < 3) (hb : b < 304) (ho : o = ![r, b]) (x : S1x1.Idx) (T : Buf (Elt F) ((c : Thread nD τ).loc main_arg1)) :
    ((Memref.whole main_arg1).access (Rect.unit (s := S3x304) o S1x1.size h)).read (Elt F) T x = T (tIx r b hr hb) := by
  subst ho
  refine congrArg T (funext fun a => Fin.ext ?_)
  match a with
  | 0 => have := (x 0).isLt; show r + 1 * (x 0).val = r; have : (x 0).val < 1 := (x 0).isLt; omega
  | 1 => show b + 1 * (x 1).val = b; have : (x 1).val < 1 := (x 1).isLt; omega

theorem tab_spec {α : Type} (o : Fin 2 → ℕ) (h : InT o) (r b : ℕ) (hr : r < 3) (hb : b < 304) (ho : o = ![r, b]) (q) (T : Buf (Elt F) ((c : Thread nD τ).loc main_arg1))
    {k : BitVec 32 → BP F α} {Q : α → sProp 𝕄} :
    (((c : Thread nD τ).loc main_arg1 ↦{q} T) : sProp 𝕄) ⊢ iprop(((((c : Thread nD τ).loc main_arg1 ↦{q} T) : sProp 𝕄) -∗ wpB c (k (T (tIx r b hr hb))) Q) -∗ wpB c (tabP o h k) Q) := by
  iintro H Hk
  iapply (wp_smemLoadElt Variants.none (c : Thread nD τ) none Set.univ (m := Memref.whole main_arg1) (r := Rect.unit (s := S3x304) o S1x1.size h) (hw := View.loads_smem_one rfl numel1_S1x1) (x := Shape.Idx.first (numel1_S1x1.symm ▸ Nat.one_pos)) (k := k) (f := T) (S := Finset.univ) (Finset.subset_univ _)) $$ H
  rw [tab_read c o h r b hr hb ho]
  iexact Hk

theorem nv_spec {α : Type} (q) (N : Buf (Elt F) ((c : Thread nD τ).loc main_arg2))
    {k : BitVec 32 → BP F α} {Q : α → sProp 𝕄} :
    (((c : Thread nD τ).loc main_arg2 ↦{q} N) : sProp 𝕄) ⊢ iprop(((((c : Thread nD τ).loc main_arg2 ↦{q} N) : sProp 𝕄) -∗ wpB c (k (N nIx)) Q) -∗ wpB c (nvP k) Q) := by
  iintro H Hk
  iapply (wp_smemLoadElt Variants.none (c : Thread nD τ) none Set.univ (m := Memref.whole main_arg2) (r := Rect.unit (s := S1) ![0] S1.size inb_S1_S1_0) (hw := View.loads_smem_one rfl numel1_S1) (x := Shape.Idx.first (numel1_S1.symm ▸ Nat.one_pos)) (k := k) (f := N) (S := Finset.univ) (Finset.subset_univ _)) $$ H
  rw [show ∀ x, ((Memref.whole main_arg2).access (Rect.unit (s := S1) ![0] S1.size inb_S1_S1_0)).read (Elt F) N x = N nIx from fun x =>
    congrArg N (funext fun a => Fin.ext (by
      match a with
      | 0 => show 0 + 1 * (x 0).val = 0; have : (x 0).val < 1 := (x 0).isLt; omega))]
  iexact Hk

theorem rely_spec {α : Type} {P : Prop} {d : Decidable P} (hP : P) {k : P → BP F α} {Q : α → sProp 𝕄} : wpB c (k hP) Q ⊢ wpB c (relyP P d k) Q :=
  wp_assume Variants.none (c : Thread nD τ) none Set.univ (k := fun h => k h.down) hP

theorem join_spec {α : Type} {b : BitVec 1} {t : b = 1#1 → BP F PUnit} {K : BP F α} {Q : α → sProp 𝕄} (P R : sProp 𝕄)
    (h1 : ∀ h, P ⊢ wpB c (t h) (fun _ => R)) (h0 : b ≠ 1#1 → P ⊢ R) : P ⊢ iprop((R -∗ wpB c K Q) -∗ wpB c (joinP b t K) Q) := by
  unfold joinP
  by_cases h : b = 1#1
  · rw [dif_pos h]
    iintro HP Hk
    iapply (seq c (k := fun _ => K) (h1 h)) $$ HP
    iintro %_ HR
    iapply Hk; iexact HR
  · rw [dif_neg h]
    iintro HP Hk
    iapply Hk
    iapply (h0 h); iexact HP

/-! ## The copies' state -/

variable (W1 : Buf (Elt F) ((c : Thread nD τ).loc main_arg3)) (W2 : Buf (Elt F) ((c : Thread nD τ).loc main_arg5))

/-- A staging half at rest. -/
def Slot (w : Fin 2) : sProp 𝕄 := iprop((∃ f9, H9 (F := F) c w f9) ∗ (∃ f10, H10 (F := F) c w f10) ∗ Sm (F := F) c w)

/-- Both arrays of weights. -/
def Wts : sProp 𝕄 := iprop(((c : Thread nD τ).loc main_arg3 ↦{fullShare} W1) ∗ ((c : Thread nD τ).loc main_arg5 ↦{fullShare} W2))

/-- The weights of the other experts. -/
def Rest (e : Fin 32) : sProp 𝕄 := iprop(((c : Thread nD τ).loc main_arg3 ↦[Finset.univ \ (g3 e).view.set]{fullShare} W1) ∗ ((c : Thread nD τ).loc main_arg5 ↦[Finset.univ \ (g5 e).view.set]{fullShare} W2))

/-- The copies' state: none under way, or one expert's two into one half. -/
def St : Option (Fin 2 × Fin 32) → sProp 𝕄
  | none => iprop(Slot (F := F) c 0 ∗ Slot (F := F) c 1 ∗ Wts c W1 W2)
  | some (w, e) => iprop((∃ f9 f10, Fly c W1 W2 w e f9 f10 2 0) ∗ Slot (F := F) c (other w) ∗ Rest c W1 W2 e)

theorem wts_open (e : Fin 32) : Wts c W1 W2 ⊢ iprop(G3 c W1 e ∗ G5 c W2 e ∗ Rest c W1 W2 e) := by
  unfold Wts Rest G3 G5
  iintro ⟨H1, H2⟩
  ihave ⟨A1, B1⟩ := (pointsTo_split_subset (Finset.subset_univ (g3 e).view.set)).1 $$ H1
  ihave ⟨A2, B2⟩ := (pointsTo_split_subset (Finset.subset_univ (g5 e).view.set)).1 $$ H2
  isplitl [A1]; · iexact A1
  isplitl [A2]; · iexact A2
  isplitl [B1]; · iexact B1
  iexact B2

theorem wts_close (e : Fin 32) : iprop(G3 c W1 e ∗ G5 c W2 e ∗ Rest c W1 W2 e) ⊢ Wts c W1 W2 := by
  unfold Wts Rest G3 G5
  iintro ⟨A1, A2, B1, B2⟩
  isplitl [A1 B1]
  · iapply (pointsTo_split_subset (Finset.subset_univ (g3 e).view.set)).2
    isplitl [A1]; · iexact A1
    iexact B1
  · iapply (pointsTo_split_subset (Finset.subset_univ (g5 e).view.set)).2
    isplitl [A2]; · iexact A2
    iexact B2

theorem slots_open : ∀ w : Fin 2, iprop(Slot (F := F) c 0 ∗ Slot (F := F) c 1) ⊢ iprop(Slot (F := F) c w ∗ Slot (F := F) c (other w))
  | 0 => .rfl
  | 1 => Laws.sep_comm.1

theorem slots_close : ∀ w : Fin 2, iprop(Slot (F := F) c w ∗ Slot (F := F) c (other w)) ⊢ iprop(Slot (F := F) c 0 ∗ Slot (F := F) c 1)
  | 0 => .rfl
  | 1 => Laws.sep_comm.1

/-- Starting an expert's copies, from rest. -/
theorem start_spec (w : Fin 2) (e : Fin 32) {o1 h1 o2 h2 o3 h3 o4 h4 o5 h5 o6 h6}
    (e1 : o1 = ![w.val]) (e2 : o2 = ![w.val, 0, 0]) (e3 : o3 = ![e.val, 0, 0]) (e4 : o4 = ![w.val]) (e5 : o5 = ![w.val, 0, 0]) (e6 : o6 = ![e.val, 0, 0]) :
    St c W1 W2 none ⊢ wpB c (issueP (F := F) o1 h1 o2 h2 o3 h3 o4 h4 o5 h5 o6 h6) (fun _ => St c W1 W2 (some (w, e))) := by
  unfold St
  iintro ⟨S0, S1, HW⟩
  ihave ⟨Sw, So⟩ := (slots_open (F := F) c w) $$ [S0 S1]
  · isplitl [S0]; · iexact S0
    iexact S1
  ihave ⟨A3, A5, HR⟩ := (wts_open c W1 W2 e) $$ HW
  unfold Slot
  icases Sw with ⟨⟨%f9, S9⟩, ⟨%f10, S10⟩, Ss⟩
  iapply (wp_wand _ _ _) $$ [S9 S10 Ss A3 A5]
  · iapply (issue_spec c W1 W2 w e f9 f10 e1 e2 e3 e4 e5 e6)
    isplitl [S9]; · iexact S9
    isplitl [S10]; · iexact S10
    isplitl [A3]; · iexact A3
    isplitl [A5]; · iexact A5
    iexact Ss
  iintro %_ HF
  isplitl [HF]
  · iexists f9; iexists f10; iexact HF
  isplitl [So]; · iexact So
  iexact HR

/-- Taking an expert's weights into use. -/
theorem finish_spec (w : Fin 2) (e : Fin 32) {o1 h1 o2 h2 o3 h3 o5 h5 o6 h6 o7 h7 o8 h8} {P1 P2} (x1 x2)
    (e1 : o1 = ![w.val]) (e2 : o2 = ![w.val, 0, 0]) (e3 : o3 = ![e.val, 0, 0]) (e5 : o5 = ![w.val, 0, 0]) (e6 : o6 = ![e.val, 0, 0])
    (e7 : o7 = ![w.val, 0, 0]) (e8 : o8 = ![w.val, 0, 0]) :
    iprop(St c W1 W2 (some (w, e)) ∗ Owe (F := F) c ∗ Use c x1 x2)
    ⊢ wpB c (takeP (F := F) o1 h1 o2 h2 o3 h3 o5 h5 o6 h6 o7 h7 o8 h8 P1 P2) (fun _ =>
      iprop(St c W1 W2 none ∗ Owe (F := F) c ∗ Use c (P1 (slab1 c W1 e)) (P2 (slab2 c W2 e)))) := by
  unfold St
  iintro ⟨⟨⟨%f9, %f10, HF⟩, So, HR⟩, HO, HU⟩
  iapply (wp_wand _ _ _) $$ [HF HO HU]
  · iapply (take_spec c W1 W2 w e f9 f10 x1 x2 e1 e2 e3 e5 e6 e7 e8)
    isplitl [HF]; · iexact HF
    isplitl [HO]; · iexact HO
    iexact HU
  iintro %_ ⟨S9, S10, A3, A5, Ss, HO, HU⟩
  isplitl [S9 S10 A3 A5 Ss So HR]
  · ihave ⟨S0, S1⟩ := (slots_close (F := F) c w) $$ [S9 S10 Ss So]
    · isplitl [S9 S10 Ss]
      · unfold Slot
        isplitl [S9]; · iexists _; iexact S9
        isplitl [S10]; · iexists _; iexact S10
        iexact Ss
      iexact So
    isplitl [S0]; · iexact S0
    isplitl [S1]; · iexact S1
    iapply (wts_close c W1 W2 e)
    isplitl [A3]; · iexact A3
    isplitl [A5]; · iexact A5
    iexact HR
  isplitl [HO]; · iexact HO
  iexact HU

end Cert.KernelIdeal.Moe
-- ==== Proof.MoeStep.lean ====
/-
  What one block of the kernel takes and leaves, and what a whole step does.
-/
module

public import proofs.«01_k».proof.Proof.MoeBlock

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

theorem pass_spec {α : Type} {b : BitVec 1} {t : b = 1#1 → BP F α → BP F α} {K : BP F α} {Q : α → sProp 𝕄} (P R : sProp 𝕄)
    (h1 : ∀ h, P ⊢ iprop((R -∗ wpB c K Q) -∗ wpB c (t h K) Q)) (h0 : b ≠ 1#1 → P ⊢ R) : P ⊢ iprop((R -∗ wpB c K Q) -∗ wpB c (passP b t K) Q) := by
  unfold passP
  by_cases h : b = 1#1
  · rw [dif_pos h]; exact h1 h
  · rw [dif_neg h]
    iintro HP Hk
    iapply Hk
    iapply (h0 h); iexact HP

variable (W1 : Buf (Elt F) ((c : Thread nD τ).loc main_arg3)) (W2 : Buf (Elt F) ((c : Thread nD τ).loc main_arg5))

/-- One expert's rounded weights. -/
def use1 (e : Fin 32) : Vec F S1024x2048 .bf16 := k0_pay30 (slab1 c W1 e)
def use2 (e : Fin 32) : Vec F S1024x1024 .bf16 := k0_pay31 (slab2 c W2 e)

/-- The matrices in use before block `b`: the last block's expert's. -/
def UseB (pl : Plan) : ℕ → sProp 𝕄
  | 0 => iprop(∃ x1 x2, Use (F := F) c x1 x2)
  | b + 1 => Use c (use1 c W1 (pl.ex b)) (use2 c W2 (pl.ex b))

/-! ## The swap -/

theorem swapA_spec {α : Type} (i : grid0.Coords) (e : Fin 32) (w : Fin 2) (v : BitVec 32) (x1 x2) {K : BP F α} {Q : α → sProp 𝕄} : ∀ (n : Option (Fin 32)) (h3 : k0_chk3 i (wd32 e.val) (nWord n) (wd32 w.val) v) (h : k0_cond2 i (wd32 e.val) v = 1#1),
    iprop(St c W1 W2 (some (w, e)) ∗ Owe (F := F) c ∗ Use c x1 x2)
    ⊢ iprop((iprop(St c W1 W2 (n.map fun n => (other w, n)) ∗ Owe (F := F) c ∗ Use c (use1 c W1 e) (use2 c W2 e)) -∗ wpB c K Q) -∗ wpB c (swapA i (wd32 e.val) (nWord n) (wd32 w.val) v h3 h K) Q)
  | none, h3, h => by
    iintro HP Hk
    iapply (seq c (finish_spec c W1 W2 w e x1 x2 (off11_eq w) (off12_eq w) (off13_eq e) (off14_eq w) (off15_eq e) (off16_eq w) (off17_eq w))) $$ HP
    iintro %_ HP
    iapply (join_spec c _ _ (fun h => absurd h cond3_none) (fun _ => .rfl)) $$ HP
    iexact Hk
  | some n, h3, h => by
    iintro HP Hk
    iapply (seq c (finish_spec c W1 W2 w e x1 x2 (off11_eq w) (off12_eq w) (off13_eq e) (off14_eq w) (off15_eq e) (off16_eq w) (off17_eq w))) $$ HP
    iintro %_ ⟨HS, HO, HU⟩
    iapply (join_spec c (St c W1 W2 none) (St c W1 W2 (some (other w, n)))
      (fun h' => start_spec c W1 W2 (other w) n (off18_eq w) (off19_eq w) (off20_eq n) (off18_eq w) (off21_eq w) (off22_eq n))
      (fun h' => absurd (cond3_some n) h')) $$ HS
    iintro HS
    iapply Hk
    isplitl [HS]; · iexact HS
    isplitl [HO]; · iexact HO
    iexact HU

theorem swapB_spec {α : Type} (i : grid0.Coords) (e : Fin 32) (w : Fin 2) (v : BitVec 32) (x1 x2) {K : BP F α} {Q : α → sProp 𝕄} : ∀ (n : Option (Fin 32)) (h3 : k0_chk7 i (wd32 e.val) (nWord n) (wd32 w.val) v) (h : k0_cond7 i (wd32 e.val) v = 1#1),
    iprop(St c W1 W2 (some (w, e)) ∗ Owe (F := F) c ∗ Use c x1 x2)
    ⊢ iprop((iprop(St c W1 W2 (n.map fun n => (other w, n)) ∗ Owe (F := F) c ∗ Use c (use1 c W1 e) (use2 c W2 e)) -∗ wpB c K Q) -∗ wpB c (swapB i (wd32 e.val) (nWord n) (wd32 w.val) v h3 h K) Q)
  | none, h3, h => by
    iintro HP Hk
    iapply (seq c (finish_spec c W1 W2 w e x1 x2 (off35_eq w) (off36_eq w) (off37_eq e) (off38_eq w) (off39_eq e) (off40_eq w) (off41_eq w))) $$ HP
    iintro %_ HP
    iapply (join_spec c _ _ (fun h => absurd h cond8_none) (fun _ => .rfl)) $$ HP
    iexact Hk
  | some n, h3, h => by
    iintro HP Hk
    iapply (seq c (finish_spec c W1 W2 w e x1 x2 (off35_eq w) (off36_eq w) (off37_eq e) (off38_eq w) (off39_eq e) (off40_eq w) (off41_eq w))) $$ HP
    iintro %_ ⟨HS, HO, HU⟩
    iapply (join_spec c (St c W1 W2 none) (St c W1 W2 (some (other w, n)))
      (fun h' => start_spec c W1 W2 (other w) n (off42_eq w) (off43_eq w) (off44_eq n) (off42_eq w) (off45_eq w) (off46_eq n))
      (fun h' => absurd (cond8_some n) h')) $$ HS
    iintro HS
    iapply Hk
    isplitl [HS]; · iexact HS
    isplitl [HO]; · iexact HO
    iexact HU

/-! ## What a block writes -/

/-- A cell's place in its strided rows. -/
def rowIx (b : ℕ) (y : S4096x128.Idx) : S256x128.Idx
  | 0 => ⟨((y 0).val - b) / 8 % 256, Nat.mod_lt _ (by decide)⟩
  | 1 => ⟨(y 1).val, (y 1).isLt⟩

/-- Which strided rows a cell is in. -/
def rowJ (b : ℕ) (y : S4096x128.Idx) : Fin 8 := ⟨((y 0).val - b) % 8, Nat.mod_lt _ (by decide)⟩

theorem rows_emb (b : ℕ) (hb : b ≤ 2048) (y : S4096x128.Idx) (h1 : b ≤ (y 0).val) (h2 : (y 0).val < b + 2048) :
    (rowsR b (rowJ b y) (inR b hb _)).emb (rowIx b y) = y := by
  funext a
  apply Fin.ext
  match a with
  | 0 =>
    show b + ((y 0).val - b) % 8 + 8 * (((y 0).val - b) / 8 % 256) = (y 0).val
    omega
  | 1 => show 0 + 1 * (y 1).val = (y 1).val; omega

theorem rows_range (b : ℕ) (hb : b ≤ 2048) (j : Fin 8) (x : S256x128.Idx) :
    b ≤ ((rowsR b j (inR b hb j)).emb x 0).val ∧ ((rowsR b j (inR b hb j)).emb x 0).val < b + 2048 := by
  show b ≤ b + j.val + 8 * (x 0).val ∧ b + j.val + 8 * (x 0).val < b + 2048
  have := j.isLt; have : (x 0).val < 256 := (x 0).isLt
  omega

/-- The half of the output block a block writes, and that it writes nothing else. -/
def Wrote (b : ℕ) (g X X' : S4096x128.Idx → Elt F .f32) : Prop :=
  (∀ y, b ≤ (y 0).val → (y 0).val < b + 2048 → X' y = g y) ∧ ∀ y, ¬ (b ≤ (y 0).val ∧ (y 0).val < b + 2048) → X' y = X y

/-- What a block's cells come to: its product, or zero past the valid blocks. -/
def blkOut (pl : Plan) (b : ℕ) (hb : b ≤ 2048) (k : ℕ) (X3 : S4096x128.Idx → Elt F .f32) (X5 : S32x1x2048.Idx → Elt F .f32) (X7 : S32x1x1024.Idx → Elt F .f32) (y : S4096x128.Idx) : Elt F .f32 :=
  if k < pl.nv then colOf (blockRes b (inR b hb) (pl.ex k) (inb5 _) (inb7 _) X3 X5 X7 (use1 c W1 (pl.ex k)) (use2 c W2 (pl.ex k))) (rowJ b y) (rowIx b y)
  else Scalar.ofBits .f32 0x00000000#32

section Piece

variable (pl : Plan) (k : ℕ) (a3 : Memref sig .tc .vmem S4096x128 .f32) (a5 : Memref sig .tc .vmem S32x1x2048 .f32) (a7 : Memref sig .tc .vmem S32x1x1024 .f32) (a8 : Memref sig .tc .vmem S4096x128 .f32)
variable (X3 : S4096x128.Idx → Elt F .f32) (X5 : S32x1x2048.Idx → Elt F .f32) (X7 : S32x1x1024.Idx → Elt F .f32)

/-- The blocks a step reads. -/
def Ins : sProp 𝕄 := iprop(owns (c : Thread nD τ) a3 fullShare X3 ∗ owns (c : Thread nD τ) a5 fullShare X5 ∗ owns (c : Thread nD τ) a7 fullShare X7)

/-- The output block, half written. -/
def Half (b : ℕ) (hb : b ≤ 2048) (X : S4096x128.Idx → Elt F .f32) : sProp 𝕄 :=
  iprop(∃ X', ⌜if k < pl.nv then Wrote b (blkOut c W1 W2 pl b hb k X3 X5 X7) X X' else X' = X⌝ ∗ owns (c : Thread nD τ) a8 fullShare X')

/-- The output block after a block. -/
def Done (b : ℕ) (hb : b ≤ 2048) (X : S4096x128.Idx → Elt F .f32) : sProp 𝕄 :=
  iprop(∃ X', ⌜Wrote b (blkOut c W1 W2 pl b hb k X3 X5 X7) X X'⌝ ∗ owns (c : Thread nD τ) a8 fullShare X')

theorem comp_piece (b : ℕ) (hb : b ≤ 2048) (hk : k < pl.nv) {o5 h5 o7 h7} (e5 : o5 = ![(pl.ex k).val, 0, 0]) (e7 : o7 = ![(pl.ex k).val, 0, 0]) (X) :
    iprop(Ins c a3 a5 a7 X3 X5 X7 ∗ UseB c W1 W2 pl (k + 1) ∗ owns (c : Thread nD τ) a8 fullShare X)
    ⊢ wpB c (compP a3 a5 a7 a8 b (inR b hb) o5 h5 o7 h7) (fun _ => iprop(Ins c a3 a5 a7 X3 X5 X7 ∗ UseB c W1 W2 pl (k + 1) ∗ Half c W1 W2 pl k a8 X3 X5 X7 b hb X)) := by
  unfold Ins UseB Half
  iintro ⟨⟨A3, A5, A7⟩, HU, A8⟩
  iapply (wp_wand _ _ _) $$ [A3 A5 A7 HU A8]
  · iapply (comp_spec c a3 a5 a7 a8 b (inR b hb) (pl.ex k) o5 h5 o7 h7 e5 e7 X3 X5 X7 _ _ X)
    isplitl [A3]; · iexact A3
    isplitl [A5]; · iexact A5
    isplitl [A7]; · iexact A7
    isplitl [HU]; · iexact HU
    iexact A8
  iintro %_ ⟨A3, A5, A7, HU, %X', %hX, A8⟩
  isplitl [A3 A5 A7]
  · isplitl [A3]; · iexact A3
    isplitl [A5]; · iexact A5
    iexact A7
  isplitl [HU]; · iexact HU
  iexists X'
  isplitr
  · ipureintro
    rw [if_pos hk]
    refine ⟨fun y h1 h2 => ?_, fun y hy => hX.2 y fun j x he => hy (he ▸ rows_range b hb j x)⟩
    have := hX.1 (rowJ b y) (rowIx b y)
    rw [rows_emb b hb y h1 h2] at this
    rw [this]
    unfold blkOut
    rw [if_pos hk]
  iexact A8

theorem zero_piece (b : ℕ) (hb : b ≤ 2048) (hk : ¬ k < pl.nv) {hz} (X) :
    iprop(Half c W1 W2 pl k a8 X3 X5 X7 b hb X) ⊢ wpB c (zeroP (F := F) a8 b hz) (fun _ => Done c W1 W2 pl k a8 X3 X5 X7 b hb X) := by
  unfold Half Done
  iintro ⟨%X1, %h1, A8⟩
  rw [if_neg hk] at h1
  subst h1
  iapply (wp_wand _ _ _) $$ [A8]
  · iapply (zero_spec c a8 b hz X1); iexact A8
  iintro %_ ⟨%X', %hX, A8⟩
  iexists X'
  isplitr
  · ipureintro
    refine ⟨fun y h1 h2 => ?_, fun y hy => hX.2 y fun x he => hy ?_⟩
    · have := hX.1 (fun | 0 => ⟨(y 0).val - b, by show _ < 2048; omega⟩ | 1 => ⟨(y 1).val, (y 1).isLt⟩)
      unfold blkOut
      rw [if_neg hk]
      refine Eq.trans (congrArg X' (funext fun a => Fin.ext ?_)) this
      match a with
      | 0 => show (y 0).val = b + 1 * ((y 0).val - b); omega
      | 1 => show (y 1).val = 0 + 1 * (y 1).val; omega
    · rw [he]
      show b ≤ b + 1 * (x 0).val ∧ b + 1 * (x 0).val < b + 2048
      have : (x 0).val < 2048 := (x 0).isLt
      omega
  iexact A8

theorem half_skip (b : ℕ) (hb : b ≤ 2048) (hk : ¬ k < pl.nv) (X) : owns (c : Thread nD τ) a8 fullShare X ⊢ Half c W1 W2 pl k a8 X3 X5 X7 b hb X := by
  unfold Half
  iintro A8
  iexists X
  isplitr
  · ipureintro; rw [if_neg hk]
  iexact A8

theorem done_skip (b : ℕ) (hb : b ≤ 2048) (hk : k < pl.nv) (X) : Half c W1 W2 pl k a8 X3 X5 X7 b hb X ⊢ Done c W1 W2 pl k a8 X3 X5 X7 b hb X := by
  unfold Half Done
  iintro ⟨%X1, %h1, A8⟩
  iexists X1
  isplitr
  · ipureintro; rwa [if_pos hk] at h1
  iexact A8

end Piece

theorem le0 : 0 ≤ 2048 := by decide
theorem le2048 : 2048 ≤ 2048 := le_rfl

/-! ## One block -/

section Blk

variable (pl : Plan) (q : PosShare TreeShare) (T : Buf (Elt F) ((c : Thread nD τ).loc main_arg1)) (N : Buf (Elt F) ((c : Thread nD τ).loc main_arg2))

/-- The schedule and the count, held. -/
def Tabs : sProp 𝕄 := iprop(((c : Thread nD τ).loc main_arg1 ↦{q} T) ∗ ((c : Thread nD τ).loc main_arg2 ↦{q} N))

/-- What is carried from block to block. -/
def Carry (k : ℕ) : sProp 𝕄 := iprop(St c W1 W2 (pl.before k) ∗ Owe (F := F) c ∗ UseB c W1 W2 pl k)

/-- The copies' state when block `k` decides on its swap. -/
def armed (k : ℕ) : Option (Fin 2 × Fin 32) := if k = 0 then some (pl.hf 0, pl.ex 0) else pl.before k

theorem armed_changed (k : ℕ) (hk : k < 304) (h : k = 0 ∨ pl.ex k ≠ pl.ex (k - 1)) : armed pl k = some (pl.hf k, pl.ex k) := by
  unfold armed
  match k with
  | 0 => rfl
  | k + 1 => exact (if_neg (Nat.succ_ne_zero k)).trans (pl.moved hk (h.resolve_left (Nat.succ_ne_zero k)))

theorem armed_same (k : ℕ) (hk : k < 304) (h : ¬ (k = 0 ∨ pl.ex k ≠ pl.ex (k - 1))) : armed pl k = pl.next k ∧ 0 < k ∧ pl.ex (k - 1) = pl.ex k := by
  unfold armed
  match k with
  | 0 => exact absurd (Or.inl rfl) h
  | k + 1 =>
    have he : pl.ex (k + 1) = pl.ex k := by by_contra hh; exact h (Or.inr hh)
    exact ⟨(if_neg (Nat.succ_ne_zero k)).trans (pl.same hk he), Nat.succ_pos k, he.symm⟩

theorem useB_any (k : ℕ) : UseB c W1 W2 pl k ⊢ iprop(∃ x1 x2, Use (F := F) c x1 x2) := by
  match k with
  | 0 => exact .rfl
  | k + 1 =>
    unfold UseB
    iintro H
    iexists _; iexists _; iexact H

theorem carry_same (k : ℕ) (hk : k < 304) (h : ¬ (k = 0 ∨ pl.ex k ≠ pl.ex (k - 1))) :
    iprop(St c W1 W2 (armed pl k) ∗ Owe (F := F) c ∗ UseB c W1 W2 pl k) ⊢ Carry c W1 W2 pl (k + 1) := by
  obtain ⟨h1, h2, h3⟩ := armed_same pl k hk h
  obtain ⟨n, rfl⟩ : ∃ n, k = n + 1 := ⟨k - 1, by omega⟩
  rw [h1]
  have h4 : pl.ex n = pl.ex (n + 1) := h3
  show iprop(St c W1 W2 (pl.next (n + 1)) ∗ Owe (F := F) c ∗ Use c (use1 c W1 (pl.ex n)) (use2 c W2 (pl.ex n)))
    ⊢ iprop(St c W1 W2 (pl.next (n + 1)) ∗ Owe (F := F) c ∗ Use c (use1 c W1 (pl.ex (n + 1))) (use2 c W2 (pl.ex (n + 1))))
  rw [h4]

theorem third_mono {A B C D : sProp 𝕄} (h : C ⊢ D) : iprop(A ∗ B ∗ C) ⊢ iprop(A ∗ B ∗ D) := by
  iintro ⟨HA, HB, HC⟩
  isplitl [HA]; · iexact HA
  isplitl [HB]; · iexact HB
  iapply h; iexact HC

theorem blockA_spec {α : Type} (i : grid0.Coords) (hf : Fits pl T N) (a3 a5 a7 a8) (X3 X5 X7 X) {K : BP F α} {Q : α → sProp 𝕄} :
    iprop(Tabs c q T N ∗ Carry c W1 W2 pl (2 * pt i) ∗ Ins c a3 a5 a7 X3 X5 X7 ∗ owns (c : Thread nD τ) a8 fullShare X)
    ⊢ iprop((iprop(Tabs c q T N ∗ Carry c W1 W2 pl (2 * pt i + 1) ∗ Ins c a3 a5 a7 X3 X5 X7 ∗ Done c W1 W2 pl (2 * pt i) a8 X3 X5 X7 0 le0 X) -∗ wpB c K Q)
      -∗ wpB c (blockA (F := F) i a3 a5 a7 a8 (wd32 (pl.ex (2 * pt i)).val) K) Q) := by
  have hp := pt_lt i
  have hk : 2 * pt i < 304 := by omega
  unfold Tabs Carry blockA
  iintro ⟨⟨HT, HN⟩, ⟨HS, HO, HU⟩, HI, A8⟩ Hk
  iapply (rely_spec c (chk2_ok i (pl.ex (2 * pt i))))
  iapply (tab_spec c _ _ 1 (2 * pt i) (by decide) hk (off2_eq i) q T) $$ HT
  iintro HT
  rw [hf.n _ hk]
  iapply (tab_spec c _ _ 2 (2 * pt i) (by decide) hk (off3_eq i) q T) $$ HT
  iintro HT
  rw [hf.h _ hk]
  iapply (rely_spec c (chk1_ok i (pl.hf (2 * pt i))))
  iapply (join_spec c (St c W1 W2 (pl.before (2 * pt i))) (St c W1 W2 (armed pl (2 * pt i)))
    (fun h => by
      have h0 : pt i = 0 := (cond1_iff i).1 h
      rw [h0]
      exact start_spec c W1 W2 (pl.hf 0) (pl.ex 0) (off4_eq _) (off5_eq _) (off6_eq _) (off7_eq _) (off8_eq _) (off9_eq _))
    (fun h => by
      have h0 : 2 * pt i ≠ 0 := fun h0 => h ((cond1_iff i).2 (by omega))
      unfold armed
      rw [if_neg h0])) $$ HS
  iintro HS
  iapply (tab_spec c _ _ 0 (2 * pt i - 1) (by decide) (by omega) (off10_eq i) q T) $$ HT
  iintro HT
  rw [hf.e _ (by omega)]
  iapply (rely_spec c (chk3_ok i (pl.ex (2 * pt i)) (pl.hf (2 * pt i)) _ (pl.nx (2 * pt i))))
  iapply (pass_spec c iprop(St c W1 W2 (armed pl (2 * pt i)) ∗ Owe (F := F) c ∗ UseB c W1 W2 pl (2 * pt i)) (Carry c W1 W2 pl (2 * pt i + 1)) (fun h => ?swap)
    (fun h => carry_same c W1 W2 pl (2 * pt i) hk (fun hh => h ((cond2_iff i _ _).2 (hh.imp_left (fun h => by omega)))))) $$ [HS HO HU]
  case swap =>
    rw [armed_changed pl (2 * pt i) hk (((cond2_iff i _ _).1 h).imp_left (fun h => by omega))]
    iintro ⟨HS, HO, HU⟩ Hk
    ihave ⟨%x1, %x2, HU⟩ := (useB_any c W1 W2 pl (2 * pt i)) $$ HU
    iapply (swapA_spec c W1 W2 i (pl.ex (2 * pt i)) (pl.hf (2 * pt i)) _ x1 x2 (pl.nx (2 * pt i)) _ h) $$ [HS HO HU]
    · isplitl [HS]; · iexact HS
      isplitl [HO]; · iexact HO
      iexact HU
    unfold Carry UseB
    iexact Hk
  · isplitl [HS]; · iexact HS
    isplitl [HO]; · iexact HO
    iexact HU
  iintro HC
  unfold Carry
  icases HC with ⟨HS, HO, HU⟩
  iapply (nv_spec c q N) $$ HN
  iintro HN
  rw [hf.v]
  iapply (rely_spec c (chk4_ok i (pl.ex (2 * pt i)) _))
  iapply (join_spec c iprop(Ins c a3 a5 a7 X3 X5 X7 ∗ UseB c W1 W2 pl (2 * pt i + 1) ∗ owns (c : Thread nD τ) a8 fullShare X)
    iprop(Ins c a3 a5 a7 X3 X5 X7 ∗ UseB c W1 W2 pl (2 * pt i + 1) ∗ Half c W1 W2 pl (2 * pt i) a8 X3 X5 X7 0 le0 X)
    (fun h => comp_piece c W1 W2 pl (2 * pt i) a3 a5 a7 a8 X3 X5 X7 0 le0 ((cond4_iff i pl.nv pl.le).1 h) (off23_eq _) (off24_eq _) X)
    (fun h => third_mono (half_skip c W1 W2 pl (2 * pt i) a8 X3 X5 X7 0 le0 (fun hh => h ((cond4_iff i pl.nv pl.le).2 hh)) X))) $$ [HI HU A8]
  · isplitl [HI]; · iexact HI
    isplitl [HU]; · iexact HU
    iexact A8
  iintro ⟨HI, HU, HH⟩
  iapply (nv_spec c q N) $$ HN
  iintro HN
  rw [hf.v]
  iapply (join_spec c (Half c W1 W2 pl (2 * pt i) a8 X3 X5 X7 0 le0 X) (Done c W1 W2 pl (2 * pt i) a8 X3 X5 X7 0 le0 X)
    (fun h => zero_piece c W1 W2 pl (2 * pt i) a8 X3 X5 X7 0 le0 ((cond5_iff i pl.nv pl.le).1 h) X)
    (fun h => done_skip c W1 W2 pl (2 * pt i) a8 X3 X5 X7 0 le0 (Decidable.byContradiction fun hh => h ((cond5_iff i pl.nv pl.le).2 hh)) X)) $$ HH
  iintro HD
  iapply Hk
  isplitl [HT HN]
  · isplitl [HT]; · iexact HT
    iexact HN
  isplitl [HS HO HU]
  · isplitl [HS]; · iexact HS
    isplitl [HO]; · iexact HO
    iexact HU
  isplitl [HI]; · iexact HI
  iexact HD

theorem blockB_spec {α : Type} (i : grid0.Coords) (hf : Fits pl T N) (a3 a5 a7 a8) (X3 X5 X7 X) {K : BP F α} {Q : α → sProp 𝕄} :
    iprop(Tabs c q T N ∗ Carry c W1 W2 pl (2 * pt i + 1) ∗ Ins c a3 a5 a7 X3 X5 X7 ∗ owns (c : Thread nD τ) a8 fullShare X)
    ⊢ iprop((iprop(Tabs c q T N ∗ Carry c W1 W2 pl (2 * pt i + 1 + 1) ∗ Ins c a3 a5 a7 X3 X5 X7 ∗ Done c W1 W2 pl (2 * pt i + 1) a8 X3 X5 X7 2048 le2048 X) -∗ wpB c K Q)
      -∗ wpB c (blockB (F := F) i a3 a5 a7 a8 (wd32 (pl.ex (2 * pt i + 1)).val) K) Q) := by
  have hp := pt_lt i
  have hk : 2 * pt i + 1 < 304 := by omega
  unfold Tabs Carry blockB
  iintro ⟨⟨HT, HN⟩, ⟨HS, HO, HU⟩, HI, A8⟩ Hk
  iapply (rely_spec c (chk6_ok i (pl.ex (2 * pt i + 1))))
  iapply (tab_spec c _ _ 1 (2 * pt i + 1) (by decide) hk (off26_eq i) q T) $$ HT
  iintro HT
  rw [hf.n _ hk]
  iapply (tab_spec c _ _ 2 (2 * pt i + 1) (by decide) hk (off27_eq i) q T) $$ HT
  iintro HT
  rw [hf.h _ hk]
  iapply (rely_spec c (chk5_ok i (pl.hf (2 * pt i + 1))))
  iapply (join_spec c (St c W1 W2 (pl.before (2 * pt i + 1))) (St c W1 W2 (armed pl (2 * pt i + 1))) (fun h => absurd h (cond6_not i))
    (fun h => by
      unfold armed
      rw [if_neg (Nat.succ_ne_zero _)])) $$ HS
  iintro HS
  iapply (tab_spec c _ _ 0 (2 * pt i + 1 - 1) (by decide) (by omega) (off34_eq i) q T) $$ HT
  iintro HT
  rw [hf.e _ (by omega)]
  iapply (rely_spec c (chk7_ok i (pl.ex (2 * pt i + 1)) (pl.hf (2 * pt i + 1)) _ (pl.nx (2 * pt i + 1))))
  iapply (pass_spec c iprop(St c W1 W2 (armed pl (2 * pt i + 1)) ∗ Owe (F := F) c ∗ UseB c W1 W2 pl (2 * pt i + 1)) (Carry c W1 W2 pl (2 * pt i + 1 + 1)) (fun h => ?swap)
    (fun h => carry_same c W1 W2 pl (2 * pt i + 1) hk (fun hh => h ((cond7_iff i _ _).2 (hh.resolve_left (by omega)))))) $$ [HS HO HU]
  case swap =>
    rw [armed_changed pl (2 * pt i + 1) hk (Or.inr ((cond7_iff i _ _).1 h))]
    iintro ⟨HS, HO, HU⟩ Hk
    ihave ⟨%x1, %x2, HU⟩ := (useB_any c W1 W2 pl (2 * pt i + 1)) $$ HU
    iapply (swapB_spec c W1 W2 i (pl.ex (2 * pt i + 1)) (pl.hf (2 * pt i + 1)) _ x1 x2 (pl.nx (2 * pt i + 1)) _ h) $$ [HS HO HU]
    · isplitl [HS]; · iexact HS
      isplitl [HO]; · iexact HO
      iexact HU
    unfold Carry UseB
    iexact Hk
  · isplitl [HS]; · iexact HS
    isplitl [HO]; · iexact HO
    iexact HU
  iintro HC
  unfold Carry
  icases HC with ⟨HS, HO, HU⟩
  iapply (nv_spec c q N) $$ HN
  iintro HN
  rw [hf.v]
  iapply (rely_spec c (chk8_ok i (pl.ex (2 * pt i + 1)) _))
  iapply (join_spec c iprop(Ins c a3 a5 a7 X3 X5 X7 ∗ UseB c W1 W2 pl (2 * pt i + 1 + 1) ∗ owns (c : Thread nD τ) a8 fullShare X)
    iprop(Ins c a3 a5 a7 X3 X5 X7 ∗ UseB c W1 W2 pl (2 * pt i + 1 + 1) ∗ Half c W1 W2 pl (2 * pt i + 1) a8 X3 X5 X7 2048 le2048 X)
    (fun h => comp_piece c W1 W2 pl (2 * pt i + 1) a3 a5 a7 a8 X3 X5 X7 2048 le2048 ((cond9_iff i pl.nv pl.le).1 h) (off47_eq _) (off48_eq _) X)
    (fun h => third_mono (half_skip c W1 W2 pl (2 * pt i + 1) a8 X3 X5 X7 2048 le2048 (fun hh => h ((cond9_iff i pl.nv pl.le).2 hh)) X))) $$ [HI HU A8]
  · isplitl [HI]; · iexact HI
    isplitl [HU]; · iexact HU
    iexact A8
  iintro ⟨HI, HU, HH⟩
  iapply (nv_spec c q N) $$ HN
  iintro HN
  rw [hf.v]
  iapply (join_spec c (Half c W1 W2 pl (2 * pt i + 1) a8 X3 X5 X7 2048 le2048 X) (Done c W1 W2 pl (2 * pt i + 1) a8 X3 X5 X7 2048 le2048 X)
    (fun h => zero_piece c W1 W2 pl (2 * pt i + 1) a8 X3 X5 X7 2048 le2048 ((cond10_iff i pl.nv pl.le).1 h) X)
    (fun h => done_skip c W1 W2 pl (2 * pt i + 1) a8 X3 X5 X7 2048 le2048 (Decidable.byContradiction fun hh => h ((cond10_iff i pl.nv pl.le).2 hh)) X)) $$ HH
  iintro HD
  iapply Hk
  isplitl [HT HN]
  · isplitl [HT]; · iexact HT
    iexact HN
  isplitl [HS HO HU]
  · isplitl [HS]; · iexact HS
    isplitl [HO]; · iexact HO
    iexact HU
  isplitl [HI]; · iexact HI
  iexact HD

end Blk

end Cert.KernelIdeal.Moe
-- ==== Proof.MoePoint.lean ====
/-
  What a whole step of the grid takes and leaves.
-/
module

public import proofs.«01_k».proof.Proof.MoeStep

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

variable (c : Dev nD) (W1 : Buf (Elt F) ((c : Thread nD τ).loc main_arg3)) (W2 : Buf (Elt F) ((c : Thread nD τ).loc main_arg5))
variable (pl : Plan) (q : PosShare TreeShare) (T : Buf (Elt F) ((c : Thread nD τ).loc main_arg1)) (N : Buf (Elt F) ((c : Thread nD τ).loc main_arg2))

/-- What a step leaves in its output block: the two blocks' results, one under the other. -/
def stepOut (p : ℕ) (X3 : S4096x128.Idx → Elt F .f32) (X5 : S32x1x2048.Idx → Elt F .f32) (X7 : S32x1x1024.Idx → Elt F .f32) : S4096x128.Idx → Elt F .f32 := fun y =>
  if (y 0).val < 2048 then blkOut c W1 W2 pl 0 le0 (2 * p) X3 X5 X7 y else blkOut c W1 W2 pl 2048 le2048 (2 * p + 1) X3 X5 X7 y

theorem stepOut_of (p : ℕ) (X3 X5 X7) {X X' X'' : S4096x128.Idx → Elt F .f32}
    (h1 : Wrote 0 (blkOut c W1 W2 pl 0 le0 (2 * p) X3 X5 X7) X X') (h2 : Wrote 2048 (blkOut c W1 W2 pl 2048 le2048 (2 * p + 1) X3 X5 X7) X' X'') :
    X'' = stepOut c W1 W2 pl p X3 X5 X7 := by
  funext y
  have hy : (y 0).val < 4096 := (y 0).isLt
  unfold stepOut
  by_cases h : (y 0).val < 2048
  · rw [if_pos h, h2.2 y (by omega), h1.1 y (by omega) (by omega)]
  · rw [if_neg h, h2.1 y (by omega) (by omega)]

/-- One step of the grid, over its blocks. -/
theorem step_spec (i : grid0.Coords) (hf : Fits pl T N) (a3 h3 a5 h5 a7 h7 a8 h8) (X3 X5 X7 X) :
    iprop(Tabs c q T N ∗ Carry c W1 W2 pl (2 * pt i) ∗ Ins c a3 a5 a7 X3 X5 X7 ∗ owns (c : Thread nD τ) a8 fullShare X)
    ⊢ wpB c (cc0__moe_ffn_kernel (F := F) i (Memref.whole main_arg1) (Memref.isWhole_whole _) (Memref.whole main_arg2) (Memref.isWhole_whole _) a3 h3 (Memref.whole main_arg3) (Memref.isWhole_whole _) a5 h5 (Memref.whole main_arg5) (Memref.isWhole_whole _) a7 h7 a8 h8
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4)
      (fun _ => iprop(Tabs c q T N ∗ Carry c W1 W2 pl (2 * pt i + 2) ∗ Ins c a3 a5 a7 X3 X5 X7 ∗ owns (c : Thread nD τ) a8 fullShare (stepOut c W1 W2 pl (pt i) X3 X5 X7))) := by
  have hp := pt_lt i
  rw [body_eq]
  iintro H
  iapply (seq c (R := fun r => iprop(⌜r.2 = wd32 (pl.ex (2 * pt i + 1)).val⌝ ∗ Tabs c q T N ∗ Carry c W1 W2 pl (2 * pt i + 1) ∗ Ins c a3 a5 a7 X3 X5 X7 ∗ Done c W1 W2 pl (2 * pt i) a8 X3 X5 X7 0 le0 X)) ?first) $$ H
  case first =>
    iintro ⟨HT, HC, HI, A8⟩
    unfold Tabs
    icases HT with ⟨HT, HN⟩
    iapply (tab_spec c _ _ 0 (2 * pt i) (by decide) (by omega) (off1_eq i) q T) $$ HT
    iintro HT
    rw [hf.e _ (by omega)]
    iapply (blockA_spec c W1 W2 pl q T N i hf a3 a5 a7 a8 X3 X5 X7 X) $$ [HT HN HC HI A8]
    · unfold Tabs
      isplitl [HT HN]
      · isplitl [HT]; · iexact HT
        iexact HN
      isplitl [HC]; · iexact HC
      isplitl [HI]; · iexact HI
      iexact A8
    unfold Tabs
    iintro ⟨⟨HT, HN⟩, HC, HI, A8⟩
    iapply (tab_spec c _ _ 0 (2 * pt i + 1) (by decide) (by omega) (off25_eq i) q T) $$ HT
    iintro HT
    rw [hf.e _ (by omega)]
    iapply (ret_intro c)
    isplitr
    · ipureintro; rfl
    isplitl [HT HN]
    · isplitl [HT]; · iexact HT
      iexact HN
    isplitl [HC]; · iexact HC
    isplitl [HI]; · iexact HI
    iexact A8
  iintro %r ⟨%hr, HT, HC, HI, HD⟩
  rw [hr]
  unfold Done
  icases HD with ⟨%X', %hX', A8⟩
  iapply (blockB_spec c W1 W2 pl q T N i hf a3 a5 a7 a8 X3 X5 X7 X') $$ [HT HC HI A8]
  · isplitl [HT]; · iexact HT
    isplitl [HC]; · iexact HC
    isplitl [HI]; · iexact HI
    iexact A8
  iintro ⟨HT, HC, HI, HD⟩
  iapply (ret_intro c)
  unfold Done
  icases HD with ⟨%X'', %hX'', A8⟩
  rw [stepOut_of c W1 W2 pl (pt i) X3 X5 X7 hX' hX'']
  isplitl [HT]; · iexact HT
  isplitl [HC]; · iexact HC
  isplitl [HI]; · iexact HI
  iexact A8

end Cert.KernelIdeal.Moe
-- ==== Proof.MoeTables.lean ====
/-
  What the index maps and the idle flags are at the scheduled tables.
-/
module

public import proofs.«01_k».proof.Proof.MoePoint
public import Idealize.ShloMosaic.Lib.WordArith

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- Half of the valid blocks' last number, as the index map computes it. -/
def halfW (v0 : BitVec 32) : BitVec 32 :=
  let v1 : BitVec 32 := Scalar.subi v0 1#32
  let v2 : BitVec 32 := Scalar.divsi v1 2#32
  Scalar.select (Scalar.andi
    (Scalar.cmpi .ne (Scalar.subi (Scalar.extui (Scalar.cmpi .sgt v1 0#32)) (Scalar.extui (Scalar.cmpi .slt v1 0#32)))
      (Scalar.subi (Scalar.extui (Scalar.cmpi .sgt 2#32 0#32)) (Scalar.extui (Scalar.cmpi .slt 2#32 0#32))))
    (Scalar.cmpi .ne (Scalar.remsi v1 2#32) 0#32)) (Scalar.subi v2 1#32) v2

set_option maxRecDepth 16384 in
theorem halfW_all : ∀ n : Fin 304, (halfW (wd32 (n.val + 1))).toNat = n.val / 2 := by decide +kernel

theorem halfW_nat (n : ℕ) (h1 : 1 ≤ n) (h2 : n ≤ 304) : (halfW (wd32 n)).toNat = (n - 1) / 2 := by
  have := halfW_all ⟨n - 1, by omega⟩
  rw [show (⟨n - 1, by omega⟩ : Fin 304).val + 1 = n from by show n - 1 + 1 = n; omega] at this
  exact this

section At

variable (pf : pre0.Contents (Elt F)) (pl : Plan) (hv : pf 1 nIx = wd32 pl.nv)

include hv

theorem count_read (h h') : pf.at 1 (Rect.unit (s := S1) ![0] S1.size h) h' = wd32 pl.nv := by
  refine Eq.trans (congrArg (pf 1) (funext fun a => Fin.ext ?_)) hv
  match a with
  | ⟨0, _⟩ => exact Nat.lt_one_iff.1 (Fin.isLt _)

theorem count_readD : pf.atD 1 ![0] = wd32 pl.nv := by
  refine Eq.trans ?_ hv
  refine congrArg (pf 1) (funext fun a => Fin.ext ?_)
  match a with
  | ⟨0, _⟩ => rfl

/-- The block of rows a step reads. -/
theorem rows_map (i : grid0.Coords) (h h') : cc0_transform_0 (F := F) h h' pf i = ![min (pt i) ((pl.nv - 1) / 2), 0] := by
  have := pt_lt i
  have h0 := pl.pos
  have h1 := pl.le
  unfold cc0_transform_0
  dsimp only
  rw [count_read pf pl hv h h']
  have key : (Scalar.minsi (BitVec.ofNat 32 (i 0).val) (halfW (wd32 pl.nv))).toNat = min (pt i) ((pl.nv - 1) / 2) := by
    rw [show Scalar.minsi (BitVec.ofNat 32 (i 0).val) (halfW (wd32 pl.nv)) = IntOp.minsi (wd32 (pt i)) (halfW (wd32 pl.nv)) from rfl,
      WordArith.toNat_minsi_of_lt _ _ (by rw [wd32_nat (by omega)]; omega) (by rw [halfW_nat _ h0 h1]; omega), wd32_nat (by omega), halfW_nat _ h0 h1]
  funext a
  match a with
  | 0 => exact key
  | 1 => rfl

/-- No step leaves its output block alone. -/
theorem never_idle (i : grid0.Coords) : idle0 pf 3 i = false := by
  show (!(k0_cond4 i (pf.atD 1 ![0]) == 1#1) && !(k0_cond5 i (pf.atD 1 ![0]) == 1#1) && !(k0_cond9 i (pf.atD 1 ![0]) == 1#1) && !(k0_cond10 i (pf.atD 1 ![0]) == 1#1)) = false
  rw [count_readD pf pl hv]
  by_cases h : 2 * pt i < pl.nv
  · rw [(cond4_iff i pl.nv pl.le).2 h]; rfl
  · rw [(cond5_iff i pl.nv pl.le).2 h]
    cases (!(k0_cond4 i (wd32 pl.nv) == 1#1)) <;> rfl

/-- The side condition of the tables' contents. -/
theorem tables_ok : ok0 (F := F) pf := by
  intro i
  refine ⟨fun a => ?_, Or.inl rfl⟩
  have := pt_lt i
  have h1 := pl.le
  rw [rows_map pf pl hv]
  match a with
  | 0 => show (min (pt i) ((pl.nv - 1) / 2) + 1) * 4096 ≤ 622592; omega
  | 1 => show (0 + 1) * 128 ≤ 128; omega

end At

theorem pt_coords (t : Fin grid0.N) : pt (grid0.coords t) = t.val := by
  revert t; decide +kernel

end Cert.KernelIdeal.Moe
-- ==== Proof.MoeFrame.lean ====
/-
  The launch: what the pipeline carries from step to step, and what every execution ends with.
-/
module

public import proofs.«01_k».proof.Proof.MoeTables

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-! ## The staging pairs, cut in halves -/

section Halves

variable (c : Dev nD)

theorem mem_s9 (w : Fin 2) (y : S2x1024x2048.Idx) : y ∈ (s9 w).view.set ↔ (y 0).val = w.val := by
  have e : (s9 w).view.set = _ := (View.set_reshape _ _).trans (View.set_slice _ _)
  rw [e]
  constructor
  · intro h
    obtain ⟨x, hx, rfl⟩ := Finset.mem_map.1 h
    have := Rect.mem_set_unit.1 hx 0
    have h1 : w.val ≤ (x 0).val ∧ (x 0).val < w.val + 1 := this
    show (x 0).val = w.val
    omega
  · intro h
    refine Finset.mem_map.2 ⟨y, Rect.mem_set_unit.2 fun a => ?_, rfl⟩
    match a with
    | 0 => show w.val ≤ (y 0).val ∧ (y 0).val < w.val + 1; omega
    | 1 => exact ⟨Nat.zero_le _, by have := (y 1).isLt; show (y 1).val < 0 + 1024; exact (Nat.zero_add _).symm ▸ this⟩
    | 2 => exact ⟨Nat.zero_le _, by have := (y 2).isLt; show (y 2).val < 0 + 2048; exact (Nat.zero_add _).symm ▸ this⟩

theorem mem_s10 (w : Fin 2) (y : S2x1024x1024.Idx) : y ∈ (s10 w).view.set ↔ (y 0).val = w.val := by
  have e : (s10 w).view.set = _ := (View.set_reshape _ _).trans (View.set_slice _ _)
  rw [e]
  constructor
  · intro h
    obtain ⟨x, hx, rfl⟩ := Finset.mem_map.1 h
    have := Rect.mem_set_unit.1 hx 0
    have h1 : w.val ≤ (x 0).val ∧ (x 0).val < w.val + 1 := this
    show (x 0).val = w.val
    omega
  · intro h
    refine Finset.mem_map.2 ⟨y, Rect.mem_set_unit.2 fun a => ?_, rfl⟩
    match a with
    | 0 => show w.val ≤ (y 0).val ∧ (y 0).val < w.val + 1; omega
    | 1 => exact ⟨Nat.zero_le _, by have := (y 1).isLt; show (y 1).val < 0 + 1024; exact (Nat.zero_add _).symm ▸ this⟩
    | 2 => exact ⟨Nat.zero_le _, by have := (y 2).isLt; show (y 2).val < 0 + 1024; exact (Nat.zero_add _).symm ▸ this⟩

theorem s9_rest : (Finset.univ : Finset S2x1024x2048.Idx) \ (s9 0).view.set = (s9 1).view.set := by
  ext y
  rw [Finset.mem_sdiff, mem_s9, mem_s9]
  have : (y 0).val < 2 := (y 0).isLt
  simp only [Finset.mem_univ, true_and]
  show ¬ (y 0).val = 0 ↔ (y 0).val = 1
  omega

theorem s10_rest : (Finset.univ : Finset S2x1024x1024.Idx) \ (s10 0).view.set = (s10 1).view.set := by
  ext y
  rw [Finset.mem_sdiff, mem_s10, mem_s10]
  have : (y 0).val < 2 := (y 0).isLt
  simp only [Finset.mem_univ, true_and]
  show ¬ (y 0).val = 0 ↔ (y 0).val = 1
  omega

theorem cut9 (f : Buf (Elt F) ((c : Thread nD τ).loc cc0_scratch0)) :
    (((c : Thread nD τ).loc cc0_scratch0 ↦{fullShare} f) : sProp 𝕄) ⊢ iprop(H9 (F := F) c 0 f ∗ H9 (F := F) c 1 f) := by
  unfold H9
  rw [← s9_rest]
  exact (pointsTo_split_subset (Finset.subset_univ (s9 0).view.set)).1

theorem cut10 (f : Buf (Elt F) ((c : Thread nD τ).loc cc0_scratch1)) :
    (((c : Thread nD τ).loc cc0_scratch1 ↦{fullShare} f) : sProp 𝕄) ⊢ iprop(H10 (F := F) c 0 f ∗ H10 (F := F) c 1 f) := by
  unfold H10
  rw [← s10_rest]
  exact (pointsTo_split_subset (Finset.subset_univ (s10 0).view.set)).1

theorem paste9 (f g : Buf (Elt F) ((c : Thread nD τ).loc cc0_scratch0)) :
    iprop(H9 (F := F) c 0 f ∗ H9 (F := F) c 1 g) ⊢ iprop(∃ f : Buf (Elt F) ((c : Thread nD τ).loc cc0_scratch0), (((c : Thread nD τ).loc cc0_scratch0 ↦{fullShare} f) : sProp 𝕄)) := by
  unfold H9
  rw [← s9_rest]
  iintro H
  iexists _
  iapply (pointsTo_join_subset (Finset.subset_univ (s9 0).view.set)); iexact H

theorem paste10 (f g : Buf (Elt F) ((c : Thread nD τ).loc cc0_scratch1)) :
    iprop(H10 (F := F) c 0 f ∗ H10 (F := F) c 1 g) ⊢ iprop(∃ f : Buf (Elt F) ((c : Thread nD τ).loc cc0_scratch1), (((c : Thread nD τ).loc cc0_scratch1 ↦{fullShare} f) : sProp 𝕄)) := by
  unfold H10
  rw [← s10_rest]
  iintro H
  iexists _
  iapply (pointsTo_join_subset (Finset.subset_univ (s10 0).view.set)); iexact H

end Halves

/-! ## The launch's operands -/

/-- The kernel's two semaphores. -/
abbrev osem0 : Fin 2 → SemLoc sig := fun j => (![SemLoc.dma (sm 0), SemLoc.dma (sm 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(Sm (F := F) c 0 ∗ Sm (F := F) c 1) := by
  rw [Pipeline.ownSems0_eq_of_list c osem0 [0, 1] (by decide) (by decide)]; rfl

/-- The weights, which the kernel's own copies read. -/
def H0 : Finset (Ref sig .tc) := {main_arg3, main_arg5}
theorem H0_sub : H0 ⊆ Pipeline.restRefsP sig pre0 spec0 := by decide

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The tables' contents at the launch. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem weights_eq (c : Dev nD) :
    (bigSep H0 (fun b => ((c : Thread nD τ).loc b) ↦{fullShare} V m c b) : sProp 𝕄) = Wts c (V m c main_arg3) (V m c main_arg5) := by
  rw [BI.bigSep_eq_bigSepL_of_eq [main_arg3, main_arg5] (by decide) (by decide)]; rfl

theorem tables_eq (c : Dev nD) :
    (Pipeline.ΦT (Val := Elt F) pre0 (tbl m) c : sProp 𝕄) = Tabs c fullShare.right (V m c main_arg1) (V m c main_arg2) := by
  obtain rfl : c = 0 := Subsingleton.elim _ _
  unfold Pipeline.ΦT Pipeline.prefHeld
  rw [bigSep_univ_eq_bigSepL [(0 : Fin 2), (1 : Fin 2)] (by decide) (by decide)]; rfl

theorem hmain : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

/-! ## What is carried from step to step -/

variable (pl : Plan) (hF : Fits pl (V m 0 main_arg1) (V m 0 main_arg2))

theorem ok_of_plan (hF : Fits pl (V m 0 main_arg1) (V m 0 main_arg2)) : ok0 (F := F) (tbl m) := tables_ok (tbl m) pl hF.v

/-- The pipeline at the launch's tables. -/
abbrev adm (hF : Fits pl (V m 0 main_arg1) (V m 0 main_arg2)) : (pcfg0 (F := F)).Adm := ⟨tbl m, ok_of_plan m pl hF⟩
abbrev cfgM (hF : Fits pl (V m 0 main_arg1) (V m 0 main_arg2)) : Pipeline.Cfg sig Λ₀ := cfg0 (adm m pl hF)

/-- A window's block at a step. -/
def iblk (c : Dev nD) (w : Fin (cfgM m pl hF).W) (t : Fin (cfgM m pl hF).N) : (((cfgM m pl hF).win w).xblock ((cfgM m pl hF).grid.coords t)).Idx → Elt F ((cfgM m pl hF).win w).elt :=
  (((cfgM m pl hF).win w).blk t).view.read (Elt F) (V m c (Pipeline.arrRef spec0 w))

/-- What is carried into step `n`. -/
def Link (c : Dev nD) (n : ℕ) : sProp 𝕄 :=
  iprop(Tabs c fullShare.right (V m c main_arg1) (V m c main_arg2) ∗ St c (V m c main_arg3) (V m c main_arg5) (pl.before (2 * n))
    ∗ UseB c (V m c main_arg3) (V m c main_arg5) pl (2 * n) ∗ ∃ r, prngReg c r)

/-- The proof data. -/
def dats (_ : Fin 1) (c : Dev nD) : Dat τ (Elt F) Unit ℕ (Pipeline.UD sig nD τ) ℕ (cfgM m pl hF) c where
  A w := V m c (Pipeline.arrRef spec0 w)
  after w t := match w with
    | ⟨0, _⟩ => iblk m pl hF c 0 t
    | ⟨1, _⟩ => iblk m pl hF c 1 t
    | ⟨2, _⟩ => iblk m pl hF c 2 t
    | ⟨3, _⟩ => stepOut c (V m c main_arg3) (V m c main_arg5) pl t.val (iblk m pl hF c 0 t) (iblk m pl hF c 1 t) (iblk m pl hF c 2 t)
  Φ t := Link m pl c t.val
  q _ := fullShare
  owed _ := 0

theorem A_eq (c : Dev nD) (w : Fin (cfgM m pl hF).W) : (dats m pl hF 0 c).A w = V m c (Pipeline.arrRef spec0 w) := by
  dsimp only [dats]
theorem after_0 (c : Dev nD) (t) : (dats m pl hF 0 c).after 0 t = iblk m pl hF c 0 t := rfl
theorem after_1 (c : Dev nD) (t) : (dats m pl hF 0 c).after 1 t = iblk m pl hF c 1 t := rfl
theorem after_2 (c : Dev nD) (t) : (dats m pl hF 0 c).after 2 t = iblk m pl hF c 2 t := rfl
theorem after_3 (c : Dev nD) (t) : (dats m pl hF 0 c).after 3 t = stepOut c (V m c main_arg3) (V m c main_arg5) pl t.val (iblk m pl hF c 0 t) (iblk m pl hF c 1 t) (iblk m pl hF c 2 t) := rfl

theorem before_0 (c : Dev nD) (t) (d) : (dats m pl hF 0 c).before 0 t d = iblk m pl hF c 0 t :=
  ((dats m pl hF 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t) (d) : (dats m pl hF 0 c).before 1 t d = iblk m pl hF c 1 t :=
  ((dats m pl hF 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t) (d) : (dats m pl hF 0 c).before 2 t d = iblk m pl hF c 2 t :=
  ((dats m pl hF 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body, at every step -/

abbrev st_0 (t : Fin (cfgM m pl hF).N) : Memref sig .tc .vmem S4096x128 .f32 := spec0_0.stage ((cfgM m pl hF).slots t 0)
abbrev st_1 (t : Fin (cfgM m pl hF).N) : Memref sig .tc .vmem S32x1x2048 .f32 := spec0_1.stage ((cfgM m pl hF).slots t 1)
abbrev st_2 (t : Fin (cfgM m pl hF).N) : Memref sig .tc .vmem S32x1x1024 .f32 := spec0_2.stage ((cfgM m pl hF).slots t 2)
abbrev st_3 (t : Fin (cfgM m pl hF).N) : Memref sig .tc .vmem S4096x128 .f32 := spec0_3.stage ((cfgM m pl hF).slots t 3)

def bodyAt (t : Fin (cfgM m pl hF).N) : Prog (TpuEff nD τ sig (Elt F) Λ₀ .tc) PUnit :=
  cc0__moe_ffn_kernel (grid0.coords t) (Memref.whole main_arg1) (Memref.isWhole_whole _) (Memref.whole main_arg2) (Memref.isWhole_whole _) (st_0 m pl hF t) (hstage0_0 _) (Memref.whole main_arg3) (Memref.isWhole_whole _) (st_1 m pl hF t) (hstage0_1 _) (Memref.whole main_arg5) (Memref.isWhole_whole _) (st_2 m pl hF t) (hstage0_2 _) (st_3 m pl hF t) (hstage0_3 _)
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

def bodyPre (c : Dev nD) (t : Fin (cfgM m pl hF).N) : sProp 𝕄 :=
  iprop((dats m pl hF 0 c).Φ t.castSucc ∗ (dats m pl hF 0 c).owesAt () t.castSucc
    ∗ (∃ d, owns (c : Thread nD τ) (st_0 m pl hF t) fullShare ((dats m pl hF 0 c).before 0 t d))
    ∗ (∃ d, owns (c : Thread nD τ) (st_1 m pl hF t) fullShare ((dats m pl hF 0 c).before 1 t d))
    ∗ (∃ d, owns (c : Thread nD τ) (st_2 m pl hF t) fullShare ((dats m pl hF 0 c).before 2 t d))
    ∗ (∃ d, owns (c : Thread nD τ) (st_3 m pl hF t) fullShare ((dats m pl hF 0 c).before 3 t d)))

def bodyPost (c : Dev nD) (t : Fin (cfgM m pl hF).N) : sProp 𝕄 :=
  iprop((dats m pl hF 0 c).Φ t.succ ∗ (dats m pl hF 0 c).owesAt () t.succ
    ∗ owns (c : Thread nD τ) (st_0 m pl hF t) fullShare ((dats m pl hF 0 c).after 0 t)
    ∗ owns (c : Thread nD τ) (st_1 m pl hF t) fullShare ((dats m pl hF 0 c).after 1 t)
    ∗ owns (c : Thread nD τ) (st_2 m pl hF t) fullShare ((dats m pl hF 0 c).after 2 t)
    ∗ owns (c : Thread nD τ) (st_3 m pl hF t) fullShare ((dats m pl hF 0 c).after 3 t))

theorem sound_body (c : Dev nD) (t : Fin (cfgM m pl hF).N) :
    bodyPre m pl hF c t ⊢ wp frame (wpE (defs₀ (F := F)) Variants.none c none) Set.univ (bodyAt m pl hF t) (fun _ => bodyPost m pl hF c t) := by
  have hF' : Fits pl (V m c main_arg1) (V m c main_arg2) := by
    obtain rfl : c = 0 := Subsingleton.elim _ _; exact hF
  unfold bodyPre bodyPost bodyAt
  simp only [before_0, before_1, before_2]
  rw [show (dats m pl hF 0 c).Φ t.castSucc = Link m pl c t.val from rfl, show (dats m pl hF 0 c).Φ t.succ = Link m pl c (t.val + 1) from rfl,
    after_0, after_1, after_2, after_3]
  unfold Dat.owesAt Pipeline.owesWithin
  rw [show (dats m pl hF 0 c).owed t.castSucc = 0 from rfl, show (dats m pl hF 0 c).owed t.succ = 0 from rfl]
  unfold Link
  iintro ⟨⟨HT, HS, HU, Hg⟩, ⟨%W, -, HW⟩, ⟨%d0, A0⟩, ⟨%d1, A1⟩, ⟨%d2, A2⟩, ⟨%d3, A3⟩⟩
  have hp : pt (grid0.coords t) = t.val := pt_coords t
  ihave HR := (step_spec c (V m c main_arg3) (V m c main_arg5) pl fullShare.right (V m c main_arg1) (V m c main_arg2) (grid0.coords t) hF'
    (st_0 m pl hF t) (hstage0_0 _) (st_1 m pl hF t) (hstage0_1 _) (st_2 m pl hF t) (hstage0_2 _) (st_3 m pl hF t) (hstage0_3 _)
    (iblk m pl hF c 0 t) (iblk m pl hF c 1 t) (iblk m pl hF c 2 t) ((dats m pl hF 0 c).before 3 t d3)) $$ [HT HS HU HW A0 A1 A2 A3]
  · unfold Carry Ins Owe
    rw [hp]
    isplitl [HT]; · iexact HT
    isplitl [HS HU HW]
    · isplitl [HS]; · iexact HS
      isplitl [HW]; · iexists W; iexact HW
      iexact HU
    isplitl [A0 A1 A2]
    · isplitl [A0]; · iexact A0
      isplitl [A1]; · iexact A1
      iexact A2
    iexact A3
  unfold wpB
  iapply (wp_wand _ _ _) $$ [HR]
  · iexact HR
  iintro %_ HR
  unfold Carry Ins Owe
  rw [hp]
  icases HR with ⟨HT, ⟨HS, ⟨%W', HW⟩, HU⟩, ⟨A0, A1, A2⟩, A3⟩
  isplitl [HT HS HU Hg]
  · isplitl [HT]; · iexact HT
    isplitl [HS]; · iexact HS
    isplitl [HU]; · iexact HU
    iexact Hg
  isplitl [HW]
  · iexists W'; isplitr; · ipureintro; exact fun _ _ => Or.inl trivial
    iexact HW
  isplitl [A0]; · iexact A0
  isplitl [A1]; · iexact A1
  isplitl [A2]; · iexact A2
  iexact A3

theorem defs₀_row (t : Fin (cfgM m pl hF).N) :
    defs₀ (F := F) .tc (cfgM m pl hF).body ((cfgM m pl hF).bodyArgs t ((cfgM m pl hF).slots t)) = bodyAt m pl hF t := by
  unfold defs₀; rw [Defs.onTc_tc]; rfl

theorem not_idle (t : Fin (cfgM m pl hF).N) : (cfgM m pl hF).idle 3 ((cfgM m pl hF).grid.coords t) = false := never_idle (tbl m) pl hF.v _

theorem body_obligation (c : Dev nD) : BodyObligation (dats (F := F) m pl hF 0 c) (defs₀ (F := F)) Variants.none () Set.univ := fun t => by
  rw [bigSep_W0, bigSep_W0, defs₀_row]
  rw [not_idle]
  exact triple_restated (sound_body m pl hF c t) rfl .rfl fun _ => .rfl

/-! ## Into the first step and out of the last -/

theorem into_first (c : Dev nD) : iprop(Pipeline.ΦD osem0 spec0 H0 (V m) c ∗ Pipeline.ΦT pre0 (tbl m) c) ⊢ (dats m pl hF 0 c).Φ 0 := by
  rw [show (dats m pl hF 0 c).Φ 0 = Link m pl c 0 from rfl, Pipeline.ΦD_eq, scopedRest0_eq, ownSems00_eq, weights_eq, tables_eq]
  unfold Link
  rw [show St c (V m c main_arg3) (V m c main_arg5) (pl.before (2 * 0)) = iprop(Slot (F := F) c 0 ∗ Slot (F := F) c 1 ∗ Wts c (V m c main_arg3) (V m c main_arg5)) from rfl,
    show UseB c (V m c main_arg3) (V m c main_arg5) pl (2 * 0) = iprop(∃ x1 x2, Use (F := F) c x1 x2) from rfl]
  iintro ⟨⟨⟨⟨%f0, S0⟩, ⟨%f1, S1⟩, ⟨%f2, S2⟩, ⟨%f3, S3⟩⟩, Hg, ⟨Q0, Q1⟩, HW⟩, HT⟩
  ihave ⟨A0, A1⟩ := (cut9 c f0) $$ S0
  ihave ⟨B0, B1⟩ := (cut10 c f1) $$ S1
  isplitl [HT]; · iexact HT
  isplitl [A0 A1 B0 B1 Q0 Q1 HW]
  · unfold Slot
    isplitl [A0 B0 Q0]
    · isplitl [A0]; · iexists f0; iexact A0
      isplitl [B0]; · iexists f1; iexact B0
      iexact Q0
    isplitl [A1 B1 Q1]
    · isplitl [A1]; · iexists f0; iexact A1
      isplitl [B1]; · iexists f1; iexact B1
      iexact Q1
    iexact HW
  isplitl [S2 S3]
  · unfold Use
    iexists _; iexists _; iexists f2; iexists f3
    isplitr
    · ipureintro; exact ⟨rfl, rfl⟩
    isplitl [S2]; · iexact S2
    iexact S3
  iexact Hg

theorem out_of_last (c : Dev nD) : (dats m pl hF 0 c).Φ (Fin.last grid0.N) ⊢ Pipeline.ΦD osem0 spec0 H0 (V m) c := by
  rw [show (dats m pl hF 0 c).Φ (Fin.last grid0.N) = Link m pl c grid0.N from rfl, N_0, Pipeline.ΦD_eq, scopedRest0_eq, ownSems00_eq, weights_eq]
  unfold Link
  rw [show pl.before (2 * 152) = none from by show pl.next 303 = none; unfold Plan.next; rw [pl.last]; rfl]
  unfold St Slot
  iintro ⟨-, ⟨⟨⟨%f0, A0⟩, ⟨%g0, B0⟩, Q0⟩, ⟨⟨%f1, A1⟩, ⟨%g1, B1⟩, Q1⟩, HW⟩, HU, Hg⟩
  ihave ⟨%x1, %x2, HU⟩ := (useB_any c (V m c main_arg3) (V m c main_arg5) pl (2 * 152)) $$ HU
  unfold Use
  icases HU with ⟨%f2, %f3, -, S2, S3⟩
  isplitl [A0 A1 B0 B1 S2 S3]
  · isplitl [A0 A1]
    · iapply (paste9 c f0 f1)
      isplitl [A0]; · iexact A0
      iexact A1
    isplitl [B0 B1]
    · iapply (paste10 c g0 g1)
      isplitl [B0]; · iexact B0
      iexact B1
    isplitl [S2]; · iexists f2; iexact S2
    iexists f3; iexact S3
  isplitl [Hg]; · iexact Hg
  isplitl [Q0 Q1]
  · isplitl [Q0]; · iexact Q0
    iexact Q1
  iexact HW

/-! ## The run and the frame -/

set_option backward.isDefEq.respectTransparency.types false in
theorem run_main : θ_run defs (onTc (τ := τ) (main (F := F))) (s₀ m ρ)
    (fun r => Pipeline.FramePost (Pipeline.pin (pcfgs (F := F)) fun _ => adm m pl hF) (dats m pl hF) 0 (V m) r ∧ r.2.sem = fun _ => 0) :=
  Pipeline.θ_run_frameP_dma (Q' := _) pcfgs (fun _ => adm m pl hF) (dats m pl hF) (0 : Fin 1) launch0 osem0 defs₀ Variants.none ownSemFacts0 H0 H0_sub m ρ main
    (hbody := fun c => (body_obligation m pl hF c).loose) (hshare := fun c => (dats m pl hF 0 c).share_full fun _ => rfl)
    (howed := fun _ _ => rfl) (V := V m) (hmain := hmain m) (hA := A_eq m pl hF) (hpf := V_pre m)
    (hin := into_first m pl hF) (hout := out_of_last m pl hF) (hQ' := fun _ h => h)

end Cert.KernelIdeal.Moe
-- ==== Proof.Sched.lean ====
/-
  What the schedule's precondition says, word by word.
-/
module

public import proofs.«01_k».proof.Proof.Gen.Pre_schedule_valid
public import Idealize.ShloMosaic.Lib.ReduceAll
public import Idealize.ShloMosaic.Lib.Affine

@[expose] public section

namespace Cert.Sched

open Idealize.ShloMosaic Cert.Pre_schedule_valid

/-- A cell of the schedule's table. -/
def cell (r b : ℕ) (hr : r < 3) (hb : b < 304) : S3x304.Idx
  | 0 => ⟨r, hr⟩
  | 1 => ⟨b, hb⟩

/-- The one cell of the count. -/
def one : S1.Idx | 0 => ⟨0, by decide⟩

/-- The schedule's words: the ranges of its three rows, how a block's follow the last block's, the last block's, and the count's. -/
structure Good (T : S3x304.Idx → BitVec 32) (N : S1.Idx → BitVec 32) : Prop where
  e : ∀ b (hb : b < 304), 0 ≤ (T (cell 0 b (by decide) hb)).toInt ∧ (T (cell 0 b (by decide) hb)).toInt < 32
  n : ∀ b (hb : b < 304), -1 ≤ (T (cell 1 b (by decide) hb)).toInt ∧ (T (cell 1 b (by decide) hb)).toInt < 32
  h : ∀ b (hb : b < 304), 0 ≤ (T (cell 2 b (by decide) hb)).toInt ∧ (T (cell 2 b (by decide) hb)).toInt ≤ 1
  step : ∀ b (hb : b + 1 < 304),
    (T (cell 0 (b + 1) (by decide) hb) = T (cell 0 b (by decide) (by omega)) ∧ T (cell 1 (b + 1) (by decide) hb) = T (cell 1 b (by decide) (by omega))
      ∧ T (cell 2 (b + 1) (by decide) hb) = T (cell 2 b (by decide) (by omega)))
    ∨ (T (cell 0 (b + 1) (by decide) hb) ≠ T (cell 0 b (by decide) (by omega)) ∧ T (cell 0 (b + 1) (by decide) hb) = T (cell 1 b (by decide) (by omega))
      ∧ T (cell 2 (b + 1) (by decide) hb) = 1#32 - T (cell 2 b (by decide) (by omega)))
  last : T (cell 1 303 (by decide) (by decide)) = 4294967295#32
  nv : 1 ≤ (N one).toInt ∧ (N one).toInt ≤ 304

instance : Subsingleton S_.Idx := ⟨fun a b => funext fun x => x.elim0⟩

/-- A cell of a row of the table. -/
def wide (b : ℕ) (hb : b < 304) : S1x304.Idx
  | 0 => ⟨0, by decide⟩
  | 1 => ⟨b, hb⟩

/-- A cell of a row of the table short of one. -/
def short (b : ℕ) (hb : b < 303) : S1x303.Idx
  | 0 => ⟨0, by decide⟩
  | 1 => ⟨b, hb⟩

theorem row_wide (T : S3x304.Idx → BitVec 32) (r : ℕ) (hr : r < 3) (h) (b : ℕ) (hb : b < 304) :
    extractStridedSlice S1x304 ![r, 0] T h (wide b hb) = T (cell r b hr hb) := by
  refine congrArg T (funext fun a => Fin.ext ?_)
  match a with
  | 0 => show r + 0 = r; omega
  | 1 => show 0 + b = b; omega

theorem row_short (T : S3x304.Idx → BitVec 32) (r : ℕ) (hr : r < 3) (o : ℕ) (h) (b : ℕ) (hb : b < 303) (ho : o ≤ 1) :
    extractStridedSlice S1x303 ![r, o] T h (short b hb) = T (cell r (o + b) hr (by omega)) := by
  refine congrArg T (funext fun a => Fin.ext ?_)
  match a with
  | 0 => show r + 0 = r; omega
  | 1 => rfl

theorem good {F : FTy → Type} [FloatOps F] (a0 : FVec F S622592x128 .f32) (T : IVec S3x304 32) (N : IVec S1 32) (a3 : FVec F S32x1024x2048 .f32)
    (a4 : FVec F S32x1x2048 .f32) (a5 : FVec F S32x1024x1024 .f32) (a6 : FVec F S32x1x1024 .f32)
    (h : ∀ j, fn (F := F) a0 T N a3 a4 a5 a6 j = 1#1) : Good T N := by
  have e := h (fun a => a.elim0)
  dsimp only [fn, fn_part1, fn_part2] at e
  obtain ⟨e, hle⟩ := IntOp.andi_eq_one.1 e
  obtain ⟨e, hge⟩ := IntOp.andi_eq_one.1 e
  obtain ⟨e, hlast⟩ := IntOp.andi_eq_one.1 e
  obtain ⟨hrange, hstep⟩ := IntOp.andi_eq_one.1 e
  have range := fun i => Host.reduce_andi_all _ _ _ _ _ hrange i
  have step := fun i => Host.reduce_andi_all _ _ _ _ _ hstep i
  clear hrange hstep e
  have R : ∀ b (hb : b < 304), _ := fun b hb => range (wide b hb)
  have S : ∀ b (hb : b < 303), _ := fun b hb => step (short b hb)
  clear range step
  have R' : ∀ b (hb : b < 304), ((((0 ≤ (T (cell 0 b (by decide) hb)).toInt ∧ (T (cell 0 b (by decide) hb)).toInt < 32) ∧ -1 ≤ (T (cell 1 b (by decide) hb)).toInt)
      ∧ (T (cell 1 b (by decide) hb)).toInt < 32) ∧ 0 ≤ (T (cell 2 b (by decide) hb)).toInt) ∧ (T (cell 2 b (by decide) hb)).toInt ≤ 1 := by
    intro b hb
    obtain ⟨h, x6⟩ := IntOp.andi_eq_one.1 (R b hb)
    obtain ⟨h, x5⟩ := IntOp.andi_eq_one.1 h
    obtain ⟨h, x4⟩ := IntOp.andi_eq_one.1 h
    obtain ⟨h, x3⟩ := IntOp.andi_eq_one.1 h
    obtain ⟨x1, x2⟩ := IntOp.andi_eq_one.1 h
    have x1 := IntOp.cmpi_sge.1 x1
    have x2 := IntOp.cmpi_slt.1 x2
    have x3 := IntOp.cmpi_sge.1 x3
    have x4 := IntOp.cmpi_slt.1 x4
    have x5 := IntOp.cmpi_sge.1 x5
    have x6 := IntOp.cmpi_sle.1 x6
    rw [row_wide T 0 (by decide) _ b hb] at x1 x2
    rw [row_wide T 1 (by decide) _ b hb] at x3 x4
    rw [row_wide T 2 (by decide) _ b hb] at x5 x6
    exact ⟨⟨⟨⟨⟨x1, x2⟩, x3⟩, x4⟩, x5⟩, x6⟩
  refine ⟨fun b hb => (R' b hb).1.1.1.1, fun b hb => ⟨(R' b hb).1.1.1.2, (R' b hb).1.1.2⟩, fun b hb => ⟨(R' b hb).1.2, (R' b hb).2⟩, fun b hb => ?_, ?_, ?_⟩
  · have rs := fun r hr o ho q => row_short T r hr o q b (by omega) ho
    have ec : ∀ r hr, cell r (b + 1) hr hb = cell r (1 + b) hr (by omega) := fun r hr => funext fun a => Fin.ext (match a with | 0 => rfl | 1 => Nat.add_comm b 1)
    rw [ec, ec, ec]
    refine (IntOp.ori_eq_one.1 (S b (by omega))).imp (fun h => ?_) fun h => ?_
    · obtain ⟨h, x3⟩ := IntOp.andi_eq_one.1 h
      obtain ⟨x1, x2⟩ := IntOp.andi_eq_one.1 h
      have x1 := IntOp.cmpi_eq.1 x1
      have x2 := IntOp.cmpi_eq.1 x2
      have x3 := IntOp.cmpi_eq.1 x3
      rw [rs 0 (by decide) 1 (by decide), rs 0 (by decide) 0 (by decide)] at x1
      rw [rs 1 (by decide) 1 (by decide), rs 1 (by decide) 0 (by decide)] at x2
      rw [rs 2 (by decide) 1 (by decide), rs 2 (by decide) 0 (by decide)] at x3
      have z : ∀ r hr, cell r (0 + b) hr (by omega) = cell r b hr (by omega) := fun r hr => funext fun a => Fin.ext (match a with | 0 => rfl | 1 => Nat.zero_add b)
      rw [z] at x1 x2 x3
      exact ⟨x1, x2, x3⟩
    · obtain ⟨h, x3⟩ := IntOp.andi_eq_one.1 h
      obtain ⟨x1, x2⟩ := IntOp.andi_eq_one.1 h
      have x1 := IntOp.cmpi_ne.1 x1
      have x2 := IntOp.cmpi_eq.1 x2
      have x3 : _ = 1#32 - _ := IntOp.cmpi_eq.1 x3
      rw [rs 0 (by decide) 1 (by decide), rs 0 (by decide) 0 (by decide)] at x1
      rw [rs 0 (by decide) 1 (by decide), rs 1 (by decide) 0 (by decide)] at x2
      rw [rs 2 (by decide) 1 (by decide), rs 2 (by decide) 0 (by decide)] at x3
      have z : ∀ r hr, cell r (0 + b) hr (by omega) = cell r b hr (by omega) := fun r hr => funext fun a => Fin.ext (match a with | 0 => rfl | 1 => Nat.zero_add b)
      rw [z] at x1 x2 x3
      exact ⟨x1, x2, x3⟩
  · refine Eq.trans (congrArg T (funext fun a => Fin.ext ?_)) (IntOp.cmpi_eq.1 hlast)
    match a with
    | 0 => rfl
    | 1 => rfl
  · have a := IntOp.cmpi_sge.1 hge
    have b := IntOp.cmpi_sle.1 hle
    have q : ∀ i : S1.Idx, N i = N one := fun i => congrArg N (funext fun a => match a with | 0 => Fin.ext (Nat.lt_one_iff.1 (i 0).isLt))
    refine ⟨le_of_le_of_eq (show (1:ℤ) ≤ _ from a) (congrArg BitVec.toInt (q _)), le_of_eq_of_le (congrArg BitVec.toInt (q _)).symm (show _ ≤ (304 : ℤ) from b)⟩

end Cert.Sched
-- ==== Proof.MoeSched.lean ====
/-
  A valid schedule is a plan, and what a run leaves then.
-/
module

public import proofs.«01_k».proof.Proof.MoeFrame
public import proofs.«01_k».proof.Proof.Sched

@[expose] public section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem word_lt {x : BitVec 32} {k : ℕ} (h0 : 0 ≤ x.toInt) (h1 : x.toInt < k) : x.toNat < k := by
  rw [BitVec.toInt_eq_toNat_cond] at h0 h1
  split at h0 <;> omega

theorem word_self (x : BitVec 32) : x = wd32 x.toNat := ((BitVec.ofNat_toNat 32 x).trans (BitVec.setWidth_eq x)).symm

/-- The plan that a good schedule says. -/
def planOf (T : S3x304.Idx → BitVec 32) (N : S1.Idx → BitVec 32) (g : Sched.Good T N) : Plan where
  ex b := if hb : b < 304 then ⟨(T (tIx 0 b (by decide) hb)).toNat, word_lt (g.e b hb).1 (g.e b hb).2⟩ else 0
  nx b := if hb : b < 304 then
      if hn : T (tIx 1 b (by decide) hb) = 4294967295#32 then none
      else some ⟨(T (tIx 1 b (by decide) hb)).toNat, word_lt (k := 32) (by
        rcases lt_or_ge (T (tIx 1 b (by decide) hb)).toInt 0 with h | h
        · exact absurd (BitVec.toInt_inj.1 ((le_antisymm (Int.lt_iff_add_one_le.1 h |> fun h => by omega) (g.n b hb).1 : (T (tIx 1 b (by decide) hb)).toInt = -1).trans (by decide))) hn
        · exact h) (g.n b hb).2⟩
    else none
  hf b := if hb : b < 304 then ⟨(T (tIx 2 b (by decide) hb)).toNat, word_lt (g.h b hb).1 (Int.lt_of_le_of_lt (g.h b hb).2 (by decide))⟩ else 0
  nv := (N nIx).toNat
  pos := by
    have := g.nv
    change 1 ≤ (N nIx).toInt ∧ (N nIx).toInt ≤ 304 at this
    rw [BitVec.toInt_eq_toNat_cond] at this
    split at this <;> omega
  le := by
    have := g.nv
    change 1 ≤ (N nIx).toInt ∧ (N nIx).toInt ≤ 304 at this
    rw [BitVec.toInt_eq_toNat_cond] at this
    split at this <;> omega
  step b hb := by
    have s := g.step b hb
    change (T (tIx 0 (b + 1) _ hb) = T (tIx 0 b _ _) ∧ T (tIx 1 (b + 1) _ hb) = T (tIx 1 b _ _) ∧ T (tIx 2 (b + 1) _ hb) = T (tIx 2 b _ _))
      ∨ (T (tIx 0 (b + 1) _ hb) ≠ T (tIx 0 b _ _) ∧ T (tIx 0 (b + 1) _ hb) = T (tIx 1 b _ _) ∧ T (tIx 2 (b + 1) _ hb) = 1#32 - T (tIx 2 b _ _)) at s
    have hb' : b < 304 := by omega
    have e1 := g.e (b + 1) hb
    have e2 := g.h b hb'
    change 0 ≤ (T (tIx 0 (b + 1) _ hb)).toInt ∧ (T (tIx 0 (b + 1) _ hb)).toInt < 32 at e1
    change 0 ≤ (T (tIx 2 b _ hb')).toInt ∧ (T (tIx 2 b _ hb')).toInt ≤ 1 at e2
    simp only [dif_pos hb, dif_pos hb']
    refine s.imp (fun ⟨a, b, c⟩ => ⟨?_, ?_, ?_⟩) (fun ⟨a, b, c⟩ => ⟨?_, ?_, ?_⟩)
    · simp only [a]
    · simp only [b]
    · simp only [c]
    · exact fun h => a (BitVec.toNat_inj.1 (Fin.mk.inj h))
    · rw [dif_neg (fun h => by rw [b, h] at e1; exact absurd e1.1 (by decide))]
      simp only [b]
    · have lt := word_lt e2.1 (Int.lt_of_le_of_lt e2.2 (by decide : (1 : ℤ) < (2 : ℕ)))
      have key : ∀ (x : BitVec 32) (h : x.toNat < 2) (h' : (1#32 - x).toNat < 2), (⟨(1#32 - x).toNat, h'⟩ : Fin 2) = other ⟨x.toNat, h⟩ := by
        intro x h h'
        have : x = 0#32 ∨ x = 1#32 := by
          rcases (by omega : x.toNat = 0 ∨ x.toNat = 1) with h | h
          · exact Or.inl (BitVec.toNat_inj.1 h)
          · exact Or.inr (BitVec.toNat_inj.1 h)
        rcases this with h | h <;> subst h <;> rfl
      simp only [c]
      exact key _ lt _
  last := (dif_pos (by decide : 303 < 304)).trans (dif_pos g.last)

theorem fits_planOf (T : S3x304.Idx → BitVec 32) (N : S1.Idx → BitVec 32) (g : Sched.Good T N) : Fits (planOf T N g) T N where
  e b hb := (word_self _).trans (congrArg wd32 (by dsimp only [planOf]; rw [dif_pos hb]))
  n b hb := by
    dsimp only [planOf]
    rw [dif_pos hb]
    split
    · next h => exact h
    · exact word_self _
  h b hb := (word_self _).trans (congrArg wd32 (by dsimp only [planOf]; rw [dif_pos hb]))
  v := word_self _

variable {F : FTy → Type} [FloatOps F]

section Run
variable (m : (ℓ : Loc nD τ sig) → Buf (Elt F) ℓ) (ρ : Dev nD → PrngReg) (pl : Plan) (hF : Fits pl (V m 0 main_arg1) (V m 0 main_arg2))

/-- A run ends with its arguments as they were, the semaphores down, and the result's array written point by point. -/
theorem run_all : θ_run defs (onTc (τ := τ) (main (F := F))) (s₀ m ρ) (fun r => (∀ c : Dev nD,
      r.2.mem (c.tc.loc main_v0) = (dats m pl hF 0 c).arrAt 3 (cfgM m pl hF).N ∧
      r.2.mem (c.tc.loc main_arg0) = m (c.tc.loc main_arg0) ∧ r.2.mem (c.tc.loc main_arg1) = m (c.tc.loc main_arg1) ∧
      r.2.mem (c.tc.loc main_arg2) = m (c.tc.loc main_arg2) ∧ r.2.mem (c.tc.loc main_arg3) = m (c.tc.loc main_arg3) ∧
      r.2.mem (c.tc.loc main_arg4) = m (c.tc.loc main_arg4) ∧ r.2.mem (c.tc.loc main_arg5) = m (c.tc.loc main_arg5) ∧
      r.2.mem (c.tc.loc main_arg6) = m (c.tc.loc main_arg6)) ∧ r.2.sem = fun _ => 0) := by
  refine (θ_run defs _ _).mono (fun r h => ⟨fun c => ?_, h.2⟩) (run_main m ρ pl hF)
  have h := h.1 c
  refine ⟨h.1 3, (h.1 0).trans (((dats m pl hF 0 c).arrAt_in 0 rfl _).trans (A_eq m pl hF c 0)), ?_, ?_, ?_,
    (h.1 1).trans (((dats m pl hF 0 c).arrAt_in 1 rfl _).trans (A_eq m pl hF c 1)), ?_,
    (h.1 2).trans (((dats m pl hF 0 c).arrAt_in 2 rfl _).trans (A_eq m pl hF c 2))⟩
  · exact h.2 main_arg1 (Pipeline.mem_restRefs_of main_arg1 (by decide) (show ∀ w : Fin 4, (spec0 w).arr.view.ref ≠ main_arg1 by decide))
  · exact h.2 main_arg2 (Pipeline.mem_restRefs_of main_arg2 (by decide) (show ∀ w : Fin 4, (spec0 w).arr.view.ref ≠ main_arg2 by decide))
  · exact h.2 main_arg3 (Pipeline.mem_restRefs_of main_arg3 (by decide) (show ∀ w : Fin 4, (spec0 w).arr.view.ref ≠ main_arg3 by decide))
  · exact h.2 main_arg5 (Pipeline.mem_restRefs_of main_arg5 (by decide) (show ∀ w : Fin 4, (spec0 w).arr.view.ref ≠ main_arg5 by decide))

end Run

/-- The schedule of a start whose precondition holds. -/
theorem good_of (m : (ℓ : Loc nD τ sig) → Buf (Elt F) ℓ) (h : ∀ c : Dev nD, Cert.Pre_schedule_valid.fn (F := F) (m (c.tc.loc main_arg0)) (m (c.tc.loc main_arg1)) (m (c.tc.loc main_arg2))
      (m (c.tc.loc main_arg3)) (m (c.tc.loc main_arg4)) (m (c.tc.loc main_arg5)) (m (c.tc.loc main_arg6)) = fun _ => 1#1) :
    Sched.Good (V m 0 main_arg1) (V m 0 main_arg2) :=
  by
  have h0 := h 0
  exact Sched.good (m ((0 : Dev nD).tc.loc main_arg0)) (m ((0 : Dev nD).tc.loc main_arg1)) (m ((0 : Dev nD).tc.loc main_arg2)) (m ((0 : Dev nD).tc.loc main_arg3))
    (m ((0 : Dev nD).tc.loc main_arg4)) (m ((0 : Dev nD).tc.loc main_arg5)) (m ((0 : Dev nD).tc.loc main_arg6)) fun j => by rw [h0]

end Cert.KernelIdeal.Moe
-- ==== Proof.Spec.lean ====
/-
  One expert's feed-forward of one token, over the extended reals.
-/
module

public import Idealize.ShloMosaic.PureOps.Ideal.Laws
public import Idealize.ShloMosaic.Lib.ValueIdx

@[expose] public section

noncomputable section

namespace Cert.Spec

open Idealize.ShloMosaic Idealize.ShloMosaic.ValueIdx

/-- A float constant. -/
abbrev k32 (w : BitVec 32) : EReal := Ideal.ofBits .f32 w

/-- The gate and the linear half of a token, biased. -/
def gu (x : Fin 1024 → EReal) (w : Fin 1024 → Fin 2048 → EReal) (b : Fin 2048 → EReal) (n : Fin 2048) : EReal := (∑ k, x k * w k n) + b n

/-- The clamped gate times its logistic, times the clamped linear half plus one. -/
def act (g : Fin 2048 → EReal) (k : Fin 1024) : EReal :=
  (min (k32 0x40E00000#32) (max (k32 0xC0E00000#32) (g ⟨1024 + k.val, by omega⟩)) + k32 0x3F800000#32)
    * (min (g ⟨k.val, by omega⟩) (k32 0x40E00000#32)
      * Ideal.div (k32 0x3F800000#32) (k32 0x3F800000#32 + Ideal.exp (-(k32 0x3FD9DB23#32 * min (g ⟨k.val, by omega⟩) (k32 0x40E00000#32)))))

/-- The token's result. -/
def ffn (x : Fin 1024 → EReal) (w1 : Fin 1024 → Fin 2048 → EReal) (b1 : Fin 2048 → EReal) (w2 : Fin 1024 → Fin 1024 → EReal) (b2 : Fin 1024 → EReal) (n : Fin 1024) : EReal :=
  (∑ k, act (gu x w1 b1) k * w2 k n) + b2 n

/-- Where the flat rows keep token `t` of block `b`'s entry `k`. -/
def tok (b t k : ℕ) (hb : b < 304) (ht : t < 256) (hk : k < 1024) : (⟨2, ![622592, 128]⟩ : Shape).Idx
  | 0 => ⟨2048 * b + 8 * t + k / 128, by show _ < 622592; omega⟩
  | 1 => ⟨k % 128, Nat.mod_lt _ (by decide)⟩

/-- The feed-forward of every block by its expert, over the flat rows; zero past the valid blocks. -/
def moe (X : (⟨2, ![622592, 128]⟩ : Shape).Idx → EReal) (W1 : (⟨3, ![32, 1024, 2048]⟩ : Shape).Idx → EReal) (B1 : (⟨3, ![32, 1, 2048]⟩ : Shape).Idx → EReal)
    (W2 : (⟨3, ![32, 1024, 1024]⟩ : Shape).Idx → EReal) (B2 : (⟨3, ![32, 1, 1024]⟩ : Shape).Idx → EReal) (ex : ℕ → Fin 32) (nv : ℕ) (r l : ℕ) (hr : r < 622592) (hl : l < 128) : EReal :=
  if r / 2048 < nv then
    ffn (fun k => X (tok (r / 2048) (r % 2048 / 8) k.val (by omega) (by omega) k.isLt)) (fun k n => W1 (ix3 (ex (r / 2048)) k n)) (fun n => B1 (ix3 (ex (r / 2048)) (0 : Fin 1) n))
      (fun k n => W2 (ix3 (ex (r / 2048)) k n)) (fun n => B2 (ix3 (ex (r / 2048)) (0 : Fin 1) n)) ⟨r % 8 * 128 + l, by omega⟩
  else k32 0x00000000#32

end Cert.Spec
-- ==== Proof.MoeKer.lean ====
/-
  A block's result, element by element, over the extended reals.
-/
module

public import proofs.«01_k».proof.Proof.MoeStep
public import proofs.«01_k».proof.Proof.Spec
public import Idealize.ShloMosaic.Lib.MatmulPlain
public import Idealize.ShloMosaic.Lib.ValueIdx
public import Idealize.ShloMosaic.Lib.Pipeline.Value

@[expose] public section

noncomputable section

namespace Cert.KernelIdeal.Moe

open Cert.KernelIdeal Cert.KernelIdeal.Gen Cert.Spec
open Idealize.ShloMosaic Idealize.ShloMosaic.TcCoe Idealize.ShloMosaic.ValueIdx

section Block

variable (x : Fin 8 → Vec Ideal S256x128 .f32) (x1 : Vec Ideal S1024x2048 .bf16) (x2 : Vec Ideal S1024x1024 .bf16) (b1 : Vec Ideal S1x1x2048 .f32) (b2 : Vec Ideal S1x1x1024 .f32)

/-- A token's entry among a block's strided rows. -/
abbrev rowOf (t : Fin 256) (k : Fin 1024) : EReal := x ⟨k.val / 128, by omega⟩ (ix2 t ⟨k.val % 128, Nat.mod_lt _ (by decide)⟩)

/-- The eight groups of lanes side by side. -/
theorem lanes_at (hc) (t : Fin 256) (k : Fin 1024) :
    concatenate S256x1024 1 [⟨S256x128, x 0⟩, ⟨S256x128, x 1⟩, ⟨S256x128, x 2⟩, ⟨S256x128, x 3⟩, ⟨S256x128, x 4⟩, ⟨S256x128, x 5⟩, ⟨S256x128, x 6⟩, ⟨S256x128, x 7⟩] hc (ix2 t k) = rowOf x t k :=
  concatenate_ofFn_apply (t := S256x1024) (s₁ := S256x128) 1 (N := 8) x hc rfl 128 rfl (ix2 t k) ⟨k.val / 128, by omega⟩ rfl (ix2 t ⟨k.val % 128, Nat.mod_lt _ (by decide)⟩) rfl
    (fun q hq => match q with
      | ⟨0, _⟩ => rfl
      | ⟨1, _⟩ => absurd rfl hq)

/-- A bias, spread over the tokens. -/
theorem bias1_at (h h') (t : Fin 256) (n : Fin 2048) : broadcastTo S256x2048 (shapeCast S1x2048 b1 h) h' (ix2 t n) = b1 (ix3 (0 : Fin 1) (0 : Fin 1) n) := by
  rw [broadcastTo_apply _ _ _ (ix2 (0 : Fin 1) n) (fun a => match a with | ⟨0, _⟩ => rfl | ⟨1, _⟩ => rfl)]
  refine (shapeCast_dropUnit_apply _ b1 h _).trans (congrArg b1 (funext fun a => match a with | ⟨0, _⟩ => rfl | ⟨1, _⟩ => rfl | ⟨2, _⟩ => rfl))

theorem bias2_at (h h') (t : Fin 256) (n : Fin 1024) : broadcastTo S256x1024 (shapeCast S1x1024 b2 h) h' (ix2 t n) = b2 (ix3 (0 : Fin 1) (0 : Fin 1) n) := by
  rw [broadcastTo_apply _ _ _ (ix2 (0 : Fin 1) n) (fun a => match a with | ⟨0, _⟩ => rfl | ⟨1, _⟩ => rfl)]
  refine (shapeCast_dropUnit_apply _ b2 h _).trans (congrArg b2 (funext fun a => match a with | ⟨0, _⟩ => rfl | ⟨1, _⟩ => rfl | ⟨2, _⟩ => rfl))

/-- A token's half-way row. -/
abbrev guK (t : Fin 256) : Fin 2048 → EReal := Cert.Spec.gu (rowOf x t) (fun k n => x1 (ix2 k n)) (fun n => b1 (ix3 (0 : Fin 1) (0 : Fin 1) n))

theorem pay4_at (t : Fin 256) (n : Fin 2048) : k0_pay4 (F := Ideal) (x 0) (x 1) (x 2) (x 3) (x 4) (x 5) (x 6) (x 7) x1 b1 (ix2 t n) = guK x x1 b1 t n := by
  unfold k0_pay4
  refine Eq.trans (congrArg₂ (· + ·) (y' := b1 (ix3 (0 : Fin 1) (0 : Fin 1) n)) ?_ (bias1_at b1 _ _ t n)) rfl
  refine (Ideal.matmul_plain_apply (M := 256) (K := 1024) (N := 2048) none _ x1 _ t n).trans ?_
  rw [show constant (F := Ideal) S256x2048 .f32 0x00000000#32 (ix2 t n) = 0 from Ideal.ofBits_zero_f32, zero_add]
  exact Finset.sum_congr rfl fun k _ => congrArg (· * x1 (ix2 k n)) (lanes_at x concatenates_S256x128_S256x128_S256x128_S256x128_S256x128_S256x128_S256x128_S256x128_S256x1024_d1 t k)

theorem pay5_at (t : Fin 256) (k : Fin 1024) : k0_pay5 (F := Ideal) (x 0) (x 1) (x 2) (x 3) (x 4) (x 5) (x 6) (x 7) x1 b1 (ix2 t k) = min (guK x x1 b1 t ⟨k.val, by omega⟩) (k32 0x40E00000#32) := by
  unfold k0_pay5
  refine congrArg (fun z : EReal => min z (k32 0x40E00000#32)) ?_
  refine (extractStridedSlice_apply _ _ _ _ (ix2 t ⟨k.val, by omega⟩) (fun a => match a with | ⟨0, _⟩ => (Nat.zero_add _).symm | ⟨1, _⟩ => (Nat.zero_add _).symm)).trans ?_
  exact pay4_at x x1 b1 t _

theorem pay6_at (t : Fin 256) (k : Fin 1024) : k0_pay6 (F := Ideal) (x 0) (x 1) (x 2) (x 3) (x 4) (x 5) (x 6) (x 7) x1 b1 (ix2 t k)
    = min (k32 0x40E00000#32) (max (k32 0xC0E00000#32) (guK x x1 b1 t ⟨1024 + k.val, by omega⟩)) + k32 0x3F800000#32 := by
  unfold k0_pay6
  refine congrArg (fun z : EReal => min (k32 0x40E00000#32) (max (k32 0xC0E00000#32) z) + k32 0x3F800000#32) ?_
  refine (extractStridedSlice_apply _ _ _ _ (ix2 t ⟨1024 + k.val, by omega⟩) (fun a => match a with | ⟨0, _⟩ => (Nat.zero_add _).symm | ⟨1, _⟩ => rfl)).trans ?_
  exact pay4_at x x1 b1 t _

theorem pay7_at (t : Fin 256) (k : Fin 1024) : k0_pay7 (F := Ideal) (x 0) (x 1) (x 2) (x 3) (x 4) (x 5) (x 6) (x 7) x1 b1 (ix2 t k)
    = Ideal.exp (-(k32 0x3FD9DB23#32 * min (guK x x1 b1 t ⟨k.val, by omega⟩) (k32 0x40E00000#32))) := by
  unfold k0_pay7
  refine congrArg Ideal.exp ?_
  refine Eq.trans (congrArg₂ (fun p q : EReal => p - k32 0x3FD9DB23#32 * q) Ideal.ofBits_zero_f32 (pay5_at x x1 b1 t k)) ?_
  rw [sub_eq_add_neg, zero_add]

theorem act_at (t : Fin 256) (k : Fin 1024) :
    k0_pay6 (F := Ideal) (x 0) (x 1) (x 2) (x 3) (x 4) (x 5) (x 6) (x 7) x1 b1 (ix2 t k) * (k0_pay5 (F := Ideal) (x 0) (x 1) (x 2) (x 3) (x 4) (x 5) (x 6) (x 7) x1 b1 (ix2 t k)
      * Ideal.div (k32 0x3F800000#32) (k32 0x3F800000#32 + k0_pay7 (F := Ideal) (x 0) (x 1) (x 2) (x 3) (x 4) (x 5) (x 6) (x 7) x1 b1 (ix2 t k))) = act (guK x x1 b1 t) k := by
  rw [pay5_at, pay6_at, pay7_at]
  rfl

/-- A block's result at a token and a column. -/
theorem blockOut_at (t : Fin 256) (n : Fin 1024) : blockOut x x1 x2 b1 b2 (ix2 t n)
    = ffn (rowOf x t) (fun k n => x1 (ix2 k n)) (fun n => b1 (ix3 (0 : Fin 1) (0 : Fin 1) n)) (fun k n => x2 (ix2 k n)) (fun n => b2 (ix3 (0 : Fin 1) (0 : Fin 1) n)) n := by
  unfold blockOut k0_pay8
  refine Eq.trans (congrArg₂ (· + ·) (y' := b2 (ix3 (0 : Fin 1) (0 : Fin 1) n)) ?_ (bias2_at b2 _ _ t n)) rfl
  refine (Ideal.matmul_plain_apply (M := 256) (K := 1024) (N := 1024) none _ x2 _ t n).trans ?_
  rw [show constant (F := Ideal) S256x1024 .f32 0x00000000#32 (ix2 t n) = 0 from Ideal.ofBits_zero_f32, zero_add]
  exact Finset.sum_congr rfl fun k _ => congrArg (· * x2 (ix2 k n)) (act_at x x1 b1 t k)

end Block

/-! ## The rounded weights -/

variable (c : Dev nD) (W1 : Buf (Elt Ideal) ((c : Thread nD τ).loc main_arg3)) (W2 : Buf (Elt Ideal) ((c : Thread nD τ).loc main_arg5)) (e : Fin 32)

theorem use1_at (k : Fin 1024) (n : Fin 2048) : use1 c W1 e (ix2 k n) = W1 (ix3 e k n) := by
  unfold use1 k0_pay30
  refine (shapeCast_apply _ _ _ (ix2 k n) rfl).trans ?_
  refine (shapeCast_dropUnit_apply _ (slab1 c W1 e) _ (ix2 k n)).trans ?_
  unfold slab1
  rw [View.readAt_apply]
  refine congrArg W1 (funext fun a => Fin.ext ?_)
  match a with
  | ⟨0, _⟩ => exact (show e.val + 1 * 0 = e.val by omega)
  | ⟨1, _⟩ => exact (show 0 + 1 * k.val = k.val by omega)
  | ⟨2, _⟩ => exact (show 0 + 1 * n.val = n.val by omega)

theorem use2_at (k : Fin 1024) (n : Fin 1024) : use2 c W2 e (ix2 k n) = W2 (ix3 e k n) := by
  unfold use2 k0_pay31
  refine (shapeCast_apply _ _ _ (ix2 k n) rfl).trans ?_
  refine (shapeCast_dropUnit_apply _ (slab2 c W2 e) _ (ix2 k n)).trans ?_
  unfold slab2
  rw [View.readAt_apply]
  refine congrArg W2 (funext fun a => Fin.ext ?_)
  match a with
  | ⟨0, _⟩ => exact (show e.val + 1 * 0 = e.val by omega)
  | ⟨1, _⟩ => exact (show 0 + 1 * k.val = k.val by omega)
  | ⟨2, _⟩ => exact (show 0 + 1 * n.val = n.val by omega)

end Cert.KernelIdeal.Moe
-- ==== Proof.MoeVal.lean ====
/-
  The output array after a run, element by element, over the extended reals.
-/
module

public import proofs.«01_k».proof.Proof.MoeKer
public import proofs.«01_k».proof.Proof.MoeSched
public import Idealize.ShloMosaic.Lib.Pipeline.ValueKit.Geometry
public import Idealize.ShloMosaic.Lib.Pipeline.Covers

@[expose] public section

noncomputable section

namespace Cert.KernelIdeal.Moe

open Cert.KernelIdeal Cert.KernelIdeal.Gen Cert.Spec
open Idealize.ShloMosaic Idealize.ShloMosaic.TcCoe Idealize.ShloMosaic.ValueIdx

section Block

variable (c : Dev nD) (W1 : Buf (Elt Ideal) ((c : Thread nD τ).loc main_arg3)) (W2 : Buf (Elt Ideal) ((c : Thread nD τ).loc main_arg5)) (pl : Plan)
variable (X3 : S4096x128.Idx → EReal) (X5 : S32x1x2048.Idx → EReal) (X7 : S32x1x1024.Idx → EReal)

/-- A row of the block a step reads. -/
def cell (r l : ℕ) (hr : r < 4096) (hl : l < 128) : S4096x128.Idx
  | 0 => ⟨r, hr⟩
  | 1 => ⟨l, hl⟩

/-- What a half of a step's output holds, element by element. -/
theorem blkOut_at (b : ℕ) (hb : b ≤ 2048) (k : ℕ) (r : Fin 4096) (l : Fin 128) (h1 : b ≤ r.val) (h2 : r.val < b + 2048) :
    blkOut (F := Ideal) c W1 W2 pl b hb k X3 X5 X7 (ix2 r l) = if k < pl.nv then
      ffn (fun q => X3 (cell (b + q.val / 128 + 8 * ((r.val - b) / 8)) (q.val % 128) (by omega) (by omega))) (fun q n => W1 (ix3 (pl.ex k) q n)) (fun n => X5 (ix3 (pl.ex k) (0 : Fin 1) n))
        (fun q n => W2 (ix3 (pl.ex k) q n)) (fun n => X7 (ix3 (pl.ex k) (0 : Fin 1) n)) ⟨(r.val - b) % 8 * 128 + l.val, by omega⟩
    else k32 0x00000000#32 := by
  unfold blkOut
  refine if_congr Iff.rfl ?_ rfl
  unfold colOf blockRes
  have ht : (r.val - b) / 8 < 256 := by omega
  refine (extractStridedSlice_apply _ _ _ _ (ix2 (⟨(r.val - b) / 8, ht⟩ : Fin 256) (⟨(r.val - b) % 8 * 128 + l.val, by omega⟩ : Fin 1024)) (fun a => match a with
    | ⟨0, _⟩ => (show (r.val - b) / 8 = 0 + (r.val - b) / 8 % 256 by omega)
    | ⟨1, _⟩ => (show (r.val - b) % 8 * 128 + l.val = 128 * ((r.val - b) % 8) + l.val by omega))).trans ?_
  rw [blockOut_at]
  have e1 : (rowOf (fun j x => X3 ((rowsL b j (inR b hb j)).idx x)) ⟨(r.val - b) / 8, ht⟩)
      = fun q : Fin 1024 => X3 (cell (b + q.val / 128 + 8 * ((r.val - b) / 8)) (q.val % 128) (by omega) (by omega)) := funext fun q => congrArg X3 (funext fun a => Fin.ext (match a with
    | ⟨0, _⟩ => rfl
    | ⟨1, _⟩ => (show 0 + 1 * (q.val % 128) = q.val % 128 by omega)))
  have e2 : (fun (q : Fin 1024) (n : Fin 2048) => use1 c W1 (pl.ex k) (ix2 q n)) = fun q n => W1 (ix3 (pl.ex k) q n) := funext fun q => funext fun n => use1_at c W1 _ q n
  have e3 : (fun (q : Fin 1024) (n : Fin 1024) => use2 c W2 (pl.ex k) (ix2 q n)) = fun q n => W2 (ix3 (pl.ex k) q n) := funext fun q => funext fun n => use2_at c W2 _ q n
  have e4 : (fun n : Fin 2048 => X5 ((Rect.unit (s := S32x1x2048) ![(pl.ex k).val, 0, 0] S1x1x2048.size (inb5 (pl.ex k))).toLoadRect.idx (ix3 (0 : Fin 1) (0 : Fin 1) n))) = fun n => X5 (ix3 (pl.ex k) (0 : Fin 1) n) :=
    funext fun n => congrArg X5 (funext fun a => Fin.ext (match a with
      | ⟨0, _⟩ => (show (pl.ex k).val + 1 * 0 = (pl.ex k).val by omega)
      | ⟨1, _⟩ => rfl
      | ⟨2, _⟩ => (show 0 + 1 * n.val = n.val by omega)))
  have e5 : (fun n : Fin 1024 => X7 ((Rect.unit (s := S32x1x1024) ![(pl.ex k).val, 0, 0] S1x1x1024.size (inb7 (pl.ex k))).toLoadRect.idx (ix3 (0 : Fin 1) (0 : Fin 1) n))) = fun n => X7 (ix3 (pl.ex k) (0 : Fin 1) n) :=
    funext fun n => congrArg X7 (funext fun a => Fin.ext (match a with
      | ⟨0, _⟩ => (show (pl.ex k).val + 1 * 0 = (pl.ex k).val by omega)
      | ⟨1, _⟩ => rfl
      | ⟨2, _⟩ => (show 0 + 1 * n.val = n.val by omega)))
  rw [e1, e2, e3, e4, e5]

end Block

variable (m : (ℓ : Loc nD τ sig) → Buf (Elt Ideal) ℓ) (pl : Plan) (hF : Fits pl (V m 0 main_arg1) (V m 0 main_arg2)) (c : Dev nD)

/-- The rows a step with a valid block reads. -/
theorem iblk0_at (t : Fin (cfgM m pl hF).N) (ht : 2 * t.val < pl.nv) (r l : ℕ) (hr : r < 4096) (hl : l < 128) (h : 4096 * t.val + r < 622592) :
    (iblk m pl hF c 0 t : S4096x128.Idx → EReal) (cell r l hr hl) = V m c main_arg0 (ix2 (⟨4096 * t.val + r, h⟩ : Fin 622592) (⟨l, hl⟩ : Fin 128)) := by
  refine congrArg (V m c main_arg0) (funext fun a => Fin.ext ?_)
  refine (Pipeline.Window.rect_emb_val ((cfgM m pl hF).win 0) t (cell r l hr hl) a).trans ?_
  have e : ((cfgM m pl hF).win 0).index t = ![min (pt ((cfgM m pl hF).grid.coords t)) ((pl.nv - 1) / 2), 0] := rows_map _ pl hF.v _ _ _
  rw [e]
  have ep : pt ((cfgM m pl hF).grid.coords t) = t.val := pt_coords t
  match a with
  | ⟨0, _⟩ => show min (pt ((cfgM m pl hF).grid.coords t)) ((pl.nv - 1) / 2) * 4096 + r = 4096 * t.val + r; rw [ep]; omega
  | ⟨1, _⟩ => show 0 * 128 + l = l; omega

theorem iblk1_at (t : Fin (cfgM m pl hF).N) (x : S32x1x2048.Idx) : (iblk m pl hF c 1 t : S32x1x2048.Idx → EReal) x = V m c main_arg4 x := by
  refine congrArg (V m c main_arg4) (funext fun a => Fin.ext ?_)
  refine (Pipeline.Window.rect_emb_val ((cfgM m pl hF).win 1) t x a).trans ?_
  match a with
  | ⟨0, _⟩ => exact (show 0 * 32 + (x 0).val = (x 0).val by omega)
  | ⟨1, _⟩ => exact (show 0 * 1 + (x 1).val = (x 1).val by omega)
  | ⟨2, _⟩ => exact (show 0 * 2048 + (x 2).val = (x 2).val by omega)

theorem iblk2_at (t : Fin (cfgM m pl hF).N) (x : S32x1x1024.Idx) : (iblk m pl hF c 2 t : S32x1x1024.Idx → EReal) x = V m c main_arg6 x := by
  refine congrArg (V m c main_arg6) (funext fun a => Fin.ext ?_)
  refine (Pipeline.Window.rect_emb_val ((cfgM m pl hF).win 2) t x a).trans ?_
  match a with
  | ⟨0, _⟩ => exact (show 0 * 32 + (x 0).val = (x 0).val by omega)
  | ⟨1, _⟩ => exact (show 0 * 1 + (x 1).val = (x 1).val by omega)
  | ⟨2, _⟩ => exact (show 0 * 1024 + (x 2).val = (x 2).val by omega)

/-- The feed-forward of a start's arguments. -/
abbrev moeM (r l : ℕ) (hr : r < 622592) (hl : l < 128) : EReal := moe (V m c main_arg0) (V m c main_arg3) (V m c main_arg4) (V m c main_arg5) (V m c main_arg6) pl.ex pl.nv r l hr hl

/-- What a half of a step leaves is the feed-forward at its place. -/
theorem half_at (t : ℕ) (ht : t < 152) (X3 : S4096x128.Idx → EReal) (X5 : S32x1x2048.Idx → EReal) (X7 : S32x1x1024.Idx → EReal)
    (h3 : 2 * t < pl.nv → ∀ (r l : ℕ) (hr : r < 4096) (hl : l < 128) (h : 4096 * t + r < 622592), X3 (cell r l hr hl) = V m c main_arg0 (ix2 (⟨4096 * t + r, h⟩ : Fin 622592) (⟨l, hl⟩ : Fin 128)))
    (h5 : ∀ x, X5 x = V m c main_arg4 x) (h7 : ∀ x, X7 x = V m c main_arg6 x)
    (b : ℕ) (hb : b ≤ 2048) (k : ℕ) (hk : b = 2048 * (k - 2 * t)) (hk0 : 2 * t ≤ k) (r : Fin 4096) (l : Fin 128) (h1 : b ≤ r.val) (h2 : r.val < b + 2048) :
    blkOut (F := Ideal) c (V m c main_arg3) (V m c main_arg5) pl b hb k X3 X5 X7 (ix2 r l) = moeM m pl c (4096 * t + r.val) l.val (by omega) l.isLt := by
  rw [blkOut_at c _ _ pl _ _ _ b hb k r l h1 h2]
  have hr := r.isLt
  have e : (4096 * t + r.val) / 2048 = k := by omega
  unfold moeM moe
  by_cases hv : k < pl.nv
  · subst e
    rw [if_pos hv, if_pos hv]
    have e1 : (fun q : Fin 1024 => X3 (cell (b + q.val / 128 + 8 * ((r.val - b) / 8)) (q.val % 128) (by omega) (by omega)))
        = fun q : Fin 1024 => V m c main_arg0 (tok ((4096 * t + r.val) / 2048) ((4096 * t + r.val) % 2048 / 8) q.val (by omega) (by omega) q.isLt) := funext fun q => by
      have hq := q.isLt
      rw [h3 (by omega) _ _ _ _ (by omega)]
      refine congrArg (V m c main_arg0) (funext fun a => Fin.ext ?_)
      match a with
      | ⟨0, _⟩ => show 4096 * t + (b + q.val / 128 + 8 * ((r.val - b) / 8)) = 2048 * ((4096 * t + r.val) / 2048) + 8 * ((4096 * t + r.val) % 2048 / 8) + q.val / 128; omega
      | ⟨1, _⟩ => rfl
    rw [e1, show X5 = V m c main_arg4 from funext h5, show X7 = V m c main_arg6 from funext h7]
    exact congrArg (ffn _ _ _ _ _) (Fin.ext (by show (r.val - b) % 8 * 128 + l.val = (4096 * t + r.val) % 8 * 128 + l.val; omega))
  · rw [if_neg hv, if_neg (e ▸ hv)]

theorem step_at (t : Fin (cfgM m pl hF).N) (ht : t.val < 152) (r : Fin 4096) (l : Fin 128) :
    ((dats m pl hF 0 c).after 3 t : S4096x128.Idx → EReal) (ix2 r l) = moeM m pl c (4096 * t.val + r.val) l.val (by omega) l.isLt := by
  show stepOut c (V m c main_arg3) (V m c main_arg5) pl t.val (iblk m pl hF c 0 t) (iblk m pl hF c 1 t) (iblk m pl hF c 2 t) (ix2 r l) = _
  unfold stepOut
  by_cases h : r.val < 2048
  · exact (if_pos h).trans (half_at m pl c t.val ht _ _ _ (iblk0_at m pl hF c t) (iblk1_at m pl hF c t) (iblk2_at m pl hF c t) 0 _ (2 * t.val) (by omega) (by omega) r l (by omega) (by omega))
  · exact (if_neg h).trans (half_at m pl c t.val ht _ _ _ (iblk0_at m pl hF c t) (iblk1_at m pl hF c t) (iblk2_at m pl hF c t) 2048 _ (2 * t.val + 1) (by omega) (by omega) r l (by omega) (by have := r.isLt; omega))

/-- The output's blocks fill it. -/
theorem covers3 : ((cfgM m pl hF).win 3).Covers :=
  ((cfgM m pl hF).win 3).covers_of_indexMap_surj rfl (show ∀ a : Fin 2, 0 < (![4096, 128] : Fin 2 → ℕ) a by decide) fun β => by
    have h0 : (β (0 : Fin 2)).val < 152 := Nat.lt_of_lt_of_eq (β (0 : Fin 2)).isLt (show (622592 + 4096 - 1) / 4096 = 152 by norm_num)
    have h1 : (β (1 : Fin 2)).val < 1 := Nat.lt_of_lt_of_eq (β (1 : Fin 2)).isLt (show (128 + 128 - 1) / 128 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

/-- The output after a run. -/
theorem out_at (r : Fin 622592) (l : Fin 128) : ((dats m pl hF 0 c).arrAt 3 (cfgM m pl hF).N : S622592x128.Idx → EReal) (ix2 r l) = moeM m pl c r.val l.val r.isLt l.isLt := by
  have h := (dats m pl hF 0 c).arrAt_eq_of_covers 3 (fun y : S622592x128.Idx => moeM m pl c (y 0).val (y 1).val (y 0).isLt (y 1).isLt) (covers3 m pl hF) (fun t _ y => by
    have ht : t.val < 152 := t.isLt
    have ei : ((cfgM m pl hF).win 3).index t = ![t.val, 0] := by
      show ![(BitVec.ofNat 32 (pt ((cfgM m pl hF).grid.coords t))).toNat, 0] = _
      rw [show pt ((cfgM m pl hF).grid.coords t) = t.val from pt_coords t, BitVec.toNat_ofNat, Nat.mod_eq_of_lt (by omega)]
    have e0 : (((((cfgM m pl hF).win 3).blk t).view.emb y) (0 : Fin 2)).val = 4096 * t.val + (y (0 : Fin 2)).val :=
      (Pipeline.Window.rect_emb_val ((cfgM m pl hF).win 3) t y (0 : Fin 2)).trans (by rw [ei]; show t.val * 4096 + _ = _; omega)
    have e1 : (((((cfgM m pl hF).win 3).blk t).view.emb y) (1 : Fin 2)).val = (y (1 : Fin 2)).val :=
      (Pipeline.Window.rect_emb_val ((cfgM m pl hF).win 3) t y (1 : Fin 2)).trans (by rw [ei]; show 0 * 128 + _ = _; omega)
    refine (step_at m pl hF c t ht (y (0 : Fin 2)) (y (1 : Fin 2))).trans ?_
    show moeM m pl c _ _ _ _ = moeM m pl c _ _ _ _
    congr 1
    · exact e0.symm
    · exact e1.symm)
  exact congrFun h (ix2 r l)

end Cert.KernelIdeal.Moe
-- ==== Proof.MoeRef.lean ====
/-
  The reference at an element: its expert's feed-forward of its token.
-/
module

public import proofs.«01_k».proof.Proof.Gen.ReferenceIdeal.Read
public import proofs.«01_k».proof.Proof.Spec
public import Idealize.ShloMosaic.Lib.ValueIdx
public import Idealize.ShloMosaic.Lib.Affine

@[expose] public section

noncomputable section

namespace Cert.ReferenceIdeal.MoeRef

open Cert.ReferenceIdeal Cert.ReferenceIdeal.Gen Cert.ReferenceIdeal.Read Cert.Spec
open Idealize.ShloMosaic Idealize.ShloMosaic.ValueIdx

/-- The dimension numbers of a whole slab's gather, one for each of `B` rows of start indices. -/
abbrev slabDims (E R C B : ℕ) (wf : GatherDims.WF ⟨3, ![E, R, C]⟩ ⟨2, ![B, 3]⟩ ⟨4, ![B, 1, R, C]⟩ [1, 2, 3] [] [] [0, 1, 2] [] 1 ![1, R, C]) :
    GatherDims ⟨3, ![E, R, C]⟩ ⟨2, ![B, 3]⟩ ⟨4, ![B, 1, R, C]⟩ where
  offsetDims := [1, 2, 3]
  collapsedSliceDims := []
  operandBatchingDims := []
  startIndicesBatchingDims := []
  startIndexMap := [0, 1, 2]
  indexVectorDim := 1
  sliceSizes := ![1, R, C]
  wf := wf

theorem gather_slab {α : Type} {E R C B : ℕ} (wf) (x : (⟨3, ![E, R, C]⟩ : Shape).Idx → α) (idx : IVec ⟨2, ![B, 3]⟩ 32) (b : Fin B) (r : Fin R) (n : Fin C) (e : Fin E)
    (h : idx (ix2 b 0) = BitVec.ofNat 32 e.val) (he : e.val < 2 ^ 31) :
    Host.gather (slabDims E R C B wf) x idx (ix4 b 0 r n) = x (ix3 e r n) := by
  unfold Host.gather
  refine congrArg x (funext fun a => Fin.ext ?_)
  show (slabDims E R C B wf).start (ix4 b 0 r n) idx a + (slabDims E R C B wf).batchCoord (ix4 b 0 r n) a + (slabDims E R C B wf).offCoord (ix4 b 0 r n) a = _
  rw [GatherDims.batchCoord_eq_zero _ _ _ (fun h => by simp at h)]
  match a with
  | ⟨0, _⟩ =>
    have s : (slabDims E R C B wf).start (ix4 b 0 r n) idx 0 = min (idx (ix2 b 0)).toInt.toNat (E - 1) := by
      unfold GatherDims.start
      rw [dif_pos (by simp)]
      have hsi : (slabDims E R C B wf).siIdx (ix4 b 0 r n) ⟨List.idxOf (0 : Fin 3) (slabDims E R C B wf).startIndexMap, List.idxOf_lt_length_iff.2 (by simp)⟩ = ix2 b 0 := by
        funext q; refine Fin.ext ?_
        match q with
        | ⟨0, _⟩ => rfl
        | ⟨1, _⟩ => rfl
      rw [hsi]
      rfl
    have o : (slabDims E R C B wf).offCoord (ix4 b 0 r n) 0 = 0 := rfl
    show (slabDims E R C B wf).start (ix4 b 0 r n) idx 0 + 0 + (slabDims E R C B wf).offCoord (ix4 b 0 r n) 0 = e.val
    rw [s, o, h, BitVec.toInt_eq_toNat_of_lt (by rw [BitVec.toNat_ofNat, Nat.mod_eq_of_lt (by omega)]; omega), Int.toNat_natCast, BitVec.toNat_ofNat, Nat.mod_eq_of_lt (by omega)]
    have := e.isLt
    omega
  | ⟨1, _⟩ =>
    have s := (slabDims E R C B wf).start_le (ix4 b 0 r n) idx 1
    have s' : (slabDims E R C B wf).start (ix4 b 0 r n) idx 1 ≤ R - R := s
    show (slabDims E R C B wf).start (ix4 b 0 r n) idx 1 + 0 + r.val = r.val
    omega
  | ⟨2, _⟩ =>
    have s := (slabDims E R C B wf).start_le (ix4 b 0 r n) idx 2
    have s' : (slabDims E R C B wf).start (ix4 b 0 r n) idx 2 ≤ C - C := s
    show (slabDims E R C B wf).start (ix4 b 0 r n) idx 2 + 0 + n.val = n.val
    omega

section Word
variable (x1 : (⟨S3x304, .i32⟩ : BufTy).Contents (Elt Ideal)) (e : Fin 32) (b : Fin 304) (h : x1 (ix2 (0 : Fin 3) b) = BitVec.ofNat 32 e.val)

theorem fix (e : Fin 32) : Scalar.select (IntOp.cmpi .slt (BitVec.ofNat 32 e.val) 0#32) (IntOp.addi (BitVec.ofNat 32 e.val) 32#32) (BitVec.ofNat 32 e.val) = BitVec.ofNat 32 e.val := by
  revert e; decide

include h in
theorem v2_word : val_main_v2 (F := Ideal) x1 (ix1 b) = BitVec.ofNat 32 e.val := by
  rw [val_main_v2_apply, val_main_v1_apply]
  refine (congrArg x1 (funext fun a => Fin.ext ?_)).trans h
  match a with
  | ⟨0, _⟩ => rfl
  | ⟨1, _⟩ => exact Nat.mod_eq_of_lt b.isLt

/-- Of three columns side by side the first is the first's. -/
theorem three_first (y₀ y₁ y₂ : S304x1.Idx → BitVec 32) (hc) : concatenate S304x3 1 [⟨S304x1, y₀⟩, ⟨S304x1, y₁⟩, ⟨S304x1, y₂⟩] hc (ix2 b (0 : Fin 3)) = y₀ (ix2 b (0 : Fin 1)) :=
  concatenate_apply_piece (t := S304x3) (i := ix2 b (0 : Fin 1)) 1 _ hc (ix2 b (0 : Fin 3)) 0 (Nat.succ_pos 2) S304x1 y₀ rfl rfl 0 rfl (fun q hq => match q with
    | ⟨0, _⟩ => rfl
    | ⟨1, _⟩ => absurd rfl hq) rfl

include h in
theorem v17_word : val_main_v17 (F := Ideal) x1 (ix2 b (0 : Fin 3)) = BitVec.ofNat 32 e.val := by
  unfold val_main_v17
  rw [three_first]
  rw [val_main_v14_apply, val_main_v7_apply, show idx_main_v14 (ix2 b (0 : Fin 1)) = ix1 b from funext fun q => match q with | ⟨0, _⟩ => rfl]
  rw [val_main_v4_apply, val_main_v6_apply, v2_word x1 e b h]
  exact fix e

include h in
theorem v19_at (x3 : (⟨S32x1024x2048, .f32⟩ : BufTy).Contents (Elt Ideal)) (k : Fin 1024) (n : Fin 2048) : val_main_v19 (F := Ideal) x1 x3 (ix3 b k n) = x3 (ix3 e k n) := by
  rw [val_main_v19_apply, show idx_main_v19 (ix3 b k n) = ix4 b (0 : Fin 1) k n from ?_]
  · exact gather_slab gather_S32x1024x2048_S304x3_S304x1x1024x2048_123_n_n_n_012_1_110242048_wf x3 _ b k n e (v17_word x1 e b h) (by have := e.isLt; omega)
  · funext a
    apply Fin.ext
    have := b.isLt
    have := k.isLt
    have := n.isLt
    match a with
    | ⟨0, _⟩ => show ((b.val * 1024 + k.val) * 2048 + n.val) / 2097152 = b.val; omega
    | ⟨1, _⟩ => rfl
    | ⟨2, _⟩ => show ((b.val * 1024 + k.val) * 2048 + n.val) / 2048 % 1024 = k.val; omega
    | ⟨3, _⟩ => show ((b.val * 1024 + k.val) * 2048 + n.val) % 2048 = n.val; omega

include h in
theorem v35_word : val_main_v35 (F := Ideal) x1 (ix2 b (0 : Fin 3)) = BitVec.ofNat 32 e.val := by
  unfold val_main_v35
  rw [three_first]
  rw [val_main_v32_apply, val_main_v25_apply, show idx_main_v32 (ix2 b (0 : Fin 1)) = ix1 b from funext fun q => match q with | ⟨0, _⟩ => rfl]
  rw [val_main_v22_apply, val_main_v24_apply, v2_word x1 e b h]
  exact fix e

include h in
theorem v71_word : val_main_v71 (F := Ideal) x1 (ix2 b (0 : Fin 3)) = BitVec.ofNat 32 e.val := by
  unfold val_main_v71
  rw [three_first]
  rw [val_main_v68_apply, val_main_v61_apply, show idx_main_v68 (ix2 b (0 : Fin 1)) = ix1 b from funext fun q => match q with | ⟨0, _⟩ => rfl]
  rw [val_main_v58_apply, val_main_v60_apply, v2_word x1 e b h]
  exact fix e

include h in
theorem v89_word : val_main_v89 (F := Ideal) x1 (ix2 b (0 : Fin 3)) = BitVec.ofNat 32 e.val := by
  unfold val_main_v89
  rw [three_first]
  rw [val_main_v86_apply, val_main_v79_apply, show idx_main_v86 (ix2 b (0 : Fin 1)) = ix1 b from funext fun q => match q with | ⟨0, _⟩ => rfl]
  rw [val_main_v76_apply, val_main_v78_apply, v2_word x1 e b h]
  exact fix e

include h in
theorem v73_at (x5 : (⟨S32x1024x1024, .f32⟩ : BufTy).Contents (Elt Ideal)) (k : Fin 1024) (n : Fin 1024) : val_main_v73 (F := Ideal) x1 x5 (ix3 b k n) = x5 (ix3 e k n) := by
  rw [val_main_v73_apply, show idx_main_v73 (ix3 b k n) = ix4 b (0 : Fin 1) k n from ?_]
  · exact gather_slab gather_S32x1024x1024_S304x3_S304x1x1024x1024_123_n_n_n_012_1_110241024_wf x5 _ b k n e (v71_word x1 e b h) (by have := e.isLt; omega)
  · funext a
    apply Fin.ext
    have := b.isLt
    have := k.isLt
    have := n.isLt
    match a with
    | ⟨0, _⟩ => show ((b.val * 1024 + k.val) * 1024 + n.val) / 1048576 = b.val; omega
    | ⟨1, _⟩ => rfl
    | ⟨2, _⟩ => show ((b.val * 1024 + k.val) * 1024 + n.val) / 1024 % 1024 = k.val; omega
    | ⟨3, _⟩ => show ((b.val * 1024 + k.val) * 1024 + n.val) % 1024 = n.val; omega

include h in
theorem v37_at (x4 : (⟨S32x1x2048, .f32⟩ : BufTy).Contents (Elt Ideal)) (t : Fin 256) (n : Fin 2048) : val_main_v38 (F := Ideal) x1 x4 (ix3 b t n) = x4 (ix3 e (0 : Fin 1) n) := by
  rw [val_main_v38_apply, val_main_v37_apply, show idx_main_v37 (idx_main_v38 (ix3 b t n)) = ix4 b (0 : Fin 1) (0 : Fin 1) n from ?_]
  · exact gather_slab gather_S32x1x2048_S304x3_S304x1x1x2048_123_n_n_n_012_1_112048_wf x4 _ b 0 n e (v35_word x1 e b h) (by have := e.isLt; omega)
  · funext a
    apply Fin.ext
    have := b.isLt
    have := n.isLt
    match a with
    | ⟨0, _⟩ => show ((b.val * 1 + 0) * 2048 + n.val) / 2048 = b.val; omega
    | ⟨1, _⟩ => rfl
    | ⟨2, _⟩ => rfl
    | ⟨3, _⟩ => show ((b.val * 1 + 0) * 2048 + n.val) % 2048 = n.val; omega

include h in
theorem v91_at (x6 : (⟨S32x1x1024, .f32⟩ : BufTy).Contents (Elt Ideal)) (t : Fin 256) (n : Fin 1024) : val_main_v92 (F := Ideal) x1 x6 (ix3 b t n) = x6 (ix3 e (0 : Fin 1) n) := by
  rw [val_main_v92_apply, val_main_v91_apply, show idx_main_v91 (idx_main_v92 (ix3 b t n)) = ix4 b (0 : Fin 1) (0 : Fin 1) n from ?_]
  · exact gather_slab gather_S32x1x1024_S304x3_S304x1x1x1024_123_n_n_n_012_1_111024_wf x6 _ b 0 n e (v89_word x1 e b h) (by have := e.isLt; omega)
  · funext a
    apply Fin.ext
    have := b.isLt
    have := n.isLt
    match a with
    | ⟨0, _⟩ => show ((b.val * 1 + 0) * 1024 + n.val) / 1024 = b.val; omega
    | ⟨1, _⟩ => rfl
    | ⟨2, _⟩ => rfl
    | ⟨3, _⟩ => show ((b.val * 1 + 0) * 1024 + n.val) % 1024 = n.val; omega

end Word

section Value
variable (x0 : (⟨S622592x128, .f32⟩ : BufTy).Contents (Elt Ideal)) (x1 : (⟨S3x304, .i32⟩ : BufTy).Contents (Elt Ideal)) (x2 : (⟨S1, .i32⟩ : BufTy).Contents (Elt Ideal))
  (x3 : (⟨S32x1024x2048, .f32⟩ : BufTy).Contents (Elt Ideal)) (x4 : (⟨S32x1x2048, .f32⟩ : BufTy).Contents (Elt Ideal))
  (x5 : (⟨S32x1024x1024, .f32⟩ : BufTy).Contents (Elt Ideal)) (x6 : (⟨S32x1x1024, .f32⟩ : BufTy).Contents (Elt Ideal))
  (e : Fin 32) (b : Fin 304) (h : x1 (ix2 (0 : Fin 3) b) = BitVec.ofNat 32 e.val)

theorem v0_at (t : Fin 256) (k : Fin 1024) : val_main_v0 (F := Ideal) x0 (ix3 b t k) = x0 (tok b.val t.val k.val b.isLt t.isLt k.isLt) := by
  rw [val_main_v0_apply]
  refine congrArg x0 (funext fun a => Fin.ext ?_)
  have := b.isLt
  have := t.isLt
  have := k.isLt
  match a with
  | ⟨0, _⟩ => show ((b.val * 256 + t.val) * 1024 + k.val) / 128 = 2048 * b.val + 8 * t.val + k.val / 128; omega
  | ⟨1, _⟩ => show ((b.val * 256 + t.val) * 1024 + k.val) % 128 = k.val % 128; omega

/-- A token's half-way row, by the specification. -/
abbrev guS (t : Fin 256) : Fin 2048 → EReal :=
  gu (fun k => x0 (tok b.val t.val k.val b.isLt t.isLt k.isLt)) (fun k n => x3 (ix3 e k n)) (fun n => x4 (ix3 e (0 : Fin 1) n))

include h in
theorem v39_at (t : Fin 256) (n : Fin 2048) : val_main_v39 (F := Ideal) x0 x1 x3 x4 (ix3 b t n) = guS x0 x3 x4 e b t n := by
  rw [val_main_v39_apply, v37_at x1 e b h, val_main_v20_apply, Ideal.addf_def]
  refine congrArg (· + _) (Finset.sum_congr rfl fun k _ => ?_)
  rw [show lidx_main_v20 (ix3 b t n) k = ix3 b t k from funext fun a => match a with | ⟨0, _⟩ => rfl | ⟨1, _⟩ => rfl | ⟨2, _⟩ => rfl,
    show ridx_main_v20 (ix3 b t n) k = ix3 b k n from funext fun a => match a with | ⟨0, _⟩ => rfl | ⟨1, _⟩ => rfl | ⟨2, _⟩ => rfl,
    v0_at, v19_at x1 e b h]

include h in
theorem v43_at (t : Fin 256) (k : Fin 1024) : val_main_v43 (F := Ideal) x0 x1 x3 x4 (ix3 b t k) = min (guS x0 x3 x4 e b t ⟨k.val, by omega⟩) (k32 0x40E00000#32) := by
  rw [val_main_v43_apply, val_main_v40_apply, show idx_main_v40 (ix3 b t k) = ix3 b t ⟨k.val, by omega⟩ from funext fun a => match a with | ⟨0, _⟩ => rfl | ⟨1, _⟩ => rfl | ⟨2, _⟩ => rfl,
    v39_at x0 x1 x3 x4 e b h]
  rfl

include h in
theorem v56_at (t : Fin 256) (k : Fin 1024) : val_main_v56 (F := Ideal) x0 x1 x3 x4 (ix3 b t k) = act (guS x0 x3 x4 e b t) k := by
  have h41 : val_main_v41 (F := Ideal) x0 x1 x3 x4 (ix3 b t k) = guS x0 x3 x4 e b t ⟨1024 + k.val, by omega⟩ := by
    rw [val_main_v41_apply, show idx_main_v41 (ix3 b t k) = ix3 b t ⟨1024 + k.val, by omega⟩ from funext fun a => match a with | ⟨0, _⟩ => rfl | ⟨1, _⟩ => rfl | ⟨2, _⟩ => rfl,
      v39_at x0 x1 x3 x4 e b h]
  have h43 := v43_at x0 x1 x3 x4 e b h t k
  rw [val_main_v56_apply, val_main_v55_apply, val_main_v54_apply, val_main_v52_apply, val_main_v50_apply, val_main_v49_apply, val_main_v48_apply, val_main_v46_apply, h43]
  rw [val_main_v44_apply, val_main_call0_v2_apply, h41]
  rfl

include h in
theorem v93_at (t : Fin 256) (n : Fin 1024) : val_main_v93 (F := Ideal) x0 x1 x3 x4 x5 x6 (ix3 b t n)
    = ffn (fun k => x0 (tok b.val t.val k.val b.isLt t.isLt k.isLt)) (fun k n => x3 (ix3 e k n)) (fun n => x4 (ix3 e (0 : Fin 1) n))
      (fun k n => x5 (ix3 e k n)) (fun n => x6 (ix3 e (0 : Fin 1) n)) n := by
  rw [val_main_v93_apply, v91_at x1 e b h, val_main_v74_apply, Ideal.addf_def]
  refine congrArg (· + _) (Finset.sum_congr rfl fun k _ => ?_)
  rw [show lidx_main_v74 (ix3 b t n) k = ix3 b t k from funext fun a => match a with | ⟨0, _⟩ => rfl | ⟨1, _⟩ => rfl | ⟨2, _⟩ => rfl,
    show ridx_main_v74 (ix3 b t n) k = ix3 b k n from funext fun a => match a with | ⟨0, _⟩ => rfl | ⟨1, _⟩ => rfl | ⟨2, _⟩ => rfl,
    v56_at x0 x1 x3 x4 e b h, v73_at x1 e b h]

include h in
/-- The reference's element of block `b`, token `t`, column `n`. -/
theorem v99_at (nv : ℕ) (hnv : nv ≤ 304) (hv : x2 (ix1 (0 : Fin 1)) = BitVec.ofNat 32 nv) (t : Fin 256) (n : Fin 1024) :
    val_main_v99 (F := Ideal) x0 x1 x2 x3 x4 x5 x6 (ix3 b t n)
    = if b.val < nv then ffn (fun k => x0 (tok b.val t.val k.val b.isLt t.isLt k.isLt)) (fun k n => x3 (ix3 e k n)) (fun n => x4 (ix3 e (0 : Fin 1) n))
      (fun k n => x5 (ix3 e k n)) (fun n => x6 (ix3 e (0 : Fin 1) n)) n else k32 0x00000000#32 := by
  rw [val_main_v99_apply, v93_at x0 x1 x3 x4 x5 x6 e b h, val_main_call1_v1_apply, val_main_v98_apply, val_main_v97_apply, val_main_v94_apply, val_main_v96_apply]
  have e95 : val_main_v95 (F := Ideal) x2 (idx_main_v96 (idx_main_v98 (idx_main_call1_v1 (ix3 b t n)))) = BitVec.ofNat 32 nv := by
    unfold val_main_v95
    refine Eq.trans (congrArg x2 (funext fun a => Fin.ext ?_)) hv
    match a with
    | ⟨0, _⟩ => exact Nat.lt_one_iff.1 (Fin.isLt _)
  rw [e95]
  show (if IntOp.cmpi .slt (BitVec.ofNat 32 b.val) (BitVec.ofNat 32 nv) = 1#1 then _ else _) = _
  have hb := b.isLt
  refine if_congr ?_ rfl rfl
  rw [IntOp.cmpi_slt, BitVec.toInt_eq_toNat_of_lt (by rw [BitVec.toNat_ofNat, Nat.mod_eq_of_lt (by omega)]; omega), BitVec.toInt_eq_toNat_of_lt (by rw [BitVec.toNat_ofNat, Nat.mod_eq_of_lt (by omega)]; omega),
    BitVec.toNat_ofNat, BitVec.toNat_ofNat, Nat.mod_eq_of_lt (by omega), Nat.mod_eq_of_lt (by omega)]
  omega

/-- The reference, element by element. -/
theorem v100_at (ex : ℕ → Fin 32) (hx : ∀ b : Fin 304, x1 (ix2 (0 : Fin 3) b) = BitVec.ofNat 32 (ex b.val).val) (nv : ℕ) (hnv : nv ≤ 304) (hv : x2 (ix1 (0 : Fin 1)) = BitVec.ofNat 32 nv)
    (r : Fin 622592) (l : Fin 128) : val_main_v100 (F := Ideal) x0 x1 x2 x3 x4 x5 x6 (ix2 r l) = moe x0 x3 x4 x5 x6 ex nv r.val l.val r.isLt l.isLt := by
  have hr := r.isLt
  have hl := l.isLt
  rw [val_main_v100_apply, show idx_main_v100 (ix2 r l) = ix3 (⟨r.val / 2048, by omega⟩ : Fin 304) (⟨r.val % 2048 / 8, by omega⟩ : Fin 256) (⟨r.val % 8 * 128 + l.val, by omega⟩ : Fin 1024) from ?_]
  · exact v99_at x0 x1 x2 x3 x4 x5 x6 (ex (r.val / 2048)) ⟨r.val / 2048, by omega⟩ (hx _) nv hnv hv _ _
  · funext a
    apply Fin.ext
    match a with
    | ⟨0, _⟩ => show (r.val * 128 + l.val) / 262144 = r.val / 2048; omega
    | ⟨1, _⟩ => show (r.val * 128 + l.val) / 1024 % 256 = r.val % 2048 / 8; omega
    | ⟨2, _⟩ => show (r.val * 128 + l.val) % 1024 = r.val % 8 * 128 + l.val; omega

end Value

end Cert.ReferenceIdeal.MoeRef
-- ==== Proof.InSpec.lean ====
/-
  The input projection of one row, over the extended reals.
-/
module

public import proofs.«01_k».proof.Proof.Spec

@[expose] public section

noncomputable section

namespace Cert.Spec

open Idealize.ShloMosaic Idealize.ShloMosaic.ValueIdx

/-- A row over its root mean square, scaled. -/
def nrm (x g : Fin 1024 → EReal) (k : Fin 1024) : EReal :=
  x k * Ideal.rsqrt (Ideal.div (∑ j, x j * x j) (k32 0x44800000#32) + k32 0x358637BD#32) * g k

/-- The normalised row times one column. -/
def proj (x g w : Fin 1024 → EReal) : EReal := ∑ k, nrm x g k * w k

/-- The logistic. -/
def sgm (z : EReal) : EReal := Ideal.div (k32 0x3F800000#32) (k32 0x3F800000#32 + Ideal.exp (-z))

/-- Row `r` of the first array above the second. -/
def row (XP : (⟨2, ![16384, 1024]⟩ : Shape).Idx → EReal) (XS : (⟨2, ![1024, 1024]⟩ : Shape).Idx → EReal) (r : ℕ) (hr : r < 17408) (k : Fin 1024) : EReal :=
  if h : r < 16384 then XP (ix2 (⟨r, h⟩ : Fin 16384) k) else XS (ix2 (⟨r - 16384, by omega⟩ : Fin 1024) k)

/-- Row `r` projected on column `n`. -/
def inp (XP : (⟨2, ![16384, 1024]⟩ : Shape).Idx → EReal) (XS : (⟨2, ![1024, 1024]⟩ : Shape).Idx → EReal) (G : (⟨1, ![1024]⟩ : Shape).Idx → EReal)
    (W : (⟨2, ![1024, 5128]⟩ : Shape).Idx → EReal) (r n : ℕ) (hr : r < 17408) (hn : n < 5128) : EReal :=
  proj (row XP XS r hr) (fun k => G (ix1 k)) (fun k => W (ix2 k (⟨n, hn⟩ : Fin 5128)))

end Cert.Spec
-- ==== Proof.InRef.lean ====
/-
  The projection's reference, element by element, over the extended reals.
-/
module

public import proofs.«01_k».proof.Proof.Gen.Reference2Ideal.Read
public import proofs.«01_k».proof.Proof.InSpec
public import Idealize.ShloMosaic.Lib.ValueIdx
public import Idealize.ShloMosaic.Lib.Pipeline.Value

@[expose] public section

noncomputable section

namespace Cert.Reference2Ideal.InRef

open Cert.Reference2Ideal Cert.Reference2Ideal.Gen Cert.Reference2Ideal.Read Cert.Spec
open Idealize.ShloMosaic Idealize.ShloMosaic.ValueIdx

variable (x0 : S16384x1024.Idx → EReal) (x1 : S1024x1024.Idx → EReal) (x2 : S1024.Idx → EReal) (x3 : S1024x5128.Idx → EReal)

/-- The rows joined. -/
theorem v0_at (r : Fin 17408) (k : Fin 1024) : val_main_v0 (F := Ideal) x0 x1 (ix2 r k) = row x0 x1 r.val r.isLt k := by
  unfold val_main_v0 row
  by_cases h : r.val < 16384
  · rw [dif_pos h]
    exact concatenate_apply_piece (t := S17408x1024) (i := ix2 (⟨r.val, h⟩ : Fin 16384) k) 0 [⟨S16384x1024, x0⟩, ⟨S1024x1024, x1⟩] concatenates_S16384x1024_S1024x1024_S17408x1024_d0 (ix2 r k) 0 (Nat.succ_pos 1) S16384x1024 x0 rfl rfl 0 rfl
      (fun q hq => match q with
        | ⟨0, _⟩ => absurd rfl hq
        | ⟨1, _⟩ => rfl) (Nat.zero_add _)
  · rw [dif_neg h]
    exact concatenate_apply_piece (t := S17408x1024) (i := ix2 (⟨r.val - 16384, by omega⟩ : Fin 1024) k) 0 [⟨S16384x1024, x0⟩, ⟨S1024x1024, x1⟩] concatenates_S16384x1024_S1024x1024_S17408x1024_d0 (ix2 r k) 1 (Nat.lt_succ_self 1) S1024x1024 x1 rfl rfl 16384 rfl
      (fun q hq => match q with
        | ⟨0, _⟩ => absurd rfl hq
        | ⟨1, _⟩ => rfl) (show 16384 + (r.val - 16384) = r.val by omega)

/-- The rows normalised. -/
theorem v13_at (r : Fin 17408) (k : Fin 1024) : val_main_v13 (F := Ideal) x0 x1 x2 (ix2 r k) = nrm (row x0 x1 r.val r.isLt) (fun k => x2 (ix1 k)) k := by
  rw [val_main_v13_apply, val_main_v10_apply, val_main_v9_apply, val_main_v12_apply, val_main_v11_apply, val_main_v8_apply, val_main_v7_apply, val_main_v5_apply, val_main_v3_apply,
    val_main_v4_apply, val_main_v6_apply, val_main_v2_apply, v0_at]
  unfold nrm
  refine congrArg₂ (fun p q : EReal => row x0 x1 r.val r.isLt k * Ideal.rsqrt (Ideal.div p (k32 0x44800000#32) + k32 0x358637BD#32) * q) ?_ ?_
  · refine Eq.trans (congrArg₂ (· + ·) (y' := ∑ j : Fin 1024, row x0 x1 r.val r.isLt j * row x0 x1 r.val r.isLt j) Ideal.ofBits_zero_f32 ?_) (zero_add _)
    refine Finset.sum_congr rfl fun j _ => ?_
    rw [val_main_v1_apply]
    have e : idx_main_v2 (idx_main_v3 (idx_main_v9 (ix2 r k))) j = ix2 r j := funext fun a => match a with | ⟨0, _⟩ => rfl | ⟨1, _⟩ => rfl
    rw [e, v0_at]
    rfl
  · exact congrArg x2 (funext fun a => match a with | ⟨0, _⟩ => rfl)

/-- The projection. -/
theorem v14_at (r : Fin 17408) (n : Fin 5128) : val_main_v14 (F := Ideal) x0 x1 x2 x3 (ix2 r n) = inp x0 x1 x2 x3 r.val n.val r.isLt n.isLt := by
  rw [val_main_v14_apply]
  unfold inp proj
  refine Finset.sum_congr rfl fun k _ => congrArg₂ (· * ·) (Eq.trans (congrArg (val_main_v13 (F := Ideal) x0 x1 x2) ?_) (v13_at x0 x1 x2 r k)) (congrArg x3 ?_)
  · exact funext fun a => match a with | ⟨0, _⟩ => rfl | ⟨1, _⟩ => rfl
  · exact funext fun a => match a with | ⟨0, _⟩ => rfl | ⟨1, _⟩ => rfl

theorem v15_at (r : Fin 17408) (n : Fin 512) : val_main_v15 (F := Ideal) x0 x1 x2 x3 (ix2 r n) = inp x0 x1 x2 x3 r.val (n.val) r.isLt (by omega) := by
  have e : idx_main_v15 (ix2 r n) = ix2 r (⟨n.val, by omega⟩ : Fin 5128) := funext fun a => match a with | ⟨0, _⟩ => rfl | ⟨1, _⟩ => rfl
  rw [val_main_v15_apply, e, v14_at]

theorem v16_at (r : Fin 17408) (n : Fin 512) : val_main_v16 (F := Ideal) x0 x1 x2 x3 (ix2 r n) = inp x0 x1 x2 x3 r.val (512 + n.val) r.isLt (by omega) := by
  have e : idx_main_v16 (ix2 r n) = ix2 r (⟨512 + n.val, by omega⟩ : Fin 5128) := funext fun a => match a with | ⟨0, _⟩ => rfl | ⟨1, _⟩ => rfl
  rw [val_main_v16_apply, e, v14_at]

theorem v17_at (r : Fin 17408) (n : Fin 1536) : val_main_v17 (F := Ideal) x0 x1 x2 x3 (ix2 r n) = inp x0 x1 x2 x3 r.val (1024 + n.val) r.isLt (by omega) := by
  have e : idx_main_v17 (ix2 r n) = ix2 r (⟨1024 + n.val, by omega⟩ : Fin 5128) := funext fun a => match a with | ⟨0, _⟩ => rfl | ⟨1, _⟩ => rfl
  rw [val_main_v17_apply, e, v14_at]

theorem v18_at (r : Fin 17408) (n : Fin 512) : val_main_v18 (F := Ideal) x0 x1 x2 x3 (ix2 r n) = inp x0 x1 x2 x3 r.val (2560 + n.val) r.isLt (by omega) := by
  have e : idx_main_v18 (ix2 r n) = ix2 r (⟨2560 + n.val, by omega⟩ : Fin 5128) := funext fun a => match a with | ⟨0, _⟩ => rfl | ⟨1, _⟩ => rfl
  rw [val_main_v18_apply, e, v14_at]

theorem v21_at (r : Fin 17408) (n : Fin 1024) : val_main_v21 (F := Ideal) x0 x1 x2 x3 (ix2 r n) = inp x0 x1 x2 x3 r.val (3080 + n.val) r.isLt (by omega) := by
  have e : idx_main_v21 (ix2 r n) = ix2 r (⟨3080 + n.val, by omega⟩ : Fin 5128) := funext fun a => match a with | ⟨0, _⟩ => rfl | ⟨1, _⟩ => rfl
  rw [val_main_v21_apply, e, v14_at]

theorem v22_at (r : Fin 17408) (n : Fin 1024) : val_main_v22 (F := Ideal) x0 x1 x2 x3 (ix2 r n) = inp x0 x1 x2 x3 r.val (4104 + n.val) r.isLt (by omega) := by
  have e : idx_main_v22 (ix2 r n) = ix2 r (⟨4104 + n.val, by omega⟩ : Fin 5128) := funext fun a => match a with | ⟨0, _⟩ => rfl | ⟨1, _⟩ => rfl
  rw [val_main_v22_apply, e, v14_at]

theorem v35_at (r : Fin 17408) (n : Fin 1024) : val_main_v35 (F := Ideal) x0 x1 x2 x3 (ix2 r n) = sgm (inp x0 x1 x2 x3 r.val (3080 + n.val) r.isLt (by omega)) := by
  rw [val_main_v35_apply, val_main_v34_apply, val_main_v33_apply, val_main_v32_apply, val_main_v31_apply, val_main_v30_apply, v21_at]
  rfl

theorem v41_at (r : Fin 17408) (n : Fin 1024) : val_main_v41 (F := Ideal) x0 x1 x2 x3 (ix2 r n) = sgm (inp x0 x1 x2 x3 r.val (4104 + n.val) r.isLt (by omega)) := by
  rw [val_main_v41_apply, val_main_v40_apply, val_main_v39_apply, val_main_v38_apply, val_main_v37_apply, val_main_v36_apply, v22_at]
  rfl

theorem v29_at (r : Fin 17408) (n : Fin 512) : val_main_v29 (F := Ideal) x0 x1 x2 x3 (ix2 r n)
    = inp x0 x1 x2 x3 r.val n.val r.isLt (by omega) * sgm (inp x0 x1 x2 x3 r.val (512 + n.val) r.isLt (by omega)) := by
  rw [val_main_v29_apply, val_main_v28_apply, val_main_v27_apply, val_main_v26_apply, val_main_v25_apply, val_main_v24_apply, val_main_v23_apply, v15_at, v16_at]
  rfl

end Cert.Reference2Ideal.InRef
-- ==== Proof.ConvSOut.lean ====
/-
  The state that the convolution leaves for the sample sequences: what one step of it stores, element by element.
-/
module

public import proofs.«01_k».proof.Proof.Gen.Kernel3Ideal.Value
public import proofs.«01_k».proof.Proof.Spec
public import Idealize.ShloMosaic.Lib.WritesUnit
public import Idealize.ShloMosaic.Lib.ValueIdx
public import Idealize.ShloMosaic.Lib.Pipeline.Value

@[expose] public section

noncomputable section

namespace Cert.Kernel3Ideal.ConvS

open Cert.Kernel3Ideal Cert.Kernel3Ideal.Gen
open Idealize.ShloMosaic Idealize.ShloMosaic.TcCoe Idealize.ShloMosaic.ValueIdx

/-- Eight rows loaded from a block of 64, under a new unit axis. -/
theorem rows_at (M : Memref sig .tc .vmem S64x512 .f32) (hM : M.IsWhole) (X : Vec Ideal S64x512 .f32) (o : ℕ) (ho : o + 8 ≤ 64)
    (inb : ∀ a, (![o, 0] : Fin 2 → ℕ) a + S8x512.size a ≤ S64x512.size a) (h : S8x512.ShapeCasts S1x8x512) (r : Fin 8) (n : Fin 512) :
    shapeCast S1x8x512 (M.view.readAt (Elt Ideal) (Rect.unit (s := S64x512) ![o, 0] S8x512.size inb).toLoadRect (hM.unread X)) h (ix3 (0 : Fin 1) r n)
      = X (ix2 ⟨o + r.val, by omega⟩ n) := by
  refine (shapeCast_apply _ h (ix3 (0 : Fin 1) r n) (ix2 r n) ?_).trans ?_
  · rw [Shape.rowMajor_val_two, Shape.rowMajor_val_three]
    simp
  rw [View.readAt_apply, hM.read_unread]
  refine congrArg X (funext fun a => Fin.ext ?_)
  match a with
  | ⟨0, _⟩ => show o + 1 * r.val = o + r.val; omega
  | ⟨1, _⟩ => show 0 + 1 * n.val = n.val; omega

/-- The block of states, its unit axis dropped. -/
theorem state_at (M : Memref sig .tc .vmem S1x8x30x512 .f32) (hM : M.IsWhole) (X : Vec Ideal S1x8x30x512 .f32)
    (inb : ∀ a, (![0, 0, 0, 0] : Fin 4 → ℕ) a + S1x8x30x512.size a ≤ S1x8x30x512.size a) (b : Fin 8) (i : Fin 30) (n : Fin 512) :
    k0_pay5 (M.view.readAt (Elt Ideal) (Rect.unit (s := S1x8x30x512) ![0, 0, 0, 0] S1x8x30x512.size inb).toLoadRect (hM.unread X)) (ix3 b i n)
      = X (ix4 (0 : Fin 1) b i n) := by
  unfold k0_pay5
  dsimp only
  refine (shapeCast_apply _ _ (ix3 b i n) (ix3 b i n) rfl).trans ((shapeCast_apply _ _ (ix3 b i n) (ix4 (0 : Fin 1) b i n) ?_).trans ?_)
  · rw [Shape.rowMajor_val_three, Shape.rowMajor_val_four]
    simp
  rw [View.readAt_apply, hM.read_unread]
  refine congrArg X (funext fun a => Fin.ext ?_)
  match a with
  | ⟨0, _⟩ => rfl
  | ⟨1, _⟩ => show 0 + 1 * b.val = b.val; omega
  | ⟨2, _⟩ => show 0 + 1 * i.val = i.val; omega
  | ⟨3, _⟩ => show 0 + 1 * n.val = n.val; omega

variable (c : Dev nD) (M0 : Memref sig .tc .vmem S64x512 .f32) (h0 : M0.IsWhole) (M1 : Memref sig .tc .vmem S1x8x30x512 .f32) (h1 : M1.IsWhole)
  (X : Vec Ideal S64x512 .f32) (Y : Vec Ideal S1x8x30x512 .f32)

/-- What the buffer of all rows holds in its later rows, a sequence at a time: first the old state, -/
theorem buf_old (b : Fin 8) (i : Fin 30) (hi : 10 + i.val < 32) (n : Fin 512) :
    scM0_0.view.read (Elt Ideal) (scM0_0.view.writes (Elt Ideal) scM0_0.view.junk (kernelRun0_A.sl.HS0_10 (F := Ideal) c M0 h0 M1 h1 X Y)) (ix3 b ⟨10 + i.val, by omega⟩ n)
      = Y (ix4 (0 : Fin 1) b ⟨i.val + 8, by omega⟩ n) := by
  unfold kernelRun0_A.sl.HS0_10 kernelRun0_A.sl.v26 kernelRun0_A.sl.v30 kernelRun0_A.sl.v34
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_not_mem _ _ _ _ _ _ rfl (1 : Fin 3) (Or.inl hi)).trans ?_
  refine (View.read_writes_cons_unit_of_mem _ _ _ _ _ _ (ix3 b (⟨i.val + 8, by omega⟩ : Fin 30) n) rfl fun a => ?_).trans (state_at _ _ _ _ _ _ _)
  match a with
  | ⟨0, _⟩ => show b.val = 0 + b.val; omega
  | ⟨1, _⟩ => show 10 + i.val = 2 + (i.val + 8); omega
  | ⟨2, _⟩ => show n.val = 0 + n.val; omega

theorem buf_new0 (r : Fin 8) (n : Fin 512) :
    scM0_0.view.read (Elt Ideal) (scM0_0.view.writes (Elt Ideal) scM0_0.view.junk (kernelRun0_A.sl.HS0_10 (F := Ideal) c M0 h0 M1 h1 X Y)) (ix3 (0 : Fin 8) ⟨32 + r.val, by omega⟩ n)
      = X (ix2 ⟨0 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 0 < 7 by decide))).trans ?_
  refine (View.read_writes_cons_unit_of_not_mem _ _ _ _ _ _ rfl (0 : Fin 3) (Or.inl (show 0 < 6 by decide))).trans ?_
  refine (View.read_writes_cons_unit_of_not_mem _ _ _ _ _ _ rfl (0 : Fin 3) (Or.inl (show 0 < 5 by decide))).trans ?_
  refine (View.read_writes_cons_unit_of_not_mem _ _ _ _ _ _ rfl (0 : Fin 3) (Or.inl (show 0 < 4 by decide))).trans ?_
  refine (View.read_writes_cons_unit_of_not_mem _ _ _ _ _ _ rfl (0 : Fin 3) (Or.inl (show 0 < 3 by decide))).trans ?_
  refine (View.read_writes_cons_unit_of_not_mem _ _ _ _ _ _ rfl (0 : Fin 3) (Or.inl (show 0 < 2 by decide))).trans ?_
  refine (View.read_writes_cons_unit_of_not_mem _ _ _ _ _ _ rfl (0 : Fin 3) (Or.inl (show 0 < 1 by decide))).trans ?_
  refine (View.read_writes_cons_unit_of_mem _ _ _ _ _ _ (ix3 (0 : Fin 1) r n) rfl fun a => ?_).trans ?_
  rotate_left
  · unfold k0_pay6
    show shapeCast _ _ _ _ = _
    exact rows_at M0 h0 X 0 (by omega) _ _ r n
  match a with
  | ⟨0, _⟩ => rfl
  | ⟨1, _⟩ => rfl
  | ⟨2, _⟩ => show n.val = 0 + n.val; omega

theorem buf_new1 (r : Fin 8) (n : Fin 512) :
    scM0_0.view.read (Elt Ideal) (scM0_0.view.writes (Elt Ideal) scM0_0.view.junk (kernelRun0_A.sl.HS0_10 (F := Ideal) c M0 h0 M1 h1 X Y)) (ix3 (1 : Fin 8) ⟨32 + r.val, by omega⟩ n)
      = X (ix2 ⟨8 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 1 < 7 by decide))).trans ?_
  refine (View.read_writes_cons_unit_of_not_mem _ _ _ _ _ _ rfl (0 : Fin 3) (Or.inl (show 1 < 6 by decide))).trans ?_
  refine (View.read_writes_cons_unit_of_not_mem _ _ _ _ _ _ rfl (0 : Fin 3) (Or.inl (show 1 < 5 by decide))).trans ?_
  refine (View.read_writes_cons_unit_of_not_mem _ _ _ _ _ _ rfl (0 : Fin 3) (Or.inl (show 1 < 4 by decide))).trans ?_
  refine (View.read_writes_cons_unit_of_not_mem _ _ _ _ _ _ rfl (0 : Fin 3) (Or.inl (show 1 < 3 by decide))).trans ?_
  refine (View.read_writes_cons_unit_of_not_mem _ _ _ _ _ _ rfl (0 : Fin 3) (Or.inl (show 1 < 2 by decide))).trans ?_
  refine (View.read_writes_cons_unit_of_mem _ _ _ _ _ _ (ix3 (0 : Fin 1) r n) rfl fun a => ?_).trans ?_
  rotate_left
  · unfold k0_pay7
    show shapeCast _ _ _ _ = _
    exact rows_at M0 h0 X 8 (by omega) _ _ r n
  match a with
  | ⟨0, _⟩ => rfl
  | ⟨1, _⟩ => rfl
  | ⟨2, _⟩ => show n.val = 0 + n.val; omega

theorem buf_new2 (r : Fin 8) (n : Fin 512) :
    scM0_0.view.read (Elt Ideal) (scM0_0.view.writes (Elt Ideal) scM0_0.view.junk (kernelRun0_A.sl.HS0_10 (F := Ideal) c M0 h0 M1 h1 X Y)) (ix3 (2 : Fin 8) ⟨32 + r.val, by omega⟩ n)
      = X (ix2 ⟨16 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 2 < 7 by decide))).trans ?_
  refine (View.read_writes_cons_unit_of_not_mem _ _ _ _ _ _ rfl (0 : Fin 3) (Or.inl (show 2 < 6 by decide))).trans ?_
  refine (View.read_writes_cons_unit_of_not_mem _ _ _ _ _ _ rfl (0 : Fin 3) (Or.inl (show 2 < 5 by decide))).trans ?_
  refine (View.read_writes_cons_unit_of_not_mem _ _ _ _ _ _ rfl (0 : Fin 3) (Or.inl (show 2 < 4 by decide))).trans ?_
  refine (View.read_writes_cons_unit_of_not_mem _ _ _ _ _ _ rfl (0 : Fin 3) (Or.inl (show 2 < 3 by decide))).trans ?_
  refine (View.read_writes_cons_unit_of_mem _ _ _ _ _ _ (ix3 (0 : Fin 1) r n) rfl fun a => ?_).trans ?_
  rotate_left
  · unfold k0_pay8
    show shapeCast _ _ _ _ = _
    exact rows_at M0 h0 X 16 (by omega) _ _ r n
  match a with
  | ⟨0, _⟩ => rfl
  | ⟨1, _⟩ => rfl
  | ⟨2, _⟩ => show n.val = 0 + n.val; omega

theorem buf_new3 (r : Fin 8) (n : Fin 512) :
    scM0_0.view.read (Elt Ideal) (scM0_0.view.writes (Elt Ideal) scM0_0.view.junk (kernelRun0_A.sl.HS0_10 (F := Ideal) c M0 h0 M1 h1 X Y)) (ix3 (3 : Fin 8) ⟨32 + r.val, by omega⟩ n)
      = X (ix2 ⟨24 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 3 < 7 by decide))).trans ?_
  refine (View.read_writes_cons_unit_of_not_mem _ _ _ _ _ _ rfl (0 : Fin 3) (Or.inl (show 3 < 6 by decide))).trans ?_
  refine (View.read_writes_cons_unit_of_not_mem _ _ _ _ _ _ rfl (0 : Fin 3) (Or.inl (show 3 < 5 by decide))).trans ?_
  refine (View.read_writes_cons_unit_of_not_mem _ _ _ _ _ _ rfl (0 : Fin 3) (Or.inl (show 3 < 4 by decide))).trans ?_
  refine (View.read_writes_cons_unit_of_mem _ _ _ _ _ _ (ix3 (0 : Fin 1) r n) rfl fun a => ?_).trans ?_
  rotate_left
  · unfold k0_pay9
    show shapeCast _ _ _ _ = _
    exact rows_at M0 h0 X 24 (by omega) _ _ r n
  match a with
  | ⟨0, _⟩ => rfl
  | ⟨1, _⟩ => rfl
  | ⟨2, _⟩ => show n.val = 0 + n.val; omega

theorem buf_new4 (r : Fin 8) (n : Fin 512) :
    scM0_0.view.read (Elt Ideal) (scM0_0.view.writes (Elt Ideal) scM0_0.view.junk (kernelRun0_A.sl.HS0_10 (F := Ideal) c M0 h0 M1 h1 X Y)) (ix3 (4 : Fin 8) ⟨32 + r.val, by omega⟩ n)
      = X (ix2 ⟨32 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 4 < 7 by decide))).trans ?_
  refine (View.read_writes_cons_unit_of_not_mem _ _ _ _ _ _ rfl (0 : Fin 3) (Or.inl (show 4 < 6 by decide))).trans ?_
  refine (View.read_writes_cons_unit_of_not_mem _ _ _ _ _ _ rfl (0 : Fin 3) (Or.inl (show 4 < 5 by decide))).trans ?_
  refine (View.read_writes_cons_unit_of_mem _ _ _ _ _ _ (ix3 (0 : Fin 1) r n) rfl fun a => ?_).trans ?_
  rotate_left
  · unfold k0_pay10
    show shapeCast _ _ _ _ = _
    exact rows_at M0 h0 X 32 (by omega) _ _ r n
  match a with
  | ⟨0, _⟩ => rfl
  | ⟨1, _⟩ => rfl
  | ⟨2, _⟩ => show n.val = 0 + n.val; omega

theorem buf_new5 (r : Fin 8) (n : Fin 512) :
    scM0_0.view.read (Elt Ideal) (scM0_0.view.writes (Elt Ideal) scM0_0.view.junk (kernelRun0_A.sl.HS0_10 (F := Ideal) c M0 h0 M1 h1 X Y)) (ix3 (5 : Fin 8) ⟨32 + r.val, by omega⟩ n)
      = X (ix2 ⟨40 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 5 < 7 by decide))).trans ?_
  refine (View.read_writes_cons_unit_of_not_mem _ _ _ _ _ _ rfl (0 : Fin 3) (Or.inl (show 5 < 6 by decide))).trans ?_
  refine (View.read_writes_cons_unit_of_mem _ _ _ _ _ _ (ix3 (0 : Fin 1) r n) rfl fun a => ?_).trans ?_
  rotate_left
  · show shapeCast _ _ _ _ = _
    exact rows_at M0 h0 X 40 (by omega) _ _ r n
  match a with
  | ⟨0, _⟩ => rfl
  | ⟨1, _⟩ => rfl
  | ⟨2, _⟩ => show n.val = 0 + n.val; omega

theorem buf_new6 (r : Fin 8) (n : Fin 512) :
    scM0_0.view.read (Elt Ideal) (scM0_0.view.writes (Elt Ideal) scM0_0.view.junk (kernelRun0_A.sl.HS0_10 (F := Ideal) c M0 h0 M1 h1 X Y)) (ix3 (6 : Fin 8) ⟨32 + r.val, by omega⟩ n)
      = X (ix2 ⟨48 + r.val, by omega⟩ n) := by
  unfold kernelRun0_A.sl.HS0_10 kernelRun0_A.sl.v26 kernelRun0_A.sl.v30 kernelRun0_A.sl.v34
  refine (View.read_writes_cons_unit_of_not_mem _ _ _ _ _ _ rfl (0 : Fin 3) (Or.inl (show 6 < 7 by decide))).trans ?_
  refine (View.read_writes_cons_unit_of_mem _ _ _ _ _ _ (ix3 (0 : Fin 1) r n) rfl fun a => ?_).trans ?_
  rotate_left
  · show shapeCast _ _ _ _ = _
    exact rows_at M0 h0 X 48 (by omega) _ _ r n
  match a with
  | ⟨0, _⟩ => rfl
  | ⟨1, _⟩ => rfl
  | ⟨2, _⟩ => show n.val = 0 + n.val; omega

theorem buf_new7 (r : Fin 8) (n : Fin 512) :
    scM0_0.view.read (Elt Ideal) (scM0_0.view.writes (Elt Ideal) scM0_0.view.junk (kernelRun0_A.sl.HS0_10 (F := Ideal) c M0 h0 M1 h1 X Y)) (ix3 (7 : Fin 8) ⟨32 + r.val, by omega⟩ n)
      = X (ix2 ⟨56 + r.val, by omega⟩ n) := by
  unfold kernelRun0_A.sl.HS0_10 kernelRun0_A.sl.v26 kernelRun0_A.sl.v30 kernelRun0_A.sl.v34
  refine (View.read_writes_cons_unit_of_mem _ _ _ _ _ _ (ix3 (0 : Fin 1) r n) rfl fun a => ?_).trans ?_
  rotate_left
  · show shapeCast _ _ _ _ = _
    exact rows_at M0 h0 X 56 (by omega) _ _ r n
  match a with
  | ⟨0, _⟩ => rfl
  | ⟨1, _⟩ => rfl
  | ⟨2, _⟩ => show n.val = 0 + n.val; omega

/-- and then the new rows. -/
theorem buf_new (b : Fin 8) (r : Fin 8) (n : Fin 512) :
    scM0_0.view.read (Elt Ideal) (scM0_0.view.writes (Elt Ideal) scM0_0.view.junk (kernelRun0_A.sl.HS0_10 (F := Ideal) c M0 h0 M1 h1 X Y)) (ix3 b ⟨32 + r.val, by omega⟩ n)
      = X (ix2 ⟨8 * b.val + r.val, by omega⟩ n) := by
  match b with
  | ⟨0, _⟩ => exact buf_new0 c M0 h0 M1 h1 X Y r n
  | ⟨1, _⟩ => exact buf_new1 c M0 h0 M1 h1 X Y r n
  | ⟨2, _⟩ => exact buf_new2 c M0 h0 M1 h1 X Y r n
  | ⟨3, _⟩ => exact buf_new3 c M0 h0 M1 h1 X Y r n
  | ⟨4, _⟩ => exact buf_new4 c M0 h0 M1 h1 X Y r n
  | ⟨5, _⟩ => exact buf_new5 c M0 h0 M1 h1 X Y r n
  | ⟨6, _⟩ => exact buf_new6 c M0 h0 M1 h1 X Y r n
  | ⟨7, _⟩ => exact buf_new7 c M0 h0 M1 h1 X Y r n

variable (m : (ℓ : Loc nD τ sig) → Buf (Elt Ideal) ℓ)

/-- What a step stores as the new state. -/
theorem step_at (t : Fin cfg0.N) (b : Fin 8) (i : Fin 30) (n : Fin 512) :
    ((dats m 0 c).after 7 t : S1x8x30x512.Idx → EReal) (ix4 (0 : Fin 1) b i n)
      = if h : i.val < 22 then (iblk m c 1 t : S1x8x30x512.Idx → EReal) (ix4 (0 : Fin 1) b ⟨i.val + 8, by omega⟩ n)
        else (iblk m c 0 t : S64x512.Idx → EReal) (ix2 ⟨8 * b.val + (i.val - 22), by omega⟩ n) := by
  rw [after0_7]
  unfold outsAt0 out0_A_7
  dsimp only
  unfold kernelRun0_A
  dsimp only
  refine (View.read_writes_cons_unit_of_mem _ _ _ _ _ _ (ix4 (0 : Fin 1) b i n) rfl fun a => ?_).trans ?_
  · match a with
    | ⟨0, _⟩ => rfl
    | ⟨1, _⟩ => show b.val = 0 + b.val; omega
    | ⟨2, _⟩ => show i.val = 0 + i.val; omega
    | ⟨3, _⟩ => show n.val = 0 + n.val; omega
  unfold k0_pay2
  show shapeCast _ _ _ _ = _
  refine (shapeCast_apply _ _ (ix4 (0 : Fin 1) b i n) (ix3 b i n) ?_).trans ?_
  · rw [Shape.rowMajor_val_three, Shape.rowMajor_val_four]
    simp
  unfold kernelRun0_A.sl.v2091
  have e : (Rect.unit (s := S8x40x512) ![0, 10, 0] ![8, 30, 512] inb_S8x40x512_S8x30x512_0_10_0).toLoadRect.idx (ix3 b i n) = ix3 b (⟨10 + i.val, by omega⟩ : Fin 40) n :=
    funext fun a => Fin.ext (match a with
      | ⟨0, _⟩ => (show 0 + 1 * b.val = b.val by omega)
      | ⟨1, _⟩ => (show 10 + 1 * i.val = 10 + i.val by omega)
      | ⟨2, _⟩ => (show 0 + 1 * n.val = n.val by omega))
  refine (congrArg (fun q => scM0_0.view.read (Elt Ideal) (scM0_0.view.writes (Elt Ideal) scM0_0.view.junk _) q) e).trans ?_
  split
  · rename_i h
    exact buf_old c (ms0_0 t) (hs0_0 t) (ms0_1 t) (hs0_1 t) (iblk m c 0 t) (iblk m c 1 t) b i (by omega) n
  · rename_i h
    refine Eq.trans ?_ (buf_new c (ms0_0 t) (hs0_0 t) (ms0_1 t) (hs0_1 t) (iblk m c 0 t) (iblk m c 1 t) b ⟨i.val - 22, by omega⟩ n)
    congr 2
    exact Fin.ext (show 10 + i.val = 32 + (i.val - 22) by omega)

end Cert.Kernel3Ideal.ConvS

end
-- ==== Proof.ConvSRef.lean ====
/-
  The state that the reference leaves for the sample sequences, element by element.
-/
module

public import proofs.«01_k».proof.Proof.Gen.Reference3Ideal.Read
public import proofs.«01_k».proof.Proof.Spec
public import Idealize.ShloMosaic.Lib.ValueIdx
public import Idealize.ShloMosaic.Lib.Pipeline.Value

@[expose] public section

noncomputable section

namespace Cert.Spec

open Idealize.ShloMosaic Idealize.ShloMosaic.ValueIdx

/-- A sample sequence's new state at a place: its last 30 rows, of which the first 22 are the end of the old state. -/
def convS (G : (⟨2, ![17408, 512]⟩ : Shape).Idx → EReal) (S : (⟨4, ![1, 128, 30, 512]⟩ : Shape).Idx → EReal) (b i n : ℕ) (hb : b < 128) (hi : i < 30) (hn : n < 512) : EReal :=
  if h : i < 22 then S (ix4 (0 : Fin 1) ⟨b, hb⟩ ⟨i + 8, by omega⟩ ⟨n, hn⟩) else G (ix2 ⟨16384 + (8 * b + (i - 22)), by omega⟩ ⟨n, hn⟩)

end Cert.Spec

namespace Cert.Reference3Ideal.ConvSRef

open Cert.Reference3Ideal Cert.Reference3Ideal.Gen Cert.Reference3Ideal.Read Cert.Spec
open Idealize.ShloMosaic Idealize.ShloMosaic.ValueIdx

variable (x0 : (⟨S17408x512, .f32⟩ : BufTy).Contents (Elt Ideal)) (x1 : (⟨S1x128x30x512, .f32⟩ : BufTy).Contents (Elt Ideal))

theorem v5_at (b : Fin 128) (i : Fin 30) (n : Fin 512) : val_main_v5 (F := Ideal) x0 x1 (ix4 (0 : Fin 1) b i n) = convS x0 x1 b.val i.val n.val b.isLt i.isLt n.isLt := by
  rw [val_main_v5_apply, val_main_v4_apply]
  refine (congrArg (val_main_v3 (F := Ideal) x0 x1) (show _ = (ix3 b (⟨8 + i.val, by omega⟩ : Fin 38) n : S128x38x512.Idx) from funext fun a => Fin.ext ?_)).trans ?_
  · match a with
    | ⟨0, _⟩ => rfl
    | ⟨1, _⟩ => rfl
    | ⟨2, _⟩ => rfl
  unfold convS
  by_cases h : i.val < 22
  · rw [dif_pos h]
    refine (concatenate_apply_piece (t := S128x38x512) (i := ix3 b (⟨i.val + 8, by omega⟩ : Fin 30) n) 1 [⟨S128x30x512, val_main_v0 (F := Ideal) x1⟩, ⟨S128x8x512, val_main_v2 (F := Ideal) x0⟩] concatenates_S128x30x512_S128x8x512_S128x38x512_d1 (ix3 b (⟨8 + i.val, by omega⟩ : Fin 38) n) 0 (Nat.succ_pos 1) S128x30x512 (val_main_v0 (F := Ideal) x1) rfl rfl 0 rfl
      (fun q hq => match q with
        | ⟨0, _⟩ => rfl
        | ⟨1, _⟩ => absurd rfl hq
        | ⟨2, _⟩ => rfl) (show 0 + (i.val + 8) = 8 + i.val by omega)).trans ?_
    rw [val_main_v0_apply]
    refine congrArg x1 (funext fun a => Fin.ext ?_)
    match a with
    | ⟨0, _⟩ => rfl
    | ⟨1, _⟩ => show ((b.val * 30 + (i.val + 8)) * 512 + n.val) / 15360 % 128 = b.val; omega
    | ⟨2, _⟩ => show ((b.val * 30 + (i.val + 8)) * 512 + n.val) / 512 % 30 = i.val + 8; omega
    | ⟨3, _⟩ => show ((b.val * 30 + (i.val + 8)) * 512 + n.val) % 512 = n.val; omega
  · rw [dif_neg h]
    refine (concatenate_apply_piece (t := S128x38x512) (i := ix3 b (⟨i.val - 22, by omega⟩ : Fin 8) n) 1 [⟨S128x30x512, val_main_v0 (F := Ideal) x1⟩, ⟨S128x8x512, val_main_v2 (F := Ideal) x0⟩] concatenates_S128x30x512_S128x8x512_S128x38x512_d1 (ix3 b (⟨8 + i.val, by omega⟩ : Fin 38) n) 1 (Nat.lt_succ_self 1) S128x8x512 (val_main_v2 (F := Ideal) x0) rfl rfl 30 rfl
      (fun q hq => match q with
        | ⟨0, _⟩ => rfl
        | ⟨1, _⟩ => absurd rfl hq
        | ⟨2, _⟩ => rfl) (show 30 + (i.val - 22) = 8 + i.val by omega)).trans ?_
    rw [val_main_v2_apply, val_main_v1_apply]
    refine congrArg x0 (funext fun a => Fin.ext ?_)
    match a with
    | ⟨0, _⟩ => show 16384 + ((b.val * 8 + (i.val - 22)) * 512 + n.val) / 512 = 16384 + (8 * b.val + (i.val - 22)); omega
    | ⟨1, _⟩ => show ((b.val * 8 + (i.val - 22)) * 512 + n.val) % 512 = n.val; omega

end Cert.Reference3Ideal.ConvSRef

end
-- ==== Proof.ConvSVal.lean ====
/-
  The state that the convolution leaves for the sample sequences: the array after a run, element by element.
-/
module

public import proofs.«01_k».proof.Proof.ConvSOut
public import proofs.«01_k».proof.Proof.ConvSRef
public import Idealize.ShloMosaic.Lib.Pipeline.Covers

@[expose] public section

noncomputable section

namespace Cert.Kernel3Ideal.ConvS

open Cert.Kernel3Ideal Cert.Kernel3Ideal.Gen Cert.Spec
open Idealize.ShloMosaic Idealize.ShloMosaic.TcCoe Idealize.ShloMosaic.ValueIdx

variable (m : (ℓ : Loc nD τ sig) → Buf (Elt Ideal) ℓ) (c : Dev nD)

/-- Which block each step takes and leaves. -/
theorem idxs : ∀ t : Fin cfg0.N, win0_0.index t (0 : Fin 2) = 256 + t.val ∧ win0_0.index t (1 : Fin 2) = 0
    ∧ win0_1.index t (0 : Fin 4) = 0 ∧ win0_1.index t (1 : Fin 4) = t.val ∧ win0_1.index t (2 : Fin 4) = 0 ∧ win0_1.index t (3 : Fin 4) = 0
    ∧ win0_7.index t (0 : Fin 4) = 0 ∧ win0_7.index t (1 : Fin 4) = t.val ∧ win0_7.index t (2 : Fin 4) = 0 ∧ win0_7.index t (3 : Fin 4) = 0 :=
  (by decide +kernel : ∀ t : Fin grid0.N, _)

theorem iblk0_at (t : Fin cfg0.N) (r : Fin 64) (n : Fin 512) :
    (iblk m c 0 t : S64x512.Idx → EReal) (ix2 r n) = m ((c : Thread nD τ).loc main_arg0) (ix2 (⟨16384 + (64 * t.val + r.val), by have : t.val < 16 := t.isLt; omega⟩ : Fin 17408) n) := by
  obtain ⟨e0, e1, _⟩ := idxs t
  rw [← V_main_arg0 m c]
  refine congrArg (V m c main_arg0) (funext fun a => Fin.ext ?_)
  refine (Pipeline.Window.rect_emb_val (cfg0.win 0) t (ix2 r n) a).trans ?_
  match a with
  | ⟨0, _⟩ => show win0_0.index t (0 : Fin 2) * 64 + r.val = 16384 + (64 * t.val + r.val); rw [e0]; omega
  | ⟨1, _⟩ => show win0_0.index t (1 : Fin 2) * 512 + n.val = n.val; rw [e1]; omega

theorem iblk1_at (t : Fin cfg0.N) (b : Fin 8) (i : Fin 30) (n : Fin 512) :
    (iblk m c 1 t : S1x8x30x512.Idx → EReal) (ix4 (0 : Fin 1) b i n) = m ((c : Thread nD τ).loc main_arg1) (ix4 (0 : Fin 1) (⟨8 * t.val + b.val, by have : t.val < 16 := t.isLt; omega⟩ : Fin 128) i n) := by
  obtain ⟨_, _, e0, e1, e2, e3, _⟩ := idxs t
  rw [← V_main_arg1 m c]
  refine congrArg (V m c main_arg1) (funext fun a => Fin.ext ?_)
  refine (Pipeline.Window.rect_emb_val (cfg0.win 1) t (ix4 (0 : Fin 1) b i n) a).trans ?_
  match a with
  | ⟨0, _⟩ => show win0_1.index t (0 : Fin 4) * 1 + 0 = 0; rw [e0]
  | ⟨1, _⟩ => show win0_1.index t (1 : Fin 4) * 8 + b.val = 8 * t.val + b.val; rw [e1]; omega
  | ⟨2, _⟩ => show win0_1.index t (2 : Fin 4) * 30 + i.val = i.val; rw [e2]; omega
  | ⟨3, _⟩ => show win0_1.index t (3 : Fin 4) * 512 + n.val = n.val; rw [e3]; omega

/-- The new state at a place. -/
def stv (b i n : ℕ) (hb : b < 128) (hi : i < 30) (hn : n < 512) : EReal :=
  convS (m ((c : Thread nD τ).loc main_arg0)) (m ((c : Thread nD τ).loc main_arg1)) b i n hb hi hn

theorem stv_congr (b b' i i' n n' : ℕ) (hb hb' hi hi' hn hn') (eb : b = b') (ei : i = i') (en : n = n') : stv m c b i n hb hi hn = stv m c b' i' n' hb' hi' hn' := by
  subst eb
  subst ei
  subst en
  rfl

theorem stored_at (t : Fin cfg0.N) (b : Fin 8) (i : Fin 30) (n : Fin 512) :
    ((dats m 0 c).after 7 t : S1x8x30x512.Idx → EReal) (ix4 (0 : Fin 1) b i n)
      = stv m c (8 * t.val + b.val) i.val n.val (by have : t.val < 16 := t.isLt; omega) i.isLt n.isLt := by
  rw [step_at]
  unfold stv convS
  split
  · exact iblk1_at m c t b _ n
  · refine (iblk0_at m c t _ n).trans (congrArg (m ((c : Thread nD τ).loc main_arg0)) (congrArg (fun q : Fin 17408 => (ix2 q n : S17408x512.Idx)) (Fin.ext ?_)))
    show 16384 + (64 * t.val + (8 * b.val + (i.val - 22))) = 16384 + (8 * (8 * t.val + b.val) + (i.val - 22))
    omega

theorem covers7 : (cfg0.win 7).Covers :=
  (cfg0.win 7).covers_of_indexMap_surj rfl (show ∀ a : Fin 4, 0 < (![1, 8, 30, 512] : Fin 4 → ℕ) a by decide) fun β => by
    have h0 : (β (0 : Fin 4)).val < 1 := Nat.lt_of_lt_of_eq (β (0 : Fin 4)).isLt (show (1 + 1 - 1) / 1 = 1 by norm_num)
    have h1 : (β (1 : Fin 4)).val < 16 := Nat.lt_of_lt_of_eq (β (1 : Fin 4)).isLt (show (128 + 8 - 1) / 8 = 16 by norm_num)
    have h2 : (β (2 : Fin 4)).val < 1 := Nat.lt_of_lt_of_eq (β (2 : Fin 4)).isLt (show (30 + 30 - 1) / 30 = 1 by norm_num)
    have h3 : (β (3 : Fin 4)).val < 1 := Nat.lt_of_lt_of_eq (β (3 : Fin 4)).isLt (show (512 + 512 - 1) / 512 = 1 by norm_num)
    refine ⟨fun | ⟨0, _⟩ => ⟨(β (1 : Fin 4)).val, h1⟩ | ⟨1, _⟩ => ⟨0, Nat.one_pos⟩, fun a => ?_⟩
    match a with
    | ⟨0, _⟩ => exact (show 0 = (β (0 : Fin 4)).val by omega)
    | ⟨1, _⟩ => exact (show (BitVec.ofNat 32 (β (1 : Fin 4)).val).toNat = (β (1 : Fin 4)).val by rw [BitVec.toNat_ofNat]; omega)
    | ⟨2, _⟩ => exact (show 0 = (β (2 : Fin 4)).val by omega)
    | ⟨3, _⟩ => exact (show 0 = (β (3 : Fin 4)).val by omega)

theorem fill7_at (A : S1x8x30x512.Idx → EReal) (t : Fin cfg0.N)
    (hA : ∀ (b : Fin 8) (i : Fin 30) (n : Fin 512), A (ix4 (0 : Fin 1) b i n) = stv m c (8 * t.val + b.val) i.val n.val (by have : t.val < 16 := t.isLt; omega) i.isLt n.isLt)
    (y : S1x8x30x512.Idx) (z : S1x128x30x512.Idx) (e1 : (z 1).val = 8 * t.val + (y 1).val) (e2 : (z 2).val = (y 2).val) (e3 : (z 3).val = (y 3).val) :
    A y = stv m c (z 1).val (z 2).val (z 3).val (z 1).isLt (z 2).isLt (z 3).isLt := by
  have hy : y = ix4 (0 : Fin 1) (y 1) (y 2) (y 3) := by
    refine (eq_ix4 y).trans ?_
    have h0 : y 0 = (0 : Fin 1) := Fin.ext (Nat.lt_one_iff.mp (y 0).isLt)
    exact congrArg (fun q : Fin 1 => (ix4 q (y 1) (y 2) (y 3) : S1x8x30x512.Idx)) h0
  rw [hy]
  exact (hA (y 1) (y 2) (y 3)).trans (stv_congr m c _ _ _ _ _ _ _ _ _ _ _ _ e1.symm e2.symm e3.symm)

theorem emb7 (t : Fin cfg0.N) (y : S1x8x30x512.Idx) : (((((cfg0.win 7).blk t).view.emb y) : S1x128x30x512.Idx) 1).val = 8 * t.val + (y 1).val
    ∧ (((((cfg0.win 7).blk t).view.emb y) : S1x128x30x512.Idx) 2).val = (y 2).val ∧ (((((cfg0.win 7).blk t).view.emb y) : S1x128x30x512.Idx) 3).val = (y 3).val := by
  obtain ⟨_, _, _, _, _, _, _, e1, e2, e3⟩ := idxs t
  refine ⟨(Pipeline.Window.rect_emb_val (cfg0.win 7) t y (1 : Fin 4)).trans ?_, (Pipeline.Window.rect_emb_val (cfg0.win 7) t y (2 : Fin 4)).trans ?_,
    (Pipeline.Window.rect_emb_val (cfg0.win 7) t y (3 : Fin 4)).trans ?_⟩
  · show win0_7.index t (1 : Fin 4) * 8 + (y 1).val = _; rw [e1]; omega
  · show win0_7.index t (2 : Fin 4) * 30 + (y 2).val = _; rw [e2]; omega
  · show win0_7.index t (3 : Fin 4) * 512 + (y 3).val = _; rw [e3]; omega

theorem arr7_at (b : Fin 128) (i : Fin 30) (n : Fin 512) :
    ((dats m 0 c).arrAt 7 cfg0.N : S1x128x30x512.Idx → EReal) (ix4 (0 : Fin 1) b i n) = stv m c b.val i.val n.val b.isLt i.isLt n.isLt :=
  congrFun ((dats m 0 c).arrAt_eq_of_covers 7 (fun y : S1x128x30x512.Idx => stv m c (y 1).val (y 2).val (y 3).val (y 1).isLt (y 2).isLt (y 3).isLt) covers7
    (fun t _ y => fill7_at m c ((dats m 0 c).after 7 t) t (stored_at m c t) y _ (emb7 t y).1 (emb7 t y).2.1 (emb7 t y).2.2)) (ix4 (0 : Fin 1) b i n)

end Cert.Kernel3Ideal.ConvS

end
-- ==== Proof.ConvPOut.lean ====
/-
  The state that the convolution leaves for the prompt sequences: what the last step of each sequence stores, element by element.
-/
module

public import proofs.«01_k».proof.Proof.Gen.Kernel4Ideal.Value
public import proofs.«01_k».proof.Proof.Spec
public import Idealize.ShloMosaic.Lib.WritesUnit
public import Idealize.ShloMosaic.Lib.ValueIdx
public import Idealize.ShloMosaic.Lib.Pipeline.Value

@[expose] public section

noncomputable section

namespace Cert.Kernel4Ideal.ConvP

open Cert.Kernel4Ideal Cert.Kernel4Ideal.Gen
open Idealize.ShloMosaic Idealize.ShloMosaic.TcCoe Idealize.ShloMosaic.ValueIdx

/-- The rows loaded from a block. -/
theorem load_at (M : Memref sig .tc .vmem S512x512 .f32) (hM : M.IsWhole) (X : Vec Ideal S512x512 .f32)
    (inb : ∀ a, (![0, 0] : Fin 2 → ℕ) a + S512x512.size a ≤ S512x512.size a) (r : Fin 512) (n : Fin 512) :
    M.view.readAt (Elt Ideal) (Rect.unit (s := S512x512) ![0, 0] S512x512.size inb).toLoadRect (hM.unread X) (ix2 r n) = X (ix2 r n) := by
  rw [View.readAt_apply, hM.read_unread]
  refine congrArg X (funext fun a => Fin.ext ?_)
  match a with
  | ⟨0, _⟩ => show 0 + 1 * r.val = r.val; omega
  | ⟨1, _⟩ => show 0 + 1 * n.val = n.val; omega

variable (c : Dev nD) (M0 : Memref sig .tc .vmem S512x512 .f32) (h0 : M0.IsWhole) (X : Vec Ideal S512x512 .f32)

/-- Reading the last rows of the buffer. -/
theorem idxEnd (i : Fin 30) (n : Fin 512) : (Rect.unit (s := S1x544x512) ![0, 514, 0] S1x30x512.size inb_S1x544x512_S1x30x512_0_514_0).toLoadRect.idx (ix3 (0 : Fin 1) i n) = ix3 (0 : Fin 1) (⟨514 + i.val, by omega⟩ : Fin 544) n :=
  funext fun a => Fin.ext (match a with
    | ⟨0, _⟩ => rfl
    | ⟨1, _⟩ => (show 514 + 1 * i.val = 514 + i.val by omega)
    | ⟨2, _⟩ => (show 0 + 1 * n.val = n.val by omega))

/-- What is stored as the state. -/
theorem word_at (i : Fin 30) (n : Fin 512) :
    k0_pay202 (kernelRun0_B.sl.v3594 (F := Ideal) c M0 h0 scM0_0 X) (ix4 (0 : Fin 1) (0 : Fin 1) i n) = X (ix2 ⟨482 + i.val, by omega⟩ n) := by
  unfold k0_pay202
  show shapeCast _ _ _ _ = _
  refine (shapeCast_apply _ _ (ix4 (0 : Fin 1) (0 : Fin 1) i n) (ix3 (0 : Fin 1) i n) ?_).trans ?_
  · rw [Shape.rowMajor_val_three, Shape.rowMajor_val_four]
    simp
  unfold kernelRun0_B.sl.v3594 kernelRun0_B.sl.HS0_1
  refine (congrArg (fun q => scM0_0.view.read (Elt Ideal) (scM0_0.view.writes (Elt Ideal) scM0_0.view.junk _) q) (idxEnd i n)).trans ?_
  refine (View.read_writes_cons_unit_of_mem _ _ _ _ _ _ (ix3 (0 : Fin 1) (⟨482 + i.val, by omega⟩ : Fin 512) n) rfl fun a => ?_).trans ?_
  · match a with
    | ⟨0, _⟩ => rfl
    | ⟨1, _⟩ => show 514 + i.val = 32 + (482 + i.val); omega
    | ⟨2, _⟩ => show n.val = 0 + n.val; omega
  · unfold k0_pay4
    show shapeCast _ _ _ _ = _
    refine (shapeCast_apply _ _ (ix3 (0 : Fin 1) (⟨482 + i.val, by omega⟩ : Fin 512) n) (ix2 (⟨482 + i.val, by omega⟩ : Fin 512) n) ?_).trans (load_at M0 h0 X _ _ n)
    rw [Shape.rowMajor_val_two, Shape.rowMajor_val_three]
    simp

variable (m : (ℓ : Loc nD τ sig) → Buf (Elt Ideal) ℓ)

/-- What a step past a sequence's first stores as the new state. -/
theorem step_at (t : Fin cfg0.N) (h0 : ¬ t.val % 4 = 0) (i : Fin 30) (n : Fin 512) :
    ((dats m 0 c).after 7 t : S1x1x30x512.Idx → EReal) (ix4 (0 : Fin 1) (0 : Fin 1) i n) = (iblk m c 0 t : S512x512.Idx → EReal) (ix2 ⟨482 + i.val, by omega⟩ n) := by
  rw [after0_7, outsAt0_B m c t h0]
  dsimp only
  unfold out0_B_7
  unfold kernelRun0_B
  dsimp only
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word_at c (ms0_0 t) (hs0_0 t) (iblk m c 0 t) i n

end Cert.Kernel4Ideal.ConvP

end
-- ==== Proof.ConvPRef.lean ====
/-
  The state that the reference leaves in the convolution for the prompt sequences, element by element.
-/
module

public import proofs.«01_k».proof.Proof.Gen.Reference4Ideal.Read
public import proofs.«01_k».proof.Proof.Spec
public import Idealize.ShloMosaic.Lib.ValueIdx
public import Idealize.ShloMosaic.Lib.Pipeline.Value

@[expose] public section

noncomputable section

namespace Cert.Spec

open Idealize.ShloMosaic Idealize.ShloMosaic.ValueIdx

/-- A prompt sequence's state at a place: the last 30 of its 2048 rows. -/
def convP (G : (⟨2, ![17408, 512]⟩ : Shape).Idx → EReal) (b i n : ℕ) (hb : b < 8) (hi : i < 30) (hn : n < 512) : EReal :=
  G (ix2 ⟨2048 * b + (2018 + i), by omega⟩ ⟨n, hn⟩)

end Cert.Spec

namespace Cert.Reference4Ideal.ConvPRef

open Cert.Reference4Ideal Cert.Reference4Ideal.Gen Cert.Reference4Ideal.Read Cert.Spec
open Idealize.ShloMosaic Idealize.ShloMosaic.ValueIdx

variable (x0 : (⟨S17408x512, .f32⟩ : BufTy).Contents (Elt Ideal))

theorem v5_at (b : Fin 8) (i : Fin 30) (n : Fin 512) : val_main_v5 (F := Ideal) x0 (ix4 (0 : Fin 1) b i n) = convP x0 b.val i.val n.val b.isLt i.isLt n.isLt := by
  rw [val_main_v5_apply, val_main_v4_apply]
  refine (congrArg (val_main_v3 (F := Ideal) x0) (show _ = (ix3 b (⟨2048 + i.val, by omega⟩ : Fin 2078) n : S8x2078x512.Idx) from funext fun a => Fin.ext ?_)).trans ?_
  · match a with
    | ⟨0, _⟩ => rfl
    | ⟨1, _⟩ => rfl
    | ⟨2, _⟩ => rfl
  unfold convP
  refine (concatenate_apply_piece (t := S8x2078x512) (i := ix3 b (⟨2018 + i.val, by omega⟩ : Fin 2048) n) 1 [⟨S8x30x512, val_main_v0 (F := Ideal)⟩, ⟨S8x2048x512, val_main_v2 (F := Ideal) x0⟩] concatenates_S8x30x512_S8x2048x512_S8x2078x512_d1 (ix3 b (⟨2048 + i.val, by omega⟩ : Fin 2078) n) 1 (Nat.lt_succ_self 1) S8x2048x512 (val_main_v2 (F := Ideal) x0) rfl rfl 30 rfl
    (fun q hq => match q with
      | ⟨0, _⟩ => rfl
      | ⟨1, _⟩ => absurd rfl hq
      | ⟨2, _⟩ => rfl) (show 30 + (2018 + i.val) = 2048 + i.val by omega)).trans ?_
  rw [val_main_v2_apply, val_main_v1_apply]
  refine congrArg x0 (funext fun a => Fin.ext ?_)
  match a with
  | ⟨0, _⟩ => show ((b.val * 2048 + (2018 + i.val)) * 512 + n.val) / 512 = 2048 * b.val + (2018 + i.val); omega
  | ⟨1, _⟩ => show ((b.val * 2048 + (2018 + i.val)) * 512 + n.val) % 512 = n.val; omega

end Cert.Reference4Ideal.ConvPRef

end
-- ==== Proof.ConvPVal.lean ====
/-
  The state that the convolution leaves for the prompt sequences: the array after a run, element by element.
-/
module

public import proofs.«01_k».proof.Proof.ConvPOut
public import proofs.«01_k».proof.Proof.ConvPRef
public import Idealize.ShloMosaic.Lib.Pipeline.Covers

@[expose] public section

noncomputable section

namespace Cert.Kernel4Ideal.ConvP

open Cert.Kernel4Ideal Cert.Kernel4Ideal.Gen Cert.Spec
open Idealize.ShloMosaic Idealize.ShloMosaic.TcCoe Idealize.ShloMosaic.ValueIdx

variable (m : (ℓ : Loc nD τ sig) → Buf (Elt Ideal) ℓ) (c : Dev nD)

/-- Which block each step takes and leaves. -/
theorem idxs : ∀ t : Fin cfg0.N, win0_0.index t (0 : Fin 2) = t.val ∧ win0_0.index t (1 : Fin 2) = 0
    ∧ win0_7.index t (0 : Fin 4) = 0 ∧ win0_7.index t (1 : Fin 4) = t.val / 4 ∧ win0_7.index t (2 : Fin 4) = 0 ∧ win0_7.index t (3 : Fin 4) = 0 :=
  (by decide +kernel : ∀ t : Fin grid0.N, _)

/-- The state is written back after a sequence's last step. -/
theorem flush_last : ∀ t : Fin cfg0.N, (cfg0.win 7).flush t = true → t.val % 4 = 3 :=
  (by decide +kernel : ∀ t : Fin grid0.N, win0_7.flush t = true → t.val % 4 = 3)

theorem iblk0_at (t : Fin cfg0.N) (r : Fin 512) (n : Fin 512) :
    (iblk m c 0 t : S512x512.Idx → EReal) (ix2 r n) = m ((c : Thread nD τ).loc main_arg0) (ix2 (⟨512 * t.val + r.val, by have : t.val < 32 := t.isLt; omega⟩ : Fin 17408) n) := by
  obtain ⟨e0, e1, _⟩ := idxs t
  rw [← V_main_arg0 m c]
  refine congrArg (V m c main_arg0) (funext fun a => Fin.ext ?_)
  refine (Pipeline.Window.rect_emb_val (cfg0.win 0) t (ix2 r n) a).trans ?_
  match a with
  | ⟨0, _⟩ => show win0_0.index t (0 : Fin 2) * 512 + r.val = 512 * t.val + r.val; rw [e0]; omega
  | ⟨1, _⟩ => show win0_0.index t (1 : Fin 2) * 512 + n.val = n.val; rw [e1]; omega

/-- The state at a place. -/
def stv (b i n : ℕ) (hb : b < 8) (hi : i < 30) (hn : n < 512) : EReal :=
  convP (m ((c : Thread nD τ).loc main_arg0)) b i n hb hi hn

theorem stv_congr (b b' i i' n n' : ℕ) (hb hb' hi hi' hn hn') (eb : b = b') (ei : i = i') (en : n = n') : stv m c b i n hb hi hn = stv m c b' i' n' hb' hi' hn' := by
  subst eb
  subst ei
  subst en
  rfl

theorem stored_at (t : Fin cfg0.N) (ht : t.val % 4 = 3) (i : Fin 30) (n : Fin 512) :
    ((dats m 0 c).after 7 t : S1x1x30x512.Idx → EReal) (ix4 (0 : Fin 1) (0 : Fin 1) i n)
      = stv m c (t.val / 4) i.val n.val (by have : t.val < 32 := t.isLt; omega) i.isLt n.isLt := by
  rw [step_at c m t (by omega)]
  unfold stv convP
  refine (iblk0_at m c t _ n).trans (congrArg (m ((c : Thread nD τ).loc main_arg0)) (congrArg (fun q : Fin 17408 => (ix2 q n : S17408x512.Idx)) (Fin.ext ?_)))
  show 512 * t.val + (482 + i.val) = 2048 * (t.val / 4) + (2018 + i.val)
  omega

theorem covers7 : (cfg0.win 7).Covers :=
  (cfg0.win 7).covers_of_indexMap_surj rfl (show ∀ a : Fin 4, 0 < (![1, 1, 30, 512] : Fin 4 → ℕ) a by decide) fun β => by
    have h0 : (β (0 : Fin 4)).val < 1 := Nat.lt_of_lt_of_eq (β (0 : Fin 4)).isLt (show (1 + 1 - 1) / 1 = 1 by norm_num)
    have h1 : (β (1 : Fin 4)).val < 8 := Nat.lt_of_lt_of_eq (β (1 : Fin 4)).isLt (show (8 + 1 - 1) / 1 = 8 by norm_num)
    have h2 : (β (2 : Fin 4)).val < 1 := Nat.lt_of_lt_of_eq (β (2 : Fin 4)).isLt (show (30 + 30 - 1) / 30 = 1 by norm_num)
    have h3 : (β (3 : Fin 4)).val < 1 := Nat.lt_of_lt_of_eq (β (3 : Fin 4)).isLt (show (512 + 512 - 1) / 512 = 1 by norm_num)
    refine ⟨fun | ⟨0, _⟩ => ⟨(β (1 : Fin 4)).val, h1⟩ | ⟨1, _⟩ => ⟨0, Nat.succ_pos 3⟩, fun a => ?_⟩
    match a with
    | ⟨0, _⟩ => exact (show 0 = (β (0 : Fin 4)).val by omega)
    | ⟨1, _⟩ => exact (show (BitVec.ofNat 32 (β (1 : Fin 4)).val).toNat = (β (1 : Fin 4)).val by rw [BitVec.toNat_ofNat]; omega)
    | ⟨2, _⟩ => exact (show 0 = (β (2 : Fin 4)).val by omega)
    | ⟨3, _⟩ => exact (show 0 = (β (3 : Fin 4)).val by omega)

theorem fill7_at (A : S1x1x30x512.Idx → EReal) (t : Fin cfg0.N)
    (hA : ∀ (i : Fin 30) (n : Fin 512), A (ix4 (0 : Fin 1) (0 : Fin 1) i n) = stv m c (t.val / 4) i.val n.val (by have : t.val < 32 := t.isLt; omega) i.isLt n.isLt)
    (y : S1x1x30x512.Idx) (z : S1x8x30x512.Idx) (e1 : (z 1).val = t.val / 4) (e2 : (z 2).val = (y 2).val) (e3 : (z 3).val = (y 3).val) :
    A y = stv m c (z 1).val (z 2).val (z 3).val (z 1).isLt (z 2).isLt (z 3).isLt := by
  have hy : y = ix4 (0 : Fin 1) (0 : Fin 1) (y 2) (y 3) := by
    refine (eq_ix4 y).trans ?_
    have h0 : y 0 = (0 : Fin 1) := Fin.ext (Nat.lt_one_iff.mp (y 0).isLt)
    have h1 : y 1 = (0 : Fin 1) := Fin.ext (Nat.lt_one_iff.mp (y 1).isLt)
    exact (congrArg (fun q : Fin 1 => (ix4 q (y 1) (y 2) (y 3) : S1x1x30x512.Idx)) h0).trans (congrArg (fun q : Fin 1 => (ix4 (0 : Fin 1) q (y 2) (y 3) : S1x1x30x512.Idx)) h1)
  rw [hy]
  exact (hA (y 2) (y 3)).trans (stv_congr m c _ _ _ _ _ _ _ _ _ _ _ _ e1.symm e2.symm e3.symm)

theorem emb7 (t : Fin cfg0.N) (y : S1x1x30x512.Idx) : (((((cfg0.win 7).blk t).view.emb y) : S1x8x30x512.Idx) 1).val = t.val / 4
    ∧ (((((cfg0.win 7).blk t).view.emb y) : S1x8x30x512.Idx) 2).val = (y 2).val ∧ (((((cfg0.win 7).blk t).view.emb y) : S1x8x30x512.Idx) 3).val = (y 3).val := by
  obtain ⟨_, _, _, e1, e2, e3⟩ := idxs t
  have h1 : (y 1).val < 1 := (y 1).isLt
  refine ⟨(Pipeline.Window.rect_emb_val (cfg0.win 7) t y (1 : Fin 4)).trans ?_, (Pipeline.Window.rect_emb_val (cfg0.win 7) t y (2 : Fin 4)).trans ?_,
    (Pipeline.Window.rect_emb_val (cfg0.win 7) t y (3 : Fin 4)).trans ?_⟩
  · show win0_7.index t (1 : Fin 4) * 1 + (y 1).val = _; rw [e1]; omega
  · show win0_7.index t (2 : Fin 4) * 30 + (y 2).val = _; rw [e2]; omega
  · show win0_7.index t (3 : Fin 4) * 512 + (y 3).val = _; rw [e3]; omega

theorem arr7_at (b : Fin 8) (i : Fin 30) (n : Fin 512) :
    ((dats m 0 c).arrAt 7 cfg0.N : S1x8x30x512.Idx → EReal) (ix4 (0 : Fin 1) b i n) = stv m c b.val i.val n.val b.isLt i.isLt n.isLt :=
  congrFun ((dats m 0 c).arrAt_eq_of_covers 7 (fun y : S1x8x30x512.Idx => stv m c (y 1).val (y 2).val (y 3).val (y 1).isLt (y 2).isLt (y 3).isLt) covers7
    (fun t hf y => fill7_at m c ((dats m 0 c).after 7 t) t (stored_at m c t (flush_last t hf)) y _ (emb7 t y).1 (emb7 t y).2.1 (emb7 t y).2.2)) (ix4 (0 : Fin 1) b i n)

end Cert.Kernel4Ideal.ConvP

end
-- ==== Proof.ShortPOut.lean ====
/-
  The state that the short convolution leaves for the prompt sequences: what the last step of each sequence stores, element by element.
-/
module

public import proofs.«01_k».proof.Proof.Gen.Kernel5Ideal.Value
public import proofs.«01_k».proof.Proof.Spec
public import Idealize.ShloMosaic.Lib.WritesUnit
public import Idealize.ShloMosaic.Lib.ValueIdx
public import Idealize.ShloMosaic.Lib.Pipeline.Value

@[expose] public section

noncomputable section

namespace Cert.Kernel5Ideal.ShortP

open Cert.Kernel5Ideal Cert.Kernel5Ideal.Gen
open Idealize.ShloMosaic Idealize.ShloMosaic.TcCoe Idealize.ShloMosaic.ValueIdx

/-- The rows loaded from a block. -/
theorem load_at (M : Memref sig .tc .vmem S512x1536 .f32) (hM : M.IsWhole) (X : Vec Ideal S512x1536 .f32)
    (inb : ∀ a, (![0, 0] : Fin 2 → ℕ) a + S512x1536.size a ≤ S512x1536.size a) (r : Fin 512) (n : Fin 1536) :
    M.view.readAt (Elt Ideal) (Rect.unit (s := S512x1536) ![0, 0] S512x1536.size inb).toLoadRect (hM.unread X) (ix2 r n) = X (ix2 r n) := by
  rw [View.readAt_apply, hM.read_unread]
  refine congrArg X (funext fun a => Fin.ext ?_)
  match a with
  | ⟨0, _⟩ => show 0 + 1 * r.val = r.val; omega
  | ⟨1, _⟩ => show 0 + 1 * n.val = n.val; omega

variable (c : Dev nD) (M0 : Memref sig .tc .vmem S512x1536 .f32) (h0 : M0.IsWhole) (X : Vec Ideal S512x1536 .f32)

/-- Reading the last rows of the buffer. -/
theorem idxEnd (i : Fin 3) (n : Fin 1536) : (Rect.unit (s := S520x1536) ![517, 0] S3x1536.size inb_S520x1536_S3x1536_517_0).toLoadRect.idx (ix2 i n) = ix2 (⟨517 + i.val, by omega⟩ : Fin 520) n :=
  funext fun a => Fin.ext (match a with
    | ⟨0, _⟩ => (show 517 + 1 * i.val = 517 + i.val by omega)
    | ⟨1, _⟩ => (show 0 + 1 * n.val = n.val by omega))

/-- What is stored as the state. -/
theorem word_at (i : Fin 3) (n : Fin 1536) :
    k0_pay9 (kernelRun0_B.sl.v34 (F := Ideal) c M0 h0 scM0_0 X) (ix4 (0 : Fin 1) (0 : Fin 1) i n) = X (ix2 ⟨509 + i.val, by omega⟩ n) := by
  unfold k0_pay9
  show shapeCast _ _ _ _ = _
  refine (shapeCast_apply _ _ (ix4 (0 : Fin 1) (0 : Fin 1) i n) (ix2 i n) ?_).trans ?_
  · rw [Shape.rowMajor_val_two, Shape.rowMajor_val_four]
    simp
  unfold kernelRun0_B.sl.v34 kernelRun0_B.sl.HS0_1
  refine (congrArg (fun q => scM0_0.view.read (Elt Ideal) (scM0_0.view.writes (Elt Ideal) scM0_0.view.junk _) q) (idxEnd i n)).trans ?_
  refine (View.read_writes_cons_unit_of_mem _ _ _ _ _ _ (ix2 (⟨509 + i.val, by omega⟩ : Fin 512) n) rfl fun a => ?_).trans ?_
  · match a with
    | ⟨0, _⟩ => show 517 + i.val = 8 + (509 + i.val); omega
    | ⟨1, _⟩ => show n.val = 0 + n.val; omega
  · unfold k0_pay5
    show shapeCast _ _ _ _ = _
    exact (shapeCast_apply _ _ (ix2 (⟨509 + i.val, by omega⟩ : Fin 512) n) (ix2 (⟨509 + i.val, by omega⟩ : Fin 512) n) rfl).trans (load_at M0 h0 X _ _ n)

variable (m : (ℓ : Loc nD τ sig) → Buf (Elt Ideal) ℓ)

/-- What a step past a sequence's first stores as the new state. -/
theorem step_at (t : Fin cfg0.N) (h0 : ¬ t.val % 4 = 0) (i : Fin 3) (n : Fin 1536) :
    ((dats m 0 c).after 8 t : S1x1x3x1536.Idx → EReal) (ix4 (0 : Fin 1) (0 : Fin 1) i n) = (iblk m c 0 t : S512x1536.Idx → EReal) (ix2 ⟨509 + i.val, by omega⟩ n) := by
  rw [after0_8, outsAt0_B m c t h0]
  dsimp only
  unfold out0_B_8
  unfold kernelRun0_B
  dsimp only
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word_at c (ms0_0 t) (hs0_0 t) (iblk m c 0 t) i n

end Cert.Kernel5Ideal.ShortP

end
-- ==== Proof.ShortPRef.lean ====
/-
  The state that the reference leaves in the short convolution for the prompt sequences, element by element.
-/
module

public import proofs.«01_k».proof.Proof.Gen.Reference5Ideal.Read
public import proofs.«01_k».proof.Proof.Spec
public import Idealize.ShloMosaic.Lib.ValueIdx
public import Idealize.ShloMosaic.Lib.Pipeline.Value

@[expose] public section

noncomputable section

namespace Cert.Spec

open Idealize.ShloMosaic Idealize.ShloMosaic.ValueIdx

/-- A prompt sequence's state at a place: the last 3 of its 2048 rows. -/
def shortP (G : (⟨2, ![17408, 1536]⟩ : Shape).Idx → EReal) (b i n : ℕ) (hb : b < 8) (hi : i < 3) (hn : n < 1536) : EReal :=
  G (ix2 ⟨2048 * b + (2045 + i), by omega⟩ ⟨n, hn⟩)

end Cert.Spec

namespace Cert.Reference5Ideal.ShortPRef

open Cert.Reference5Ideal Cert.Reference5Ideal.Gen Cert.Reference5Ideal.Read Cert.Spec
open Idealize.ShloMosaic Idealize.ShloMosaic.ValueIdx

variable (x0 : (⟨S17408x1536, .f32⟩ : BufTy).Contents (Elt Ideal))

theorem v5_at (b : Fin 8) (i : Fin 3) (n : Fin 1536) : val_main_v5 (F := Ideal) x0 (ix4 (0 : Fin 1) b i n) = shortP x0 b.val i.val n.val b.isLt i.isLt n.isLt := by
  rw [val_main_v5_apply, val_main_v4_apply]
  refine (congrArg (val_main_v3 (F := Ideal) x0) (show _ = (ix3 b (⟨2048 + i.val, by omega⟩ : Fin 2051) n : S8x2051x1536.Idx) from funext fun a => Fin.ext ?_)).trans ?_
  · match a with
    | ⟨0, _⟩ => rfl
    | ⟨1, _⟩ => rfl
    | ⟨2, _⟩ => rfl
  unfold shortP
  refine (concatenate_apply_piece (t := S8x2051x1536) (i := ix3 b (⟨2045 + i.val, by omega⟩ : Fin 2048) n) 1 [⟨S8x3x1536, val_main_v0 (F := Ideal)⟩, ⟨S8x2048x1536, val_main_v2 (F := Ideal) x0⟩] concatenates_S8x3x1536_S8x2048x1536_S8x2051x1536_d1 (ix3 b (⟨2048 + i.val, by omega⟩ : Fin 2051) n) 1 (Nat.lt_succ_self 1) S8x2048x1536 (val_main_v2 (F := Ideal) x0) rfl rfl 3 rfl
    (fun q hq => match q with
      | ⟨0, _⟩ => rfl
      | ⟨1, _⟩ => absurd rfl hq
      | ⟨2, _⟩ => rfl) (show 3 + (2045 + i.val) = 2048 + i.val by omega)).trans ?_
  rw [val_main_v2_apply, val_main_v1_apply]
  refine congrArg x0 (funext fun a => Fin.ext ?_)
  match a with
  | ⟨0, _⟩ => show ((b.val * 2048 + (2045 + i.val)) * 1536 + n.val) / 1536 = 2048 * b.val + (2045 + i.val); omega
  | ⟨1, _⟩ => show ((b.val * 2048 + (2045 + i.val)) * 1536 + n.val) % 1536 = n.val; omega

end Cert.Reference5Ideal.ShortPRef

end
-- ==== Proof.ShortPVal.lean ====
/-
  The state that the short convolution leaves for the prompt sequences: the array after a run, element by element.
-/
module

public import proofs.«01_k».proof.Proof.ShortPOut
public import proofs.«01_k».proof.Proof.ShortPRef
public import Idealize.ShloMosaic.Lib.Pipeline.Covers

@[expose] public section

noncomputable section

namespace Cert.Kernel5Ideal.ShortP

open Cert.Kernel5Ideal Cert.Kernel5Ideal.Gen Cert.Spec
open Idealize.ShloMosaic Idealize.ShloMosaic.TcCoe Idealize.ShloMosaic.ValueIdx

variable (m : (ℓ : Loc nD τ sig) → Buf (Elt Ideal) ℓ) (c : Dev nD)

/-- Which block each step takes and leaves. -/
theorem idxs : ∀ t : Fin cfg0.N, win0_0.index t (0 : Fin 2) = t.val ∧ win0_0.index t (1 : Fin 2) = 0
    ∧ win0_8.index t (0 : Fin 4) = 0 ∧ win0_8.index t (1 : Fin 4) = t.val / 4 ∧ win0_8.index t (2 : Fin 4) = 0 ∧ win0_8.index t (3 : Fin 4) = 0 :=
  (by decide +kernel : ∀ t : Fin grid0.N, _)

/-- The state is written back after a sequence's last step. -/
theorem flush_last : ∀ t : Fin cfg0.N, (cfg0.win 8).flush t = true → t.val % 4 = 3 :=
  (by decide +kernel : ∀ t : Fin grid0.N, win0_8.flush t = true → t.val % 4 = 3)

theorem iblk0_at (t : Fin cfg0.N) (r : Fin 512) (n : Fin 1536) :
    (iblk m c 0 t : S512x1536.Idx → EReal) (ix2 r n) = m ((c : Thread nD τ).loc main_arg0) (ix2 (⟨512 * t.val + r.val, by have : t.val < 32 := t.isLt; omega⟩ : Fin 17408) n) := by
  obtain ⟨e0, e1, _⟩ := idxs t
  rw [← V_main_arg0 m c]
  refine congrArg (V m c main_arg0) (funext fun a => Fin.ext ?_)
  refine (Pipeline.Window.rect_emb_val (cfg0.win 0) t (ix2 r n) a).trans ?_
  match a with
  | ⟨0, _⟩ => show win0_0.index t (0 : Fin 2) * 512 + r.val = 512 * t.val + r.val; rw [e0]; omega
  | ⟨1, _⟩ => show win0_0.index t (1 : Fin 2) * 1536 + n.val = n.val; rw [e1]; omega

/-- The state at a place. -/
def stv (b i n : ℕ) (hb : b < 8) (hi : i < 3) (hn : n < 1536) : EReal :=
  shortP (m ((c : Thread nD τ).loc main_arg0)) b i n hb hi hn

theorem stv_congr (b b' i i' n n' : ℕ) (hb hb' hi hi' hn hn') (eb : b = b') (ei : i = i') (en : n = n') : stv m c b i n hb hi hn = stv m c b' i' n' hb' hi' hn' := by
  subst eb
  subst ei
  subst en
  rfl

theorem stored_at (t : Fin cfg0.N) (ht : t.val % 4 = 3) (i : Fin 3) (n : Fin 1536) :
    ((dats m 0 c).after 8 t : S1x1x3x1536.Idx → EReal) (ix4 (0 : Fin 1) (0 : Fin 1) i n)
      = stv m c (t.val / 4) i.val n.val (by have : t.val < 32 := t.isLt; omega) i.isLt n.isLt := by
  rw [step_at c m t (by omega)]
  unfold stv shortP
  refine (iblk0_at m c t _ n).trans (congrArg (m ((c : Thread nD τ).loc main_arg0)) (congrArg (fun q : Fin 17408 => (ix2 q n : S17408x1536.Idx)) (Fin.ext ?_)))
  show 512 * t.val + (509 + i.val) = 2048 * (t.val / 4) + (2045 + i.val)
  omega

theorem covers8 : (cfg0.win 8).Covers :=
  (cfg0.win 8).covers_of_indexMap_surj rfl (show ∀ a : Fin 4, 0 < (![1, 1, 3, 1536] : Fin 4 → ℕ) a by decide) fun β => by
    have h0 : (β (0 : Fin 4)).val < 1 := Nat.lt_of_lt_of_eq (β (0 : Fin 4)).isLt (show (1 + 1 - 1) / 1 = 1 by norm_num)
    have h1 : (β (1 : Fin 4)).val < 8 := Nat.lt_of_lt_of_eq (β (1 : Fin 4)).isLt (show (8 + 1 - 1) / 1 = 8 by norm_num)
    have h2 : (β (2 : Fin 4)).val < 1 := Nat.lt_of_lt_of_eq (β (2 : Fin 4)).isLt (show (3 + 3 - 1) / 3 = 1 by norm_num)
    have h3 : (β (3 : Fin 4)).val < 1 := Nat.lt_of_lt_of_eq (β (3 : Fin 4)).isLt (show (1536 + 1536 - 1) / 1536 = 1 by norm_num)
    refine ⟨fun | ⟨0, _⟩ => ⟨(β (1 : Fin 4)).val, h1⟩ | ⟨1, _⟩ => ⟨0, Nat.succ_pos 3⟩, fun a => ?_⟩
    match a with
    | ⟨0, _⟩ => exact (show 0 = (β (0 : Fin 4)).val by omega)
    | ⟨1, _⟩ => exact (show (BitVec.ofNat 32 (β (1 : Fin 4)).val).toNat = (β (1 : Fin 4)).val by rw [BitVec.toNat_ofNat]; omega)
    | ⟨2, _⟩ => exact (show 0 = (β (2 : Fin 4)).val by omega)
    | ⟨3, _⟩ => exact (show 0 = (β (3 : Fin 4)).val by omega)

theorem fill8_at (A : S1x1x3x1536.Idx → EReal) (t : Fin cfg0.N)
    (hA : ∀ (i : Fin 3) (n : Fin 1536), A (ix4 (0 : Fin 1) (0 : Fin 1) i n) = stv m c (t.val / 4) i.val n.val (by have : t.val < 32 := t.isLt; omega) i.isLt n.isLt)
    (y : S1x1x3x1536.Idx) (z : S1x8x3x1536.Idx) (e1 : (z 1).val = t.val / 4) (e2 : (z 2).val = (y 2).val) (e3 : (z 3).val = (y 3).val) :
    A y = stv m c (z 1).val (z 2).val (z 3).val (z 1).isLt (z 2).isLt (z 3).isLt := by
  have hy : y = ix4 (0 : Fin 1) (0 : Fin 1) (y 2) (y 3) := by
    refine (eq_ix4 y).trans ?_
    have h0 : y 0 = (0 : Fin 1) := Fin.ext (Nat.lt_one_iff.mp (y 0).isLt)
    have h1 : y 1 = (0 : Fin 1) := Fin.ext (Nat.lt_one_iff.mp (y 1).isLt)
    exact (congrArg (fun q : Fin 1 => (ix4 q (y 1) (y 2) (y 3) : S1x1x3x1536.Idx)) h0).trans (congrArg (fun q : Fin 1 => (ix4 (0 : Fin 1) q (y 2) (y 3) : S1x1x3x1536.Idx)) h1)
  rw [hy]
  exact (hA (y 2) (y 3)).trans (stv_congr m c _ _ _ _ _ _ _ _ _ _ _ _ e1.symm e2.symm e3.symm)

theorem emb8 (t : Fin cfg0.N) (y : S1x1x3x1536.Idx) : (((((cfg0.win 8).blk t).view.emb y) : S1x8x3x1536.Idx) 1).val = t.val / 4
    ∧ (((((cfg0.win 8).blk t).view.emb y) : S1x8x3x1536.Idx) 2).val = (y 2).val ∧ (((((cfg0.win 8).blk t).view.emb y) : S1x8x3x1536.Idx) 3).val = (y 3).val := by
  obtain ⟨_, _, _, e1, e2, e3⟩ := idxs t
  have h1 : (y 1).val < 1 := (y 1).isLt
  refine ⟨(Pipeline.Window.rect_emb_val (cfg0.win 8) t y (1 : Fin 4)).trans ?_, (Pipeline.Window.rect_emb_val (cfg0.win 8) t y (2 : Fin 4)).trans ?_,
    (Pipeline.Window.rect_emb_val (cfg0.win 8) t y (3 : Fin 4)).trans ?_⟩
  · show win0_8.index t (1 : Fin 4) * 1 + (y 1).val = _; rw [e1]; omega
  · show win0_8.index t (2 : Fin 4) * 3 + (y 2).val = _; rw [e2]; omega
  · show win0_8.index t (3 : Fin 4) * 1536 + (y 3).val = _; rw [e3]; omega

theorem arr8_at (b : Fin 8) (i : Fin 3) (n : Fin 1536) :
    ((dats m 0 c).arrAt 8 cfg0.N : S1x8x3x1536.Idx → EReal) (ix4 (0 : Fin 1) b i n) = stv m c b.val i.val n.val b.isLt i.isLt n.isLt :=
  congrFun ((dats m 0 c).arrAt_eq_of_covers 8 (fun y : S1x8x3x1536.Idx => stv m c (y 1).val (y 2).val (y 3).val (y 1).isLt (y 2).isLt (y 3).isLt) covers8
    (fun t hf y => fill8_at m c ((dats m 0 c).after 8 t) t (stored_at m c t (flush_last t hf)) y _ (emb8 t y).1 (emb8 t y).2.1 (emb8 t y).2.2)) (ix4 (0 : Fin 1) b i n)

end Cert.Kernel5Ideal.ShortP

end
-- ==== Proof.ShortSOut.lean ====
/-
  The state that the short convolution leaves for the sample sequences: what one step of it stores, element by element.
-/
module

public import proofs.«01_k».proof.Proof.Gen.Kernel6Ideal.Value
public import proofs.«01_k».proof.Proof.Spec
public import Idealize.ShloMosaic.Lib.WritesUnit
public import Idealize.ShloMosaic.Lib.ValueIdx
public import Idealize.ShloMosaic.Lib.Pipeline.Value

@[expose] public section

noncomputable section

namespace Cert.Kernel6Ideal.ShortS

open Cert.Kernel6Ideal Cert.Kernel6Ideal.Gen
open Idealize.ShloMosaic Idealize.ShloMosaic.TcCoe Idealize.ShloMosaic.ValueIdx

/-- Eight rows loaded from a block of 128. -/
theorem rows_at (M : Memref sig .tc .vmem S128x1536 .f32) (hM : M.IsWhole) (X : Vec Ideal S128x1536 .f32) (o : ℕ) (ho : o + 8 ≤ 128)
    (inb : ∀ a, (![o, 0] : Fin 2 → ℕ) a + S8x1536.size a ≤ S128x1536.size a) (h : S8x1536.ShapeCasts S8x1536) (r : Fin 8) (n : Fin 1536) :
    shapeCast S8x1536 (M.view.readAt (Elt Ideal) (Rect.unit (s := S128x1536) ![o, 0] S8x1536.size inb).toLoadRect (hM.unread X)) h (ix2 r n)
      = X (ix2 ⟨o + r.val, by omega⟩ n) := by
  refine (shapeCast_apply _ h (ix2 r n) (ix2 r n) rfl).trans ?_
  rw [View.readAt_apply, hM.read_unread]
  refine congrArg X (funext fun a => Fin.ext ?_)
  match a with
  | ⟨0, _⟩ => show o + 1 * r.val = o + r.val; omega
  | ⟨1, _⟩ => show 0 + 1 * n.val = n.val; omega

/-- The last three of the rows just stored, under new unit axes. -/
theorem last_at (v : Vec Ideal S3x1536 .f32) (h : S3x1536.ShapeCasts S1x1x3x1536) (i : Fin 3) (n : Fin 1536) :
    shapeCast S1x1x3x1536 v h (ix4 (0 : Fin 1) (0 : Fin 1) i n) = v (ix2 i n) := by
  refine shapeCast_apply _ h _ (ix2 i n) ?_
  rw [Shape.rowMajor_val_two, Shape.rowMajor_val_four]
  simp

variable (c : Dev nD) (M0 : Memref sig .tc .vmem S128x1536 .f32) (h0 : M0.IsWhole) (M3 : Memref sig .tc .vmem S1x16x3x1536 .f32) (h3 : M3.IsWhole)
  (X : Vec Ideal S128x1536 .f32) (Y : Vec Ideal S1x16x3x1536 .f32)

/-- Reading rows 13 to 15 of the sixteen. -/
theorem idx13 (i : Fin 3) (n : Fin 1536) : (Rect.unit (s := S16x1536) ![13, 0] S3x1536.size inb_S16x1536_S3x1536_13_0).toLoadRect.idx (ix2 i n) = ix2 (⟨13 + i.val, by omega⟩ : Fin 16) n :=
  funext fun a => Fin.ext (match a with
    | ⟨0, _⟩ => (show 13 + 1 * i.val = 13 + i.val by omega)
    | ⟨1, _⟩ => (show 0 + 1 * n.val = n.val by omega))

/-! What is stored for each sequence. -/

theorem word0 (i : Fin 3) (n : Fin 1536) :
    k0_pay7 (kernelRun0_A.sl.v40 (F := Ideal) c M0 h0 M3 h3 scM0_0 X Y) (ix4 (0 : Fin 1) (0 : Fin 1) i n) = X (ix2 ⟨0 + (i.val + 5), by omega⟩ n) := by
  unfold k0_pay7
  show shapeCast _ _ _ _ = _
  refine (last_at _ _ i n).trans ?_
  unfold kernelRun0_A.sl.v40 kernelRun0_A.sl.HS0_3
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 0 (by omega) _ _ ⟨i.val + 5, by omega⟩ n

theorem word1 (i : Fin 3) (n : Fin 1536) :
    k0_pay12 (kernelRun0_A.sl.v80 (F := Ideal) c M0 h0 M3 h3 scM0_0 X Y) (ix4 (0 : Fin 1) (0 : Fin 1) i n) = X (ix2 ⟨8 + (i.val + 5), by omega⟩ n) := by
  unfold k0_pay12
  show shapeCast _ _ _ _ = _
  refine (last_at _ _ i n).trans ?_
  unfold kernelRun0_A.sl.v80 kernelRun0_A.sl.HS0_5
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 8 (by omega) _ _ ⟨i.val + 5, by omega⟩ n

theorem word2 (i : Fin 3) (n : Fin 1536) :
    k0_pay16 (kernelRun0_A.sl.v120 (F := Ideal) c M0 h0 M3 h3 scM0_0 X Y) (ix4 (0 : Fin 1) (0 : Fin 1) i n) = X (ix2 ⟨16 + (i.val + 5), by omega⟩ n) := by
  unfold k0_pay16
  show shapeCast _ _ _ _ = _
  refine (last_at _ _ i n).trans ?_
  unfold kernelRun0_A.sl.v120 kernelRun0_A.sl.HS0_7
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 16 (by omega) _ _ ⟨i.val + 5, by omega⟩ n

theorem word3 (i : Fin 3) (n : Fin 1536) :
    k0_pay21 (kernelRun0_A.sl.v160 (F := Ideal) c M0 h0 M3 h3 scM0_0 X Y) (ix4 (0 : Fin 1) (0 : Fin 1) i n) = X (ix2 ⟨24 + (i.val + 5), by omega⟩ n) := by
  unfold k0_pay21
  show shapeCast _ _ _ _ = _
  refine (last_at _ _ i n).trans ?_
  unfold kernelRun0_A.sl.v160 kernelRun0_A.sl.HS0_9
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 24 (by omega) _ _ ⟨i.val + 5, by omega⟩ n

theorem word4 (i : Fin 3) (n : Fin 1536) :
    k0_pay26 (kernelRun0_A.sl.v200 (F := Ideal) c M0 h0 M3 h3 scM0_0 X Y) (ix4 (0 : Fin 1) (0 : Fin 1) i n) = X (ix2 ⟨32 + (i.val + 5), by omega⟩ n) := by
  unfold k0_pay26
  show shapeCast _ _ _ _ = _
  refine (last_at _ _ i n).trans ?_
  unfold kernelRun0_A.sl.v200 kernelRun0_A.sl.HS0_11
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 32 (by omega) _ _ ⟨i.val + 5, by omega⟩ n

theorem word5 (i : Fin 3) (n : Fin 1536) :
    k0_pay30 (kernelRun0_A.sl.v240 (F := Ideal) c M0 h0 M3 h3 scM0_0 X Y) (ix4 (0 : Fin 1) (0 : Fin 1) i n) = X (ix2 ⟨40 + (i.val + 5), by omega⟩ n) := by
  unfold k0_pay30
  show shapeCast _ _ _ _ = _
  refine (last_at _ _ i n).trans ?_
  unfold kernelRun0_A.sl.v240 kernelRun0_A.sl.HS0_13
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 40 (by omega) _ _ ⟨i.val + 5, by omega⟩ n

theorem word6 (i : Fin 3) (n : Fin 1536) :
    k0_pay36 (kernelRun0_A.sl.v280 (F := Ideal) c M0 h0 M3 h3 scM0_0 X Y) (ix4 (0 : Fin 1) (0 : Fin 1) i n) = X (ix2 ⟨48 + (i.val + 5), by omega⟩ n) := by
  unfold k0_pay36
  show shapeCast _ _ _ _ = _
  refine (last_at _ _ i n).trans ?_
  unfold kernelRun0_A.sl.v280 kernelRun0_A.sl.HS0_15
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 48 (by omega) _ _ ⟨i.val + 5, by omega⟩ n

theorem word7 (i : Fin 3) (n : Fin 1536) :
    k0_pay42 (kernelRun0_A.sl.v320 (F := Ideal) c M0 h0 M3 h3 scM0_0 X Y) (ix4 (0 : Fin 1) (0 : Fin 1) i n) = X (ix2 ⟨56 + (i.val + 5), by omega⟩ n) := by
  unfold k0_pay42
  show shapeCast _ _ _ _ = _
  refine (last_at _ _ i n).trans ?_
  unfold kernelRun0_A.sl.v320 kernelRun0_A.sl.HS0_17
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 56 (by omega) _ _ ⟨i.val + 5, by omega⟩ n

theorem word8 (i : Fin 3) (n : Fin 1536) :
    k0_pay46 (kernelRun0_A.sl.v360 (F := Ideal) c M0 h0 M3 h3 scM0_0 X Y) (ix4 (0 : Fin 1) (0 : Fin 1) i n) = X (ix2 ⟨64 + (i.val + 5), by omega⟩ n) := by
  unfold k0_pay46
  show shapeCast _ _ _ _ = _
  refine (last_at _ _ i n).trans ?_
  unfold kernelRun0_A.sl.v360 kernelRun0_A.sl.HS0_19
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 64 (by omega) _ _ ⟨i.val + 5, by omega⟩ n

theorem word9 (i : Fin 3) (n : Fin 1536) :
    k0_pay51 (kernelRun0_A.sl.v400 (F := Ideal) c M0 h0 M3 h3 scM0_0 X Y) (ix4 (0 : Fin 1) (0 : Fin 1) i n) = X (ix2 ⟨72 + (i.val + 5), by omega⟩ n) := by
  unfold k0_pay51
  show shapeCast _ _ _ _ = _
  refine (last_at _ _ i n).trans ?_
  unfold kernelRun0_A.sl.v400 kernelRun0_A.sl.HS0_21
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 72 (by omega) _ _ ⟨i.val + 5, by omega⟩ n

theorem word10 (i : Fin 3) (n : Fin 1536) :
    k0_pay56 (kernelRun0_A.sl.v440 (F := Ideal) c M0 h0 M3 h3 scM0_0 X Y) (ix4 (0 : Fin 1) (0 : Fin 1) i n) = X (ix2 ⟨80 + (i.val + 5), by omega⟩ n) := by
  unfold k0_pay56
  show shapeCast _ _ _ _ = _
  refine (last_at _ _ i n).trans ?_
  unfold kernelRun0_A.sl.v440 kernelRun0_A.sl.HS0_23
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 80 (by omega) _ _ ⟨i.val + 5, by omega⟩ n

theorem word11 (i : Fin 3) (n : Fin 1536) :
    k0_pay61 (kernelRun0_A.sl.v480 (F := Ideal) c M0 h0 M3 h3 scM0_0 X Y) (ix4 (0 : Fin 1) (0 : Fin 1) i n) = X (ix2 ⟨88 + (i.val + 5), by omega⟩ n) := by
  unfold k0_pay61
  show shapeCast _ _ _ _ = _
  refine (last_at _ _ i n).trans ?_
  unfold kernelRun0_A.sl.v480 kernelRun0_A.sl.HS0_25
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 88 (by omega) _ _ ⟨i.val + 5, by omega⟩ n

theorem word12 (i : Fin 3) (n : Fin 1536) :
    k0_pay65 (kernelRun0_A.sl.v520 (F := Ideal) c M0 h0 M3 h3 scM0_0 X Y) (ix4 (0 : Fin 1) (0 : Fin 1) i n) = X (ix2 ⟨96 + (i.val + 5), by omega⟩ n) := by
  unfold k0_pay65
  show shapeCast _ _ _ _ = _
  refine (last_at _ _ i n).trans ?_
  unfold kernelRun0_A.sl.v520 kernelRun0_A.sl.HS0_27
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 96 (by omega) _ _ ⟨i.val + 5, by omega⟩ n

theorem word13 (i : Fin 3) (n : Fin 1536) :
    k0_pay70 (kernelRun0_A.sl.v560 (F := Ideal) c M0 h0 M3 h3 scM0_0 X Y) (ix4 (0 : Fin 1) (0 : Fin 1) i n) = X (ix2 ⟨104 + (i.val + 5), by omega⟩ n) := by
  unfold k0_pay70
  show shapeCast _ _ _ _ = _
  refine (last_at _ _ i n).trans ?_
  unfold kernelRun0_A.sl.v560 kernelRun0_A.sl.HS0_29
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 104 (by omega) _ _ ⟨i.val + 5, by omega⟩ n

theorem word14 (i : Fin 3) (n : Fin 1536) :
    k0_pay75 (kernelRun0_A.sl.v600 (F := Ideal) c M0 h0 M3 h3 scM0_0 X Y) (ix4 (0 : Fin 1) (0 : Fin 1) i n) = X (ix2 ⟨112 + (i.val + 5), by omega⟩ n) := by
  unfold k0_pay75
  show shapeCast _ _ _ _ = _
  refine (last_at _ _ i n).trans ?_
  unfold kernelRun0_A.sl.v600 kernelRun0_A.sl.HS0_31
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 112 (by omega) _ _ ⟨i.val + 5, by omega⟩ n

theorem word15 (i : Fin 3) (n : Fin 1536) :
    k0_pay78 (kernelRun0_A.sl.v640 (F := Ideal) c M0 h0 M3 h3 scM0_0 X Y) (ix4 (0 : Fin 1) (0 : Fin 1) i n) = X (ix2 ⟨120 + (i.val + 5), by omega⟩ n) := by
  unfold k0_pay78
  show shapeCast _ _ _ _ = _
  refine (last_at _ _ i n).trans ?_
  unfold kernelRun0_A.sl.v640 kernelRun0_A.sl.HS0_33
  refine (congrArg (fun q => scM0_0.view.read (Elt Ideal) (scM0_0.view.writes (Elt Ideal) scM0_0.view.junk _) q) (idx13 i n)).trans ?_
  refine (View.read_writes_cons_unit_of_mem _ _ _ _ _ _ (ix2 (⟨i.val + 5, by omega⟩ : Fin 8) n) rfl fun a => ?_).trans ?_
  · match a with
    | ⟨0, _⟩ => show 13 + i.val = 8 + (i.val + 5); omega
    | ⟨1, _⟩ => show n.val = 0 + n.val; omega
  · exact rows_at M0 h0 X 120 (by omega) _ _ ⟨i.val + 5, by omega⟩ n

variable (m : (ℓ : Loc nD τ sig) → Buf (Elt Ideal) ℓ)

theorem step0 (t : Fin cfg0.N) (i : Fin 3) (n : Fin 1536) :
    ((dats m 0 c).after 8 t : S1x16x3x1536.Idx → EReal) (ix4 (0 : Fin 1) (0 : Fin 16) i n) = (iblk m c 0 t : S128x1536.Idx → EReal) (ix2 ⟨0 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 0 < 15 by decide))).trans ?_
  refine (View.read_writes_cons_unit_of_not_mem _ _ _ _ _ _ rfl (1 : Fin 4) (Or.inl (show 0 < 14 by decide))).trans ?_
  refine (View.read_writes_cons_unit_of_not_mem _ _ _ _ _ _ rfl (1 : Fin 4) (Or.inl (show 0 < 13 by decide))).trans ?_
  refine (View.read_writes_cons_unit_of_not_mem _ _ _ _ _ _ rfl (1 : Fin 4) (Or.inl (show 0 < 12 by decide))).trans ?_
  refine (View.read_writes_cons_unit_of_not_mem _ _ _ _ _ _ rfl (1 : Fin 4) (Or.inl (show 0 < 11 by decide))).trans ?_
  refine (View.read_writes_cons_unit_of_not_mem _ _ _ _ _ _ rfl (1 : Fin 4) (Or.inl (show 0 < 10 by decide))).trans ?_
  refine (View.read_writes_cons_unit_of_not_mem _ _ _ _ _ _ rfl (1 : Fin 4) (Or.inl (show 0 < 9 by decide))).trans ?_
  refine (View.read_writes_cons_unit_of_not_mem _ _ _ _ _ _ rfl (1 : Fin 4) (Or.inl (show 0 < 8 by decide))).trans ?_
  refine (View.read_writes_cons_unit_of_not_mem _ _ _ _ _ _ rfl (1 : Fin 4) (Or.inl (show 0 < 7 by decide))).trans ?_
  refine (View.read_writes_cons_unit_of_not_mem _ _ _ _ _ _ rfl (1 : Fin 4) (Or.inl (show 0 < 6 by decide))).trans ?_
  refine (View.read_writes_cons_unit_of_not_mem _ _ _ _ _ _ rfl (1 : Fin 4) (Or.inl (show 0 < 5 by decide))).trans ?_
  refine (View.read_writes_cons_unit_of_not_mem _ _ _ _ _ _ rfl (1 : Fin 4) (Or.inl (show 0 < 4 by decide))).trans ?_
  refine (View.read_writes_cons_unit_of_not_mem _ _ _ _ _ _ rfl (1 : Fin 4) (Or.inl (show 0 < 3 by decide))).trans ?_
  refine (View.read_writes_cons_unit_of_not_mem _ _ _ _ _ _ rfl (1 : Fin 4) (Or.inl (show 0 < 2 by decide))).trans ?_
  refine (View.read_writes_cons_unit_of_not_mem _ _ _ _ _ _ rfl (1 : Fin 4) (Or.inl (show 0 < 1 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word0 c (ms0_0 t) (hs0_0 t) (ms0_3 t) (hs0_3 t) (iblk m c 0 t) (iblk m c 3 t) i n

theorem step1 (t : Fin cfg0.N) (i : Fin 3) (n : Fin 1536) :
    ((dats m 0 c).after 8 t : S1x16x3x1536.Idx → EReal) (ix4 (0 : Fin 1) (1 : Fin 16) i n) = (iblk m c 0 t : S128x1536.Idx → EReal) (ix2 ⟨8 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 1 < 15 by decide))).trans ?_
  refine (View.read_writes_cons_unit_of_not_mem _ _ _ _ _ _ rfl (1 : Fin 4) (Or.inl (show 1 < 14 by decide))).trans ?_
  refine (View.read_writes_cons_unit_of_not_mem _ _ _ _ _ _ rfl (1 : Fin 4) (Or.inl (show 1 < 13 by decide))).trans ?_
  refine (View.read_writes_cons_unit_of_not_mem _ _ _ _ _ _ rfl (1 : Fin 4) (Or.inl (show 1 < 12 by decide))).trans ?_
  refine (View.read_writes_cons_unit_of_not_mem _ _ _ _ _ _ rfl (1 : Fin 4) (Or.inl (show 1 < 11 by decide))).trans ?_
  refine (View.read_writes_cons_unit_of_not_mem _ _ _ _ _ _ rfl (1 : Fin 4) (Or.inl (show 1 < 10 by decide))).trans ?_
  refine (View.read_writes_cons_unit_of_not_mem _ _ _ _ _ _ rfl (1 : Fin 4) (Or.inl (show 1 < 9 by decide))).trans ?_
  refine (View.read_writes_cons_unit_of_not_mem _ _ _ _ _ _ rfl (1 : Fin 4) (Or.inl (show 1 < 8 by decide))).trans ?_
  refine (View.read_writes_cons_unit_of_not_mem _ _ _ _ _ _ rfl (1 : Fin 4) (Or.inl (show 1 < 7 by decide))).trans ?_
  refine (View.read_writes_cons_unit_of_not_mem _ _ _ _ _ _ rfl (1 : Fin 4) (Or.inl (show 1 < 6 by decide))).trans ?_
  refine (View.read_writes_cons_unit_of_not_mem _ _ _ _ _ _ rfl (1 : Fin 4) (Or.inl (show 1 < 5 by decide))).trans ?_
  refine (View.read_writes_cons_unit_of_not_mem _ _ _ _ _ _ rfl (1 : Fin 4) (Or.inl (show 1 < 4 by decide))).trans ?_
  refine (View.read_writes_cons_unit_of_not_mem _ _ _ _ _ _ rfl (1 : Fin 4) (Or.inl (show 1 < 3 by decide))).trans ?_
  refine (View.read_writes_cons_unit_of_not_mem _ _ _ _ _ _ rfl (1 : Fin 4) (Or.inl (show 1 < 2 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word1 c (ms0_0 t) (hs0_0 t) (ms0_3 t) (hs0_3 t) (iblk m c 0 t) (iblk m c 3 t) i n

theorem step2 (t : Fin cfg0.N) (i : Fin 3) (n : Fin 1536) :
    ((dats m 0 c).after 8 t : S1x16x3x1536.Idx → EReal) (ix4 (0 : Fin 1) (2 : Fin 16) i n) = (iblk m c 0 t : S128x1536.Idx → EReal) (ix2 ⟨16 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 2 < 15 by decide))).trans ?_
  refine (View.read_writes_cons_unit_of_not_mem _ _ _ _ _ _ rfl (1 : Fin 4) (Or.inl (show 2 < 14 by decide))).trans ?_
  refine (View.read_writes_cons_unit_of_not_mem _ _ _ _ _ _ rfl (1 : Fin 4) (Or.inl (show 2 < 13 by decide))).trans ?_
  refine (View.read_writes_cons_unit_of_not_mem _ _ _ _ _ _ rfl (1 : Fin 4) (Or.inl (show 2 < 12 by decide))).trans ?_
  refine (View.read_writes_cons_unit_of_not_mem _ _ _ _ _ _ rfl (1 : Fin 4) (Or.inl (show 2 < 11 by decide))).trans ?_
  refine (View.read_writes_cons_unit_of_not_mem _ _ _ _ _ _ rfl (1 : Fin 4) (Or.inl (show 2 < 10 by decide))).trans ?_
  refine (View.read_writes_cons_unit_of_not_mem _ _ _ _ _ _ rfl (1 : Fin 4) (Or.inl (show 2 < 9 by decide))).trans ?_
  refine (View.read_writes_cons_unit_of_not_mem _ _ _ _ _ _ rfl (1 : Fin 4) (Or.inl (show 2 < 8 by decide))).trans ?_
  refine (View.read_writes_cons_unit_of_not_mem _ _ _ _ _ _ rfl (1 : Fin 4) (Or.inl (show 2 < 7 by decide))).trans ?_
  refine (View.read_writes_cons_unit_of_not_mem _ _ _ _ _ _ rfl (1 : Fin 4) (Or.inl (show 2 < 6 by decide))).trans ?_
  refine (View.read_writes_cons_unit_of_not_mem _ _ _ _ _ _ rfl (1 : Fin 4) (Or.inl (show 2 < 5 by decide))).trans ?_
  refine (View.read_writes_cons_unit_of_not_mem _ _ _ _ _ _ rfl (1 : Fin 4) (Or.inl (show 2 < 4 by decide))).trans ?_
  refine (View.read_writes_cons_unit_of_not_mem _ _ _ _ _ _ rfl (1 : Fin 4) (Or.inl (show 2 < 3 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word2 c (ms0_0 t) (hs0_0 t) (ms0_3 t) (hs0_3 t) (iblk m c 0 t) (iblk m c 3 t) i n

theorem step3 (t : Fin cfg0.N) (i : Fin 3) (n : Fin 1536) :
    ((dats m 0 c).after 8 t : S1x16x3x1536.Idx → EReal) (ix4 (0 : Fin 1) (3 : Fin 16) i n) = (iblk m c 0 t : S128x1536.Idx → EReal) (ix2 ⟨24 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 3 < 15 by decide))).trans ?_
  refine (View.read_writes_cons_unit_of_not_mem _ _ _ _ _ _ rfl (1 : Fin 4) (Or.inl (show 3 < 14 by decide))).trans ?_
  refine (View.read_writes_cons_unit_of_not_mem _ _ _ _ _ _ rfl (1 : Fin 4) (Or.inl (show 3 < 13 by decide))).trans ?_
  refine (View.read_writes_cons_unit_of_not_mem _ _ _ _ _ _ rfl (1 : Fin 4) (Or.inl (show 3 < 12 by decide))).trans ?_
  refine (View.read_writes_cons_unit_of_not_mem _ _ _ _ _ _ rfl (1 : Fin 4) (Or.inl (show 3 < 11 by decide))).trans ?_
  refine (View.read_writes_cons_unit_of_not_mem _ _ _ _ _ _ rfl (1 : Fin 4) (Or.inl (show 3 < 10 by decide))).trans ?_
  refine (View.read_writes_cons_unit_of_not_mem _ _ _ _ _ _ rfl (1 : Fin 4) (Or.inl (show 3 < 9 by decide))).trans ?_
  refine (View.read_writes_cons_unit_of_not_mem _ _ _ _ _ _ rfl (1 : Fin 4) (Or.inl (show 3 < 8 by decide))).trans ?_
  refine (View.read_writes_cons_unit_of_not_mem _ _ _ _ _ _ rfl (1 : Fin 4) (Or.inl (show 3 < 7 by decide))).trans ?_
  refine (View.read_writes_cons_unit_of_not_mem _ _ _ _ _ _ rfl (1 : Fin 4) (Or.inl (show 3 < 6 by decide))).trans ?_
  refine (View.read_writes_cons_unit_of_not_mem _ _ _ _ _ _ rfl (1 : Fin 4) (Or.inl (show 3 < 5 by decide))).trans ?_
  refine (View.read_writes_cons_unit_of_not_mem _ _ _ _ _ _ rfl (1 : Fin 4) (Or.inl (show 3 < 4 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word3 c (ms0_0 t) (hs0_0 t) (ms0_3 t) (hs0_3 t) (iblk m c 0 t) (iblk m c 3 t) i n

theorem step4 (t : Fin cfg0.N) (i : Fin 3) (n : Fin 1536) :
    ((dats m 0 c).after 8 t : S1x16x3x1536.Idx → EReal) (ix4 (0 : Fin 1) (4 : Fin 16) i n) = (iblk m c 0 t : S128x1536.Idx → EReal) (ix2 ⟨32 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 4 < 15 by decide))).trans ?_
  refine (View.read_writes_cons_unit_of_not_mem _ _ _ _ _ _ rfl (1 : Fin 4) (Or.inl (show 4 < 14 by decide))).trans ?_
  refine (View.read_writes_cons_unit_of_not_mem _ _ _ _ _ _ rfl (1 : Fin 4) (Or.inl (show 4 < 13 by decide))).trans ?_
  refine (View.read_writes_cons_unit_of_not_mem _ _ _ _ _ _ rfl (1 : Fin 4) (Or.inl (show 4 < 12 by decide))).trans ?_
  refine (View.read_writes_cons_unit_of_not_mem _ _ _ _ _ _ rfl (1 : Fin 4) (Or.inl (show 4 < 11 by decide))).trans ?_
  refine (View.read_writes_cons_unit_of_not_mem _ _ _ _ _ _ rfl (1 : Fin 4) (Or.inl (show 4 < 10 by decide))).trans ?_
  refine (View.read_writes_cons_unit_of_not_mem _ _ _ _ _ _ rfl (1 : Fin 4) (Or.inl (show 4 < 9 by decide))).trans ?_
  refine (View.read_writes_cons_unit_of_not_mem _ _ _ _ _ _ rfl (1 : Fin 4) (Or.inl (show 4 < 8 by decide))).trans ?_
  refine (View.read_writes_cons_unit_of_not_mem _ _ _ _ _ _ rfl (1 : Fin 4) (Or.inl (show 4 < 7 by decide))).trans ?_
  refine (View.read_writes_cons_unit_of_not_mem _ _ _ _ _ _ rfl (1 : Fin 4) (Or.inl (show 4 < 6 by decide))).trans ?_
  refine (View.read_writes_cons_unit_of_not_mem _ _ _ _ _ _ rfl (1 : Fin 4) (Or.inl (show 4 < 5 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word4 c (ms0_0 t) (hs0_0 t) (ms0_3 t) (hs0_3 t) (iblk m c 0 t) (iblk m c 3 t) i n

theorem step5 (t : Fin cfg0.N) (i : Fin 3) (n : Fin 1536) :
    ((dats m 0 c).after 8 t : S1x16x3x1536.Idx → EReal) (ix4 (0 : Fin 1) (5 : Fin 16) i n) = (iblk m c 0 t : S128x1536.Idx → EReal) (ix2 ⟨40 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 5 < 15 by decide))).trans ?_
  refine (View.read_writes_cons_unit_of_not_mem _ _ _ _ _ _ rfl (1 : Fin 4) (Or.inl (show 5 < 14 by decide))).trans ?_
  refine (View.read_writes_cons_unit_of_not_mem _ _ _ _ _ _ rfl (1 : Fin 4) (Or.inl (show 5 < 13 by decide))).trans ?_
  refine (View.read_writes_cons_unit_of_not_mem _ _ _ _ _ _ rfl (1 : Fin 4) (Or.inl (show 5 < 12 by decide))).trans ?_
  refine (View.read_writes_cons_unit_of_not_mem _ _ _ _ _ _ rfl (1 : Fin 4) (Or.inl (show 5 < 11 by decide))).trans ?_
  refine (View.read_writes_cons_unit_of_not_mem _ _ _ _ _ _ rfl (1 : Fin 4) (Or.inl (show 5 < 10 by decide))).trans ?_
  refine (View.read_writes_cons_unit_of_not_mem _ _ _ _ _ _ rfl (1 : Fin 4) (Or.inl (show 5 < 9 by decide))).trans ?_
  refine (View.read_writes_cons_unit_of_not_mem _ _ _ _ _ _ rfl (1 : Fin 4) (Or.inl (show 5 < 8 by decide))).trans ?_
  refine (View.read_writes_cons_unit_of_not_mem _ _ _ _ _ _ rfl (1 : Fin 4) (Or.inl (show 5 < 7 by decide))).trans ?_
  refine (View.read_writes_cons_unit_of_not_mem _ _ _ _ _ _ rfl (1 : Fin 4) (Or.inl (show 5 < 6 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word5 c (ms0_0 t) (hs0_0 t) (ms0_3 t) (hs0_3 t) (iblk m c 0 t) (iblk m c 3 t) i n

theorem step6 (t : Fin cfg0.N) (i : Fin 3) (n : Fin 1536) :
    ((dats m 0 c).after 8 t : S1x16x3x1536.Idx → EReal) (ix4 (0 : Fin 1) (6 : Fin 16) i n) = (iblk m c 0 t : S128x1536.Idx → EReal) (ix2 ⟨48 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 6 < 15 by decide))).trans ?_
  refine (View.read_writes_cons_unit_of_not_mem _ _ _ _ _ _ rfl (1 : Fin 4) (Or.inl (show 6 < 14 by decide))).trans ?_
  refine (View.read_writes_cons_unit_of_not_mem _ _ _ _ _ _ rfl (1 : Fin 4) (Or.inl (show 6 < 13 by decide))).trans ?_
  refine (View.read_writes_cons_unit_of_not_mem _ _ _ _ _ _ rfl (1 : Fin 4) (Or.inl (show 6 < 12 by decide))).trans ?_
  refine (View.read_writes_cons_unit_of_not_mem _ _ _ _ _ _ rfl (1 : Fin 4) (Or.inl (show 6 < 11 by decide))).trans ?_
  refine (View.read_writes_cons_unit_of_not_mem _ _ _ _ _ _ rfl (1 : Fin 4) (Or.inl (show 6 < 10 by decide))).trans ?_
  refine (View.read_writes_cons_unit_of_not_mem _ _ _ _ _ _ rfl (1 : Fin 4) (Or.inl (show 6 < 9 by decide))).trans ?_
  refine (View.read_writes_cons_unit_of_not_mem _ _ _ _ _ _ rfl (1 : Fin 4) (Or.inl (show 6 < 8 by decide))).trans ?_
  refine (View.read_writes_cons_unit_of_not_mem _ _ _ _ _ _ rfl (1 : Fin 4) (Or.inl (show 6 < 7 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word6 c (ms0_0 t) (hs0_0 t) (ms0_3 t) (hs0_3 t) (iblk m c 0 t) (iblk m c 3 t) i n

theorem step7 (t : Fin cfg0.N) (i : Fin 3) (n : Fin 1536) :
    ((dats m 0 c).after 8 t : S1x16x3x1536.Idx → EReal) (ix4 (0 : Fin 1) (7 : Fin 16) i n) = (iblk m c 0 t : S128x1536.Idx → EReal) (ix2 ⟨56 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 7 < 15 by decide))).trans ?_
  refine (View.read_writes_cons_unit_of_not_mem _ _ _ _ _ _ rfl (1 : Fin 4) (Or.inl (show 7 < 14 by decide))).trans ?_
  refine (View.read_writes_cons_unit_of_not_mem _ _ _ _ _ _ rfl (1 : Fin 4) (Or.inl (show 7 < 13 by decide))).trans ?_
  refine (View.read_writes_cons_unit_of_not_mem _ _ _ _ _ _ rfl (1 : Fin 4) (Or.inl (show 7 < 12 by decide))).trans ?_
  refine (View.read_writes_cons_unit_of_not_mem _ _ _ _ _ _ rfl (1 : Fin 4) (Or.inl (show 7 < 11 by decide))).trans ?_
  refine (View.read_writes_cons_unit_of_not_mem _ _ _ _ _ _ rfl (1 : Fin 4) (Or.inl (show 7 < 10 by decide))).trans ?_
  refine (View.read_writes_cons_unit_of_not_mem _ _ _ _ _ _ rfl (1 : Fin 4) (Or.inl (show 7 < 9 by decide))).trans ?_
  refine (View.read_writes_cons_unit_of_not_mem _ _ _ _ _ _ rfl (1 : Fin 4) (Or.inl (show 7 < 8 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word7 c (ms0_0 t) (hs0_0 t) (ms0_3 t) (hs0_3 t) (iblk m c 0 t) (iblk m c 3 t) i n

theorem step8 (t : Fin cfg0.N) (i : Fin 3) (n : Fin 1536) :
    ((dats m 0 c).after 8 t : S1x16x3x1536.Idx → EReal) (ix4 (0 : Fin 1) (8 : Fin 16) i n) = (iblk m c 0 t : S128x1536.Idx → EReal) (ix2 ⟨64 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 8 < 15 by decide))).trans ?_
  refine (View.read_writes_cons_unit_of_not_mem _ _ _ _ _ _ rfl (1 : Fin 4) (Or.inl (show 8 < 14 by decide))).trans ?_
  refine (View.read_writes_cons_unit_of_not_mem _ _ _ _ _ _ rfl (1 : Fin 4) (Or.inl (show 8 < 13 by decide))).trans ?_
  refine (View.read_writes_cons_unit_of_not_mem _ _ _ _ _ _ rfl (1 : Fin 4) (Or.inl (show 8 < 12 by decide))).trans ?_
  refine (View.read_writes_cons_unit_of_not_mem _ _ _ _ _ _ rfl (1 : Fin 4) (Or.inl (show 8 < 11 by decide))).trans ?_
  refine (View.read_writes_cons_unit_of_not_mem _ _ _ _ _ _ rfl (1 : Fin 4) (Or.inl (show 8 < 10 by decide))).trans ?_
  refine (View.read_writes_cons_unit_of_not_mem _ _ _ _ _ _ rfl (1 : Fin 4) (Or.inl (show 8 < 9 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word8 c (ms0_0 t) (hs0_0 t) (ms0_3 t) (hs0_3 t) (iblk m c 0 t) (iblk m c 3 t) i n

theorem step9 (t : Fin cfg0.N) (i : Fin 3) (n : Fin 1536) :
    ((dats m 0 c).after 8 t : S1x16x3x1536.Idx → EReal) (ix4 (0 : Fin 1) (9 : Fin 16) i n) = (iblk m c 0 t : S128x1536.Idx → EReal) (ix2 ⟨72 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 9 < 15 by decide))).trans ?_
  refine (View.read_writes_cons_unit_of_not_mem _ _ _ _ _ _ rfl (1 : Fin 4) (Or.inl (show 9 < 14 by decide))).trans ?_
  refine (View.read_writes_cons_unit_of_not_mem _ _ _ _ _ _ rfl (1 : Fin 4) (Or.inl (show 9 < 13 by decide))).trans ?_
  refine (View.read_writes_cons_unit_of_not_mem _ _ _ _ _ _ rfl (1 : Fin 4) (Or.inl (show 9 < 12 by decide))).trans ?_
  refine (View.read_writes_cons_unit_of_not_mem _ _ _ _ _ _ rfl (1 : Fin 4) (Or.inl (show 9 < 11 by decide))).trans ?_
  refine (View.read_writes_cons_unit_of_not_mem _ _ _ _ _ _ rfl (1 : Fin 4) (Or.inl (show 9 < 10 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word9 c (ms0_0 t) (hs0_0 t) (ms0_3 t) (hs0_3 t) (iblk m c 0 t) (iblk m c 3 t) i n

theorem step10 (t : Fin cfg0.N) (i : Fin 3) (n : Fin 1536) :
    ((dats m 0 c).after 8 t : S1x16x3x1536.Idx → EReal) (ix4 (0 : Fin 1) (10 : Fin 16) i n) = (iblk m c 0 t : S128x1536.Idx → EReal) (ix2 ⟨80 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 10 < 15 by decide))).trans ?_
  refine (View.read_writes_cons_unit_of_not_mem _ _ _ _ _ _ rfl (1 : Fin 4) (Or.inl (show 10 < 14 by decide))).trans ?_
  refine (View.read_writes_cons_unit_of_not_mem _ _ _ _ _ _ rfl (1 : Fin 4) (Or.inl (show 10 < 13 by decide))).trans ?_
  refine (View.read_writes_cons_unit_of_not_mem _ _ _ _ _ _ rfl (1 : Fin 4) (Or.inl (show 10 < 12 by decide))).trans ?_
  refine (View.read_writes_cons_unit_of_not_mem _ _ _ _ _ _ rfl (1 : Fin 4) (Or.inl (show 10 < 11 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word10 c (ms0_0 t) (hs0_0 t) (ms0_3 t) (hs0_3 t) (iblk m c 0 t) (iblk m c 3 t) i n

theorem step11 (t : Fin cfg0.N) (i : Fin 3) (n : Fin 1536) :
    ((dats m 0 c).after 8 t : S1x16x3x1536.Idx → EReal) (ix4 (0 : Fin 1) (11 : Fin 16) i n) = (iblk m c 0 t : S128x1536.Idx → EReal) (ix2 ⟨88 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 11 < 15 by decide))).trans ?_
  refine (View.read_writes_cons_unit_of_not_mem _ _ _ _ _ _ rfl (1 : Fin 4) (Or.inl (show 11 < 14 by decide))).trans ?_
  refine (View.read_writes_cons_unit_of_not_mem _ _ _ _ _ _ rfl (1 : Fin 4) (Or.inl (show 11 < 13 by decide))).trans ?_
  refine (View.read_writes_cons_unit_of_not_mem _ _ _ _ _ _ rfl (1 : Fin 4) (Or.inl (show 11 < 12 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word11 c (ms0_0 t) (hs0_0 t) (ms0_3 t) (hs0_3 t) (iblk m c 0 t) (iblk m c 3 t) i n

theorem step12 (t : Fin cfg0.N) (i : Fin 3) (n : Fin 1536) :
    ((dats m 0 c).after 8 t : S1x16x3x1536.Idx → EReal) (ix4 (0 : Fin 1) (12 : Fin 16) i n) = (iblk m c 0 t : S128x1536.Idx → EReal) (ix2 ⟨96 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 12 < 15 by decide))).trans ?_
  refine (View.read_writes_cons_unit_of_not_mem _ _ _ _ _ _ rfl (1 : Fin 4) (Or.inl (show 12 < 14 by decide))).trans ?_
  refine (View.read_writes_cons_unit_of_not_mem _ _ _ _ _ _ rfl (1 : Fin 4) (Or.inl (show 12 < 13 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word12 c (ms0_0 t) (hs0_0 t) (ms0_3 t) (hs0_3 t) (iblk m c 0 t) (iblk m c 3 t) i n

theorem step13 (t : Fin cfg0.N) (i : Fin 3) (n : Fin 1536) :
    ((dats m 0 c).after 8 t : S1x16x3x1536.Idx → EReal) (ix4 (0 : Fin 1) (13 : Fin 16) i n) = (iblk m c 0 t : S128x1536.Idx → EReal) (ix2 ⟨104 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 13 < 15 by decide))).trans ?_
  refine (View.read_writes_cons_unit_of_not_mem _ _ _ _ _ _ rfl (1 : Fin 4) (Or.inl (show 13 < 14 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word13 c (ms0_0 t) (hs0_0 t) (ms0_3 t) (hs0_3 t) (iblk m c 0 t) (iblk m c 3 t) i n

theorem step14 (t : Fin cfg0.N) (i : Fin 3) (n : Fin 1536) :
    ((dats m 0 c).after 8 t : S1x16x3x1536.Idx → EReal) (ix4 (0 : Fin 1) (14 : Fin 16) i n) = (iblk m c 0 t : S128x1536.Idx → EReal) (ix2 ⟨112 + (i.val + 5), by omega⟩ n) := by
  rw [after0_8]
  unfold outsAt0 out0_A_8
  dsimp only
  unfold kernelRun0_A
  dsimp only
  refine (View.read_writes_cons_unit_of_not_mem _ _ _ _ _ _ rfl (1 : Fin 4) (Or.inl (show 14 < 15 by decide))).trans ?_
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word14 c (ms0_0 t) (hs0_0 t) (ms0_3 t) (hs0_3 t) (iblk m c 0 t) (iblk m c 3 t) i n

theorem step15 (t : Fin cfg0.N) (i : Fin 3) (n : Fin 1536) :
    ((dats m 0 c).after 8 t : S1x16x3x1536.Idx → EReal) (ix4 (0 : Fin 1) (15 : Fin 16) i n) = (iblk m c 0 t : S128x1536.Idx → EReal) (ix2 ⟨120 + (i.val + 5), by omega⟩ n) := by
  rw [after0_8]
  unfold outsAt0 out0_A_8
  dsimp only
  unfold kernelRun0_A
  dsimp only
  refine (View.read_writes_cons_unit_of_mem _ _ _ _ _ _ (ix4 (0 : Fin 1) (0 : Fin 1) i n) rfl fun a => ?_).trans ?_
  · match a with
    | ⟨0, _⟩ => rfl
    | ⟨1, _⟩ => rfl
    | ⟨2, _⟩ => show i.val = 0 + i.val; omega
    | ⟨3, _⟩ => show n.val = 0 + n.val; omega
  · exact word15 c (ms0_0 t) (hs0_0 t) (ms0_3 t) (hs0_3 t) (iblk m c 0 t) (iblk m c 3 t) i n

/-- What a step stores as the new state. -/
theorem step_at (t : Fin cfg0.N) (b : Fin 16) (i : Fin 3) (n : Fin 1536) :
    ((dats m 0 c).after 8 t : S1x16x3x1536.Idx → EReal) (ix4 (0 : Fin 1) b i n) = (iblk m c 0 t : S128x1536.Idx → EReal) (ix2 ⟨8 * b.val + (i.val + 5), by omega⟩ n) := by
  match b with
  | ⟨0, _⟩ => exact step0 c m t i n
  | ⟨1, _⟩ => exact step1 c m t i n
  | ⟨2, _⟩ => exact step2 c m t i n
  | ⟨3, _⟩ => exact step3 c m t i n
  | ⟨4, _⟩ => exact step4 c m t i n
  | ⟨5, _⟩ => exact step5 c m t i n
  | ⟨6, _⟩ => exact step6 c m t i n
  | ⟨7, _⟩ => exact step7 c m t i n
  | ⟨8, _⟩ => exact step8 c m t i n
  | ⟨9, _⟩ => exact step9 c m t i n
  | ⟨10, _⟩ => exact step10 c m t i n
  | ⟨11, _⟩ => exact step11 c m t i n
  | ⟨12, _⟩ => exact step12 c m t i n
  | ⟨13, _⟩ => exact step13 c m t i n
  | ⟨14, _⟩ => exact step14 c m t i n
  | ⟨15, _⟩ => exact step15 c m t i n
  | ⟨k + 16, h⟩ => exact absurd h (by omega)

end Cert.Kernel6Ideal.ShortS

end
-- ==== Proof.ShortSRef.lean ====
/-
  The state that the reference leaves in the short convolution for the sample sequences, element by element.
-/
module

public import proofs.«01_k».proof.Proof.Gen.Reference6Ideal.Read
public import proofs.«01_k».proof.Proof.Spec
public import Idealize.ShloMosaic.Lib.ValueIdx
public import Idealize.ShloMosaic.Lib.Pipeline.Value

@[expose] public section

noncomputable section

namespace Cert.Spec

open Idealize.ShloMosaic Idealize.ShloMosaic.ValueIdx

/-- A sample sequence's new state at a place: the last three of its eight new rows. -/
def shortS (G : (⟨2, ![17408, 1536]⟩ : Shape).Idx → EReal) (b i n : ℕ) (hb : b < 128) (hi : i < 3) (hn : n < 1536) : EReal :=
  G (ix2 ⟨16384 + (8 * b + (i + 5)), by omega⟩ ⟨n, hn⟩)

end Cert.Spec

namespace Cert.Reference6Ideal.ShortSRef

open Cert.Reference6Ideal Cert.Reference6Ideal.Gen Cert.Reference6Ideal.Read Cert.Spec
open Idealize.ShloMosaic Idealize.ShloMosaic.ValueIdx

variable (x0 : (⟨S17408x1536, .f32⟩ : BufTy).Contents (Elt Ideal)) (x3 : (⟨S1x128x3x1536, .f32⟩ : BufTy).Contents (Elt Ideal))

theorem v5_at (b : Fin 128) (i : Fin 3) (n : Fin 1536) : val_main_v5 (F := Ideal) x0 x3 (ix4 (0 : Fin 1) b i n) = shortS x0 b.val i.val n.val b.isLt i.isLt n.isLt := by
  rw [val_main_v5_apply, val_main_v4_apply]
  refine (congrArg (val_main_v3 (F := Ideal) x0 x3) (show _ = (ix3 b (⟨8 + i.val, by omega⟩ : Fin 11) n : S128x11x1536.Idx) from funext fun a => Fin.ext ?_)).trans ?_
  · match a with
    | ⟨0, _⟩ => rfl
    | ⟨1, _⟩ => rfl
    | ⟨2, _⟩ => rfl
  unfold shortS
  refine (concatenate_apply_piece (t := S128x11x1536) (i := ix3 b (⟨i.val + 5, by omega⟩ : Fin 8) n) 1 [⟨S128x3x1536, val_main_v0 (F := Ideal) x3⟩, ⟨S128x8x1536, val_main_v2 (F := Ideal) x0⟩] concatenates_S128x3x1536_S128x8x1536_S128x11x1536_d1 (ix3 b (⟨8 + i.val, by omega⟩ : Fin 11) n) 1 (Nat.lt_succ_self 1) S128x8x1536 (val_main_v2 (F := Ideal) x0) rfl rfl 3 rfl
    (fun q hq => match q with
      | ⟨0, _⟩ => rfl
      | ⟨1, _⟩ => absurd rfl hq
      | ⟨2, _⟩ => rfl) (show 3 + (i.val + 5) = 8 + i.val by omega)).trans ?_
  rw [val_main_v2_apply, val_main_v1_apply]
  refine congrArg x0 (funext fun a => Fin.ext ?_)
  match a with
  | ⟨0, _⟩ => show 16384 + ((b.val * 8 + (i.val + 5)) * 1536 + n.val) / 1536 = 16384 + (8 * b.val + (i.val + 5)); omega
  | ⟨1, _⟩ => show ((b.val * 8 + (i.val + 5)) * 1536 + n.val) % 1536 = n.val; omega

end Cert.Reference6Ideal.ShortSRef

end
-- ==== Proof.ShortSVal.lean ====
/-
  The state that the short convolution leaves for the sample sequences: the array after a run, element by element.
-/
module

public import proofs.«01_k».proof.Proof.ShortSOut
public import proofs.«01_k».proof.Proof.ShortSRef
public import Idealize.ShloMosaic.Lib.Pipeline.Covers

@[expose] public section

noncomputable section

namespace Cert.Kernel6Ideal.ShortS

open Cert.Kernel6Ideal Cert.Kernel6Ideal.Gen Cert.Spec
open Idealize.ShloMosaic Idealize.ShloMosaic.TcCoe Idealize.ShloMosaic.ValueIdx

variable (m : (ℓ : Loc nD τ sig) → Buf (Elt Ideal) ℓ) (c : Dev nD)

/-- Which block each step takes and leaves. -/
theorem idxs : ∀ t : Fin cfg0.N, win0_0.index t (0 : Fin 2) = 128 + t.val ∧ win0_0.index t (1 : Fin 2) = 0
    ∧ win0_8.index t (0 : Fin 4) = 0 ∧ win0_8.index t (1 : Fin 4) = t.val ∧ win0_8.index t (2 : Fin 4) = 0 ∧ win0_8.index t (3 : Fin 4) = 0 :=
  (by decide +kernel : ∀ t : Fin grid0.N, _)

theorem iblk0_at (t : Fin cfg0.N) (r : Fin 128) (n : Fin 1536) :
    (iblk m c 0 t : S128x1536.Idx → EReal) (ix2 r n) = m ((c : Thread nD τ).loc main_arg0) (ix2 (⟨16384 + (128 * t.val + r.val), by have : t.val < 8 := t.isLt; omega⟩ : Fin 17408) n) := by
  obtain ⟨e0, e1, _⟩ := idxs t
  rw [← V_main_arg0 m c]
  refine congrArg (V m c main_arg0) (funext fun a => Fin.ext ?_)
  refine (Pipeline.Window.rect_emb_val (cfg0.win 0) t (ix2 r n) a).trans ?_
  match a with
  | ⟨0, _⟩ => show win0_0.index t (0 : Fin 2) * 128 + r.val = 16384 + (128 * t.val + r.val); rw [e0]; omega
  | ⟨1, _⟩ => show win0_0.index t (1 : Fin 2) * 1536 + n.val = n.val; rw [e1]; omega

/-- The new state at a place. -/
def stv (b i n : ℕ) (hb : b < 128) (hi : i < 3) (hn : n < 1536) : EReal :=
  shortS (m ((c : Thread nD τ).loc main_arg0)) b i n hb hi hn

theorem stv_congr (b b' i i' n n' : ℕ) (hb hb' hi hi' hn hn') (eb : b = b') (ei : i = i') (en : n = n') : stv m c b i n hb hi hn = stv m c b' i' n' hb' hi' hn' := by
  subst eb
  subst ei
  subst en
  rfl

theorem stored_at (t : Fin cfg0.N) (b : Fin 16) (i : Fin 3) (n : Fin 1536) :
    ((dats m 0 c).after 8 t : S1x16x3x1536.Idx → EReal) (ix4 (0 : Fin 1) b i n)
      = stv m c (16 * t.val + b.val) i.val n.val (by have : t.val < 8 := t.isLt; omega) i.isLt n.isLt := by
  rw [step_at]
  unfold stv shortS
  refine (iblk0_at m c t _ n).trans (congrArg (m ((c : Thread nD τ).loc main_arg0)) (congrArg (fun q : Fin 17408 => (ix2 q n : S17408x1536.Idx)) (Fin.ext ?_)))
  show 16384 + (128 * t.val + (8 * b.val + (i.val + 5))) = 16384 + (8 * (16 * t.val + b.val) + (i.val + 5))
  omega

theorem covers8 : (cfg0.win 8).Covers :=
  (cfg0.win 8).covers_of_indexMap_surj rfl (show ∀ a : Fin 4, 0 < (![1, 16, 3, 1536] : Fin 4 → ℕ) a by decide) fun β => by
    have h0 : (β (0 : Fin 4)).val < 1 := Nat.lt_of_lt_of_eq (β (0 : Fin 4)).isLt (show (1 + 1 - 1) / 1 = 1 by norm_num)
    have h1 : (β (1 : Fin 4)).val < 8 := Nat.lt_of_lt_of_eq (β (1 : Fin 4)).isLt (show (128 + 16 - 1) / 16 = 8 by norm_num)
    have h2 : (β (2 : Fin 4)).val < 1 := Nat.lt_of_lt_of_eq (β (2 : Fin 4)).isLt (show (3 + 3 - 1) / 3 = 1 by norm_num)
    have h3 : (β (3 : Fin 4)).val < 1 := Nat.lt_of_lt_of_eq (β (3 : Fin 4)).isLt (show (1536 + 1536 - 1) / 1536 = 1 by norm_num)
    refine ⟨fun | ⟨0, _⟩ => ⟨(β (1 : Fin 4)).val, h1⟩, fun a => ?_⟩
    match a with
    | ⟨0, _⟩ => exact (show 0 = (β (0 : Fin 4)).val by omega)
    | ⟨1, _⟩ => exact (show (BitVec.ofNat 32 (β (1 : Fin 4)).val).toNat = (β (1 : Fin 4)).val by rw [BitVec.toNat_ofNat]; omega)
    | ⟨2, _⟩ => exact (show 0 = (β (2 : Fin 4)).val by omega)
    | ⟨3, _⟩ => exact (show 0 = (β (3 : Fin 4)).val by omega)

theorem fill8_at (A : S1x16x3x1536.Idx → EReal) (t : Fin cfg0.N)
    (hA : ∀ (b : Fin 16) (i : Fin 3) (n : Fin 1536), A (ix4 (0 : Fin 1) b i n) = stv m c (16 * t.val + b.val) i.val n.val (by have : t.val < 8 := t.isLt; omega) i.isLt n.isLt)
    (y : S1x16x3x1536.Idx) (z : S1x128x3x1536.Idx) (e1 : (z 1).val = 16 * t.val + (y 1).val) (e2 : (z 2).val = (y 2).val) (e3 : (z 3).val = (y 3).val) :
    A y = stv m c (z 1).val (z 2).val (z 3).val (z 1).isLt (z 2).isLt (z 3).isLt := by
  have hy : y = ix4 (0 : Fin 1) (y 1) (y 2) (y 3) := by
    refine (eq_ix4 y).trans ?_
    have h0 : y 0 = (0 : Fin 1) := Fin.ext (Nat.lt_one_iff.mp (y 0).isLt)
    exact congrArg (fun q : Fin 1 => (ix4 q (y 1) (y 2) (y 3) : S1x16x3x1536.Idx)) h0
  rw [hy]
  exact (hA (y 1) (y 2) (y 3)).trans (stv_congr m c _ _ _ _ _ _ _ _ _ _ _ _ e1.symm e2.symm e3.symm)

theorem emb8 (t : Fin cfg0.N) (y : S1x16x3x1536.Idx) : (((((cfg0.win 8).blk t).view.emb y) : S1x128x3x1536.Idx) 1).val = 16 * t.val + (y 1).val
    ∧ (((((cfg0.win 8).blk t).view.emb y) : S1x128x3x1536.Idx) 2).val = (y 2).val ∧ (((((cfg0.win 8).blk t).view.emb y) : S1x128x3x1536.Idx) 3).val = (y 3).val := by
  obtain ⟨_, _, _, e1, e2, e3⟩ := idxs t
  refine ⟨(Pipeline.Window.rect_emb_val (cfg0.win 8) t y (1 : Fin 4)).trans ?_, (Pipeline.Window.rect_emb_val (cfg0.win 8) t y (2 : Fin 4)).trans ?_,
    (Pipeline.Window.rect_emb_val (cfg0.win 8) t y (3 : Fin 4)).trans ?_⟩
  · show win0_8.index t (1 : Fin 4) * 16 + (y 1).val = _; rw [e1]; omega
  · show win0_8.index t (2 : Fin 4) * 3 + (y 2).val = _; rw [e2]; omega
  · show win0_8.index t (3 : Fin 4) * 1536 + (y 3).val = _; rw [e3]; omega

theorem arr8_at (b : Fin 128) (i : Fin 3) (n : Fin 1536) :
    ((dats m 0 c).arrAt 8 cfg0.N : S1x128x3x1536.Idx → EReal) (ix4 (0 : Fin 1) b i n) = stv m c b.val i.val n.val b.isLt i.isLt n.isLt :=
  congrFun ((dats m 0 c).arrAt_eq_of_covers 8 (fun y : S1x128x3x1536.Idx => stv m c (y 1).val (y 2).val (y 3).val (y 1).isLt (y 2).isLt (y 3).isLt) covers8
    (fun t _ y => fill8_at m c ((dats m 0 c).after 8 t) t (stored_at m c t) y _ (emb8 t y).1 (emb8 t y).2.1 (emb8 t y).2.2)) (ix4 (0 : Fin 1) b i n)

end Cert.Kernel6Ideal.ShortS

end
-- ==== Proof.InKer.lean ====
/-
  The projection's stored values, element by element, over the extended reals.
-/
module

public import proofs.«01_k».proof.Proof.Gen.Kernel2Ideal.Value
public import proofs.«01_k».proof.Proof.InSpec
public import Idealize.ShloMosaic.Lib.MatmulPlain
public import Idealize.ShloMosaic.Lib.ValueIdx
public import Idealize.ShloMosaic.Lib.ValueLayoutCasts
public import Idealize.ShloMosaic.Lib.Pipeline.Value

@[expose] public section

noncomputable section

namespace Cert.Kernel2Ideal.Inproj

open Cert.Kernel2Ideal Cert.Kernel2Ideal.Gen Cert.Spec
open Idealize.ShloMosaic Idealize.ShloMosaic.TcCoe Idealize.ShloMosaic.ValueIdx

section Rows

variable (x : Vec Ideal S256x1024 .f32) (g : Vec Ideal S1x1024 .f32)

/-- The squares of a row, summed into a column. -/
theorem squares_at (t : Fin 256) :
    shapeCast S256x1 (multiReduction (F := Ideal) .add [1] S256 (mulf x x) 0x00000000#32 reduces_S256x1024_S256 (.inl rfl) rfl) shapeCasts_S256_S256x1 (ix2 t (0 : Fin 1))
      = ∑ j : Fin 1024, x (ix2 t j) * x (ix2 t j) := by
  refine (shapeCast_a_a1_apply _ _ t 0).trans ?_
  refine (Ideal.multiReduction_add_single (mulf x x) _ reduces_S256x1024_S256 _ _ (ix1 t)).trans ?_
  refine Finset.sum_congr rfl fun j _ => ?_
  have e : reduces_S256x1024_S256.lift (ix1 t) j = ix2 t j := funext fun a => match a with | ⟨0, _⟩ => rfl | ⟨1, _⟩ => rfl
  rw [e]
  rfl

/-- The rows normalised and scaled. -/
theorem scaled_at (t : Fin 256) (k : Fin 1024) :
    mulf (F := Ideal) (mulf x (broadcastTo S256x1024 (rsqrt (addf (divf (shapeCast S256x1 (multiReduction (F := Ideal) .add [1] S256 (mulf x x) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
      (broadcastTo S256x1024 (shapeCast S1x1024 g shapeCasts_S1x1024_S1x1024) broadcasts_S1x1024_S256x1024) (ix2 t k)
    = nrm (fun j => x (ix2 t j)) (fun j => g (ix2 (0 : Fin 1) j)) k := by
  refine congrArg₂ (fun p q : EReal => x (ix2 t k) * p * q) ?_ ?_
  · refine (broadcastTo_apply _ _ _ (ix2 t (0 : Fin 1)) (fun a => match a with | ⟨0, _⟩ => rfl | ⟨1, _⟩ => rfl)).trans ?_
    exact congrArg (fun p : EReal => Ideal.rsqrt (Ideal.div p (k32 0x44800000#32) + k32 0x358637BD#32)) (squares_at x t)
  · refine (broadcastTo_apply _ _ _ (ix2 (0 : Fin 1) k) (fun a => match a with | ⟨0, _⟩ => rfl | ⟨1, _⟩ => rfl)).trans ?_
    rw [shapeCast_self]

end Rows

section Cols

variable (h : FVec Ideal S256x1024 .bf16)

/-- The rows times 512 columns. -/
theorem mm512_at (w : FVec Ideal S1024x512 .bf16) (t : Fin 256) (n : Fin 512) :
    matmul (F := Ideal) dot_S256x1024_S1024x512_S256x512_1_0_0_1_n_n none h (shapeCast S1024x512 w shapeCasts_S1024x512_S1024x512) (constant S256x512 .f32 0x00000000#32) (ix2 t n)
      = ∑ k : Fin 1024, h (ix2 t k) * w (ix2 k n) := by
  rw [shapeCast_self]
  refine (Ideal.matmul_plain_apply (M := 256) (K := 1024) (N := 512) none h w _ t n).trans ?_
  rw [show constant (F := Ideal) S256x512 .f32 0x00000000#32 (ix2 t n) = 0 from Ideal.ofBits_zero_f32, zero_add]

/-- The rows times 1536 columns. -/
theorem mm1536_at (w : FVec Ideal S1024x1536 .bf16) (t : Fin 256) (n : Fin 1536) :
    matmul (F := Ideal) dot_S256x1024_S1024x1536_S256x1536_1_0_0_1_n_n none h (shapeCast S1024x1536 w shapeCasts_S1024x1536_S1024x1536) (constant S256x1536 .f32 0x00000000#32) (ix2 t n)
      = ∑ k : Fin 1024, h (ix2 t k) * w (ix2 k n) := by
  rw [shapeCast_self]
  refine (Ideal.matmul_plain_apply (M := 256) (K := 1024) (N := 1536) none h w _ t n).trans ?_
  rw [show constant (F := Ideal) S256x1536 .f32 0x00000000#32 (ix2 t n) = 0 from Ideal.ofBits_zero_f32, zero_add]

/-- The rows times 1024 columns. -/
theorem mm1024_at (w : FVec Ideal S1024x1024 .bf16) (t : Fin 256) (n : Fin 1024) :
    matmul (F := Ideal) dot_S256x1024_S1024x1024_S256x1024_1_0_0_1_n_n none h (shapeCast S1024x1024 w shapeCasts_S1024x1024_S1024x1024) (constant S256x1024 .f32 0x00000000#32) (ix2 t n)
      = ∑ k : Fin 1024, h (ix2 t k) * w (ix2 k n) := by
  rw [shapeCast_self]
  refine (Ideal.matmul_plain_apply (M := 256) (K := 1024) (N := 1024) none h w _ t n).trans ?_
  rw [show constant (F := Ideal) S256x1024 .f32 0x00000000#32 (ix2 t n) = 0 from Ideal.ofBits_zero_f32, zero_add]

/-- The logistic as spelled by a difference from zero. -/
theorem sgm_of (z : EReal) : Ideal.div (k32 0x3F800000#32) (k32 0x3F800000#32 + Ideal.exp (k32 0x00000000#32 - z)) = sgm z := by
  unfold sgm
  rw [show k32 0x00000000#32 = 0 from Ideal.ofBits_zero_f32, sub_eq_add_neg, zero_add]

end Cols

section Pay

variable (i : grid0.Coords) (v0 : BitVec 1) (xa xb : Vec Ideal S256x1024 .f32) (g : Vec Ideal S1x1024 .f32)

/-- The chosen row. -/
abbrev sel (t : Fin 256) (k : Fin 1024) : EReal := (Scalar.select v0 xa xb : Vec Ideal S256x1024 .f32) (ix2 t k)

/-- The scale. -/
abbrev scl (k : Fin 1024) : EReal := g (ix2 (0 : Fin 1) k)

theorem pay9_at (t : Fin 256) (k : Fin 1024) : k0_pay9 (F := Ideal) v0 xa xb g (ix2 t k) = nrm (sel v0 xa xb t) (scl g) k := scaled_at (Scalar.select v0 xa xb) g t k

theorem pay10_at (t : Fin 256) (k : Fin 1024) : k0_pay10 (F := Ideal) v0 xa xb g (ix2 t k) = nrm (sel v0 xa xb t) (scl g) k := pay9_at v0 xa xb g t k

theorem pay11_at (wa wb : Vec Ideal S1024x512 .bf16) (t : Fin 256) (n : Fin 512) : k0_pay11 (F := Ideal) v0 xa xb g wa wb (ix2 t n)
    = proj (sel v0 xa xb t) (scl g) (fun k => wa (ix2 k n)) * sgm (proj (sel v0 xa xb t) (scl g) (fun k => wb (ix2 k n))) := by
  refine Eq.trans (congrArg₂ (fun p q : EReal => p * Ideal.div (k32 0x3F800000#32) (k32 0x3F800000#32 + Ideal.exp (k32 0x00000000#32 - q)))
    (mm512_at (k0_pay10 (F := Ideal) v0 xa xb g) wa t n) (mm512_at (k0_pay10 (F := Ideal) v0 xa xb g) wb t n)) ?_
  beta_reduce
  rw [sgm_of]
  exact congrArg₂ (fun p q : EReal => p * sgm q) (Finset.sum_congr rfl fun k _ => congrArg (· * wa (ix2 k n)) (pay10_at v0 xa xb g t k)) (Finset.sum_congr rfl fun k _ => congrArg (· * wb (ix2 k n)) (pay10_at v0 xa xb g t k))

theorem pay13_at (w : Vec Ideal S1024x1536 .bf16) (t : Fin 256) (n : Fin 1536) : k0_pay13 (F := Ideal) (k0_pay10 (F := Ideal) v0 xa xb g) (k0_pay12 (F := Ideal) w) (ix2 t n)
    = proj (sel v0 xa xb t) (scl g) (fun k => w (ix2 k n)) :=
  (mm1536_at (k0_pay10 (F := Ideal) v0 xa xb g) w t n).trans (Finset.sum_congr rfl fun k _ => congrArg (· * w (ix2 k n)) (pay10_at v0 xa xb g t k))

theorem pay14_at (w : Vec Ideal S1024x512 .bf16) (t : Fin 256) (n : Fin 512) : k0_pay14 (F := Ideal) (k0_pay10 (F := Ideal) v0 xa xb g) w (ix2 t n)
    = proj (sel v0 xa xb t) (scl g) (fun k => w (ix2 k n)) :=
  (mm512_at (k0_pay10 (F := Ideal) v0 xa xb g) w t n).trans (Finset.sum_congr rfl fun k _ => congrArg (· * w (ix2 k n)) (pay10_at v0 xa xb g t k))

theorem pay15_at (w : Vec Ideal S1024x1024 .bf16) (t : Fin 256) (n : Fin 1024) : k0_pay15 (F := Ideal) (k0_pay10 (F := Ideal) v0 xa xb g) w (ix2 t n)
    = sgm (proj (sel v0 xa xb t) (scl g) (fun k => w (ix2 k n))) := by
  refine Eq.trans (congrArg (fun q : EReal => Ideal.div (k32 0x3F800000#32) (k32 0x3F800000#32 + Ideal.exp (k32 0x00000000#32 - q))) (mm1024_at (k0_pay10 (F := Ideal) v0 xa xb g) w t n)) ?_
  beta_reduce
  rw [sgm_of]
  exact congrArg sgm (Finset.sum_congr rfl fun k _ => congrArg (· * w (ix2 k n)) (pay10_at v0 xa xb g t k))

end Pay

/-- A block filled by its two halves. -/
theorem halves_at {N : ℕ} (h1 h2) (p q : (⟨2, ![256, N]⟩ : Shape).Idx → EReal) (r : Fin 512) (n : Fin N) :
    View.canon (Val := Elt Ideal) (s := ⟨2, ![512, N]⟩) (e := .f32) [⟨Rect.unit (s := ⟨2, ![512, N]⟩) ![256, 0] ![256, N] h1, p⟩, ⟨Rect.unit (s := ⟨2, ![512, N]⟩) ![0, 0] ![256, N] h2, q⟩] (ix2 r n)
      = if h : r.val < 256 then q (ix2 (⟨r.val, h⟩ : Fin 256) n) else p (ix2 (⟨r.val - 256, by omega⟩ : Fin 256) n) := by
  by_cases h : r.val < 256
  · rw [dif_pos h]
    refine (View.canon_cons_of_not_mem _ _ ?_).trans ?_
    · intro hm
      have hk := (Rect.mem_set_unit (inb := h1)).mp hm
      exact absurd (show 256 ≤ r.val from (hk (0 : Fin 2)).1) (by omega)
    · have e : ix2 r n = (Rect.unit (s := ⟨2, ![512, N]⟩) ![0, 0] ![256, N] h2).emb (ix2 (⟨r.val, h⟩ : Fin 256) n) := funext fun a => Fin.ext (match a with
        | ⟨0, _⟩ => (show r.val = 0 + 1 * r.val by omega)
        | ⟨1, _⟩ => (show n.val = 0 + 1 * n.val by omega))
      rw [e]
      exact View.canon_cons_emb (Val := Elt Ideal) (e := .f32) (Rect.unit (s := ⟨2, ![512, N]⟩) ![0, 0] ![256, N] h2) q [] _
  · rw [dif_neg h]
    have e : ix2 r n = (Rect.unit (s := ⟨2, ![512, N]⟩) ![256, 0] ![256, N] h1).emb (ix2 (⟨r.val - 256, by omega⟩ : Fin 256) n) := funext fun a => Fin.ext (match a with
      | ⟨0, _⟩ => (show r.val = 256 + 1 * (r.val - 256) by omega)
      | ⟨1, _⟩ => (show n.val = 0 + 1 * n.val by omega))
    rw [e]
    exact View.canon_cons_emb (Val := Elt Ideal) (e := .f32) (Rect.unit (s := ⟨2, ![512, N]⟩) ![256, 0] ![256, N] h1) p _ _

section Out

variable (i : grid0.Coords) (X0 X1 : Vec Ideal S512x1024 .f32) (X2 : Vec Ideal S1x1024 .f32) (X3 : Vec Ideal S1024x3072 .bf16) (X4 : Vec Ideal S1024x2048 .bf16) (X5 : Vec Ideal S1024x256 .bf16) (X6 X7 : Vec Ideal S1x128 .f32)

/-- Whether a step reads the first array. -/
abbrev early : BitVec 1 := Scalar.cmpi .slt (BitVec.ofNat 32 (i 0).val) 32#32

/-- The row a step works on. -/
def selRow (r : Fin 512) (k : Fin 1024) : EReal := (Scalar.select (early i) X0 X1 : Vec Ideal S512x1024 .f32) (ix2 r k)

theorem sel_first (t : Fin 256) (r : Fin 512) (h : r.val = t.val) : sel (early i) (View.ld (Val := Elt Ideal) (e' := .f32) X0 r0_0) (View.ld (Val := Elt Ideal) (e' := .f32) X1 r0_0) t = selRow i X0 X1 r := by
  funext k
  have e : r0_0.idx (ix2 t k) = ix2 r k := funext fun a => Fin.ext (match a with
    | ⟨0, _⟩ => (show 0 + 1 * t.val = r.val by omega)
    | ⟨1, _⟩ => (show 0 + 1 * k.val = k.val by omega))
  unfold sel selRow Scalar.select
  split
  · exact congrArg X0 e
  · exact congrArg X1 e

theorem sel_second (t : Fin 256) (r : Fin 512) (h : r.val = 256 + t.val) : sel (early i) (View.ld (Val := Elt Ideal) (e' := .f32) X0 r0_13) (View.ld (Val := Elt Ideal) (e' := .f32) X1 r0_13) t = selRow i X0 X1 r := by
  funext k
  have e : r0_13.idx (ix2 t k) = ix2 r k := funext fun a => Fin.ext (match a with
    | ⟨0, _⟩ => (show 256 + 1 * t.val = r.val by omega)
    | ⟨1, _⟩ => (show 0 + 1 * k.val = k.val by omega))
  unfold sel selRow Scalar.select
  split
  · exact congrArg X0 e
  · exact congrArg X1 e

theorem scl_at : scl (View.ld (Val := Elt Ideal) (e' := .f32) X2 r0_1) = fun k => X2 (ix2 (0 : Fin 1) k) :=
  funext fun k => congrArg X2 (funext fun a => Fin.ext (match a with
    | ⟨0, _⟩ => rfl
    | ⟨1, _⟩ => (show 0 + 1 * k.val = k.val by omega)))

/-- A step's projection on a column. -/
def blkProj (r : Fin 512) (w : Fin 1024 → EReal) : EReal := proj (selRow i X0 X1 r) (fun k => X2 (ix2 (0 : Fin 1) k)) w

theorem col2_at (n : Fin 512) : (fun k : Fin 1024 => View.ld (Val := Elt Ideal) (e' := .bf16) X3 r0_2 (ix2 k n)) = fun k => X3 (ix2 k (⟨0 + n.val, by omega⟩ : Fin 3072)) :=
  funext fun k => congrArg X3 (funext fun a => Fin.ext (match a with
    | ⟨0, _⟩ => (show 0 + 1 * k.val = k.val by omega)
    | ⟨1, _⟩ => (show 0 + 1 * n.val = 0 + n.val by omega)))

theorem col3_at (n : Fin 512) : (fun k : Fin 1024 => View.ld (Val := Elt Ideal) (e' := .bf16) X3 r0_3 (ix2 k n)) = fun k => X3 (ix2 k (⟨512 + n.val, by omega⟩ : Fin 3072)) :=
  funext fun k => congrArg X3 (funext fun a => Fin.ext (match a with
    | ⟨0, _⟩ => (show 0 + 1 * k.val = k.val by omega)
    | ⟨1, _⟩ => (show 512 + 1 * n.val = 512 + n.val by omega)))

theorem col5_at (n : Fin 1536) : (fun k : Fin 1024 => View.ld (Val := Elt Ideal) (e' := .bf16) X3 r0_5 (ix2 k n)) = fun k => X3 (ix2 k (⟨1024 + n.val, by omega⟩ : Fin 3072)) :=
  funext fun k => congrArg X3 (funext fun a => Fin.ext (match a with
    | ⟨0, _⟩ => (show 0 + 1 * k.val = k.val by omega)
    | ⟨1, _⟩ => (show 1024 + 1 * n.val = 1024 + n.val by omega)))

theorem col7_at (n : Fin 512) : (fun k : Fin 1024 => View.ld (Val := Elt Ideal) (e' := .bf16) X3 r0_7 (ix2 k n)) = fun k => X3 (ix2 k (⟨2560 + n.val, by omega⟩ : Fin 3072)) :=
  funext fun k => congrArg X3 (funext fun a => Fin.ext (match a with
    | ⟨0, _⟩ => (show 0 + 1 * k.val = k.val by omega)
    | ⟨1, _⟩ => (show 2560 + 1 * n.val = 2560 + n.val by omega)))

theorem col8_at (n : Fin 1024) : (fun k : Fin 1024 => View.ld (Val := Elt Ideal) (e' := .bf16) X4 r0_8 (ix2 k n)) = fun k => X4 (ix2 k (⟨0 + n.val, by omega⟩ : Fin 2048)) :=
  funext fun k => congrArg X4 (funext fun a => Fin.ext (match a with
    | ⟨0, _⟩ => (show 0 + 1 * k.val = k.val by omega)
    | ⟨1, _⟩ => (show 0 + 1 * n.val = 0 + n.val by omega)))

theorem col9_at (n : Fin 1024) : (fun k : Fin 1024 => View.ld (Val := Elt Ideal) (e' := .bf16) X4 r0_9 (ix2 k n)) = fun k => X4 (ix2 k (⟨1024 + n.val, by omega⟩ : Fin 2048)) :=
  funext fun k => congrArg X4 (funext fun a => Fin.ext (match a with
    | ⟨0, _⟩ => (show 0 + 1 * k.val = k.val by omega)
    | ⟨1, _⟩ => (show 1024 + 1 * n.val = 1024 + n.val by omega)))

theorem out8_at (r : Fin 512) (n : Fin 512) : out0_8 (F := Ideal) i X0 X1 X2 X3 X4 X5 X6 X7 (ix2 r n)
    = blkProj i X0 X1 X2 r (fun k => X3 (ix2 k (⟨0 + n.val, by omega⟩ : Fin 3072))) * sgm (blkProj i X0 X1 X2 r (fun k => X3 (ix2 k (⟨512 + n.val, by omega⟩ : Fin 3072)))) := by
  unfold out0_8
  refine (halves_at _ _ _ _ r n).trans ?_
  unfold blkProj
  by_cases h : r.val < 256
  · rw [dif_pos h]
    refine (pay11_at (early i) (View.ld X0 r0_0) (View.ld X1 r0_0) (View.ld X2 r0_1) (View.ld X3 r0_2) (View.ld X3 r0_3) ⟨r.val, h⟩ n).trans ?_
    rw [sel_first i X0 X1 ⟨r.val, h⟩ r rfl, scl_at, col2_at, col3_at]
  · rw [dif_neg h]
    refine (pay11_at (early i) (View.ld X0 r0_13) (View.ld X1 r0_13) (View.ld X2 r0_1) (View.ld X3 r0_2) (View.ld X3 r0_3) ⟨r.val - 256, by omega⟩ n).trans ?_
    rw [sel_second i X0 X1 ⟨r.val - 256, by omega⟩ r (show r.val = 256 + (r.val - 256) by omega), scl_at, col2_at, col3_at]

theorem out9_at (r : Fin 512) (n : Fin 1536) : out0_9 (F := Ideal) i X0 X1 X2 X3 X4 X5 X6 X7 (ix2 r n)
    = blkProj i X0 X1 X2 r (fun k => X3 (ix2 k (⟨1024 + n.val, by omega⟩ : Fin 3072))) := by
  unfold out0_9
  refine (halves_at _ _ _ _ r n).trans ?_
  unfold blkProj
  by_cases h : r.val < 256
  · rw [dif_pos h]
    refine (pay13_at (early i) (View.ld X0 r0_0) (View.ld X1 r0_0) (View.ld X2 r0_1) (View.ld X3 r0_5) ⟨r.val, h⟩ n).trans ?_
    rw [sel_first i X0 X1 ⟨r.val, h⟩ r rfl, scl_at, col5_at]
  · rw [dif_neg h]
    refine (pay13_at (early i) (View.ld X0 r0_13) (View.ld X1 r0_13) (View.ld X2 r0_1) (View.ld X3 r0_5) ⟨r.val - 256, by omega⟩ n).trans ?_
    rw [sel_second i X0 X1 ⟨r.val - 256, by omega⟩ r (show r.val = 256 + (r.val - 256) by omega), scl_at, col5_at]

theorem out10_at (r : Fin 512) (n : Fin 512) : out0_10 (F := Ideal) i X0 X1 X2 X3 X4 X5 X6 X7 (ix2 r n)
    = blkProj i X0 X1 X2 r (fun k => X3 (ix2 k (⟨2560 + n.val, by omega⟩ : Fin 3072))) := by
  unfold out0_10
  refine (halves_at _ _ _ _ r n).trans ?_
  unfold blkProj
  by_cases h : r.val < 256
  · rw [dif_pos h]
    refine (pay14_at (early i) (View.ld X0 r0_0) (View.ld X1 r0_0) (View.ld X2 r0_1) (View.ld X3 r0_7) ⟨r.val, h⟩ n).trans ?_
    rw [sel_first i X0 X1 ⟨r.val, h⟩ r rfl, scl_at, col7_at]
  · rw [dif_neg h]
    refine (pay14_at (early i) (View.ld X0 r0_13) (View.ld X1 r0_13) (View.ld X2 r0_1) (View.ld X3 r0_7) ⟨r.val - 256, by omega⟩ n).trans ?_
    rw [sel_second i X0 X1 ⟨r.val - 256, by omega⟩ r (show r.val = 256 + (r.val - 256) by omega), scl_at, col7_at]

theorem out12_at (r : Fin 512) (n : Fin 1024) : out0_12 (F := Ideal) i X0 X1 X2 X3 X4 X5 X6 X7 (ix2 r n)
    = sgm (blkProj i X0 X1 X2 r (fun k => X4 (ix2 k (⟨0 + n.val, by omega⟩ : Fin 2048)))) := by
  unfold out0_12
  refine (halves_at _ _ _ _ r n).trans ?_
  unfold blkProj
  by_cases h : r.val < 256
  · rw [dif_pos h]
    refine (pay15_at (early i) (View.ld X0 r0_0) (View.ld X1 r0_0) (View.ld X2 r0_1) (View.ld X4 r0_8) ⟨r.val, h⟩ n).trans ?_
    rw [sel_first i X0 X1 ⟨r.val, h⟩ r rfl, scl_at, col8_at]
  · rw [dif_neg h]
    refine (pay15_at (early i) (View.ld X0 r0_13) (View.ld X1 r0_13) (View.ld X2 r0_1) (View.ld X4 r0_8) ⟨r.val - 256, by omega⟩ n).trans ?_
    rw [sel_second i X0 X1 ⟨r.val - 256, by omega⟩ r (show r.val = 256 + (r.val - 256) by omega), scl_at, col8_at]

theorem out13_at (r : Fin 512) (n : Fin 1024) : out0_13 (F := Ideal) i X0 X1 X2 X3 X4 X5 X6 X7 (ix2 r n)
    = sgm (blkProj i X0 X1 X2 r (fun k => X4 (ix2 k (⟨1024 + n.val, by omega⟩ : Fin 2048)))) := by
  unfold out0_13
  refine (halves_at _ _ _ _ r n).trans ?_
  unfold blkProj
  by_cases h : r.val < 256
  · rw [dif_pos h]
    refine (pay15_at (early i) (View.ld X0 r0_0) (View.ld X1 r0_0) (View.ld X2 r0_1) (View.ld X4 r0_9) ⟨r.val, h⟩ n).trans ?_
    rw [sel_first i X0 X1 ⟨r.val, h⟩ r rfl, scl_at, col9_at]
  · rw [dif_neg h]
    refine (pay15_at (early i) (View.ld X0 r0_13) (View.ld X1 r0_13) (View.ld X2 r0_1) (View.ld X4 r0_9) ⟨r.val - 256, by omega⟩ n).trans ?_
    rw [sel_second i X0 X1 ⟨r.val - 256, by omega⟩ r (show r.val = 256 + (r.val - 256) by omega), scl_at, col9_at]

end Out

end Cert.Kernel2Ideal.Inproj
-- ==== Proof.InVal.lean ====
/-
  The projection's operands at a step, element by element, over the extended reals.
-/
module

public import proofs.«01_k».proof.Proof.InKer
public import Idealize.ShloMosaic.Lib.Pipeline.ValueKit.Geometry
public import Idealize.ShloMosaic.Lib.Pipeline.Covers

@[expose] public section

noncomputable section

namespace Cert.Kernel2Ideal.Inproj

open Cert.Kernel2Ideal Cert.Kernel2Ideal.Gen Cert.Spec
open Idealize.ShloMosaic Idealize.ShloMosaic.TcCoe Idealize.ShloMosaic.ValueIdx

variable (m : (ℓ : Loc nD τ sig) → Buf (Elt Ideal) ℓ) (c : Dev nD)

/-- A step's number. -/
theorem pt_coords (t : Fin grid0.N) : (grid0.coords t 0).val = t.val := by
  revert t; decide +kernel

/-- The first array's block at a step. -/
theorem map0 (n : ℕ) (h : n < 34) : (Scalar.minsi (BitVec.ofNat 32 n) 31#32).toNat = min n 31 :=
  (show ∀ k : Fin 34, (Scalar.minsi (BitVec.ofNat 32 k.val) 31#32).toNat = min k.val 31 by decide) ⟨n, h⟩

/-- The second array's block at a step. -/
theorem map1 (n : ℕ) (h : n < 34) : (Scalar.maxsi (Scalar.subi (BitVec.ofNat 32 n) 32#32) 0#32).toNat = n - 32 :=
  (show ∀ k : Fin 34, (Scalar.maxsi (Scalar.subi (BitVec.ofNat 32 k.val) 32#32) 0#32).toNat = k.val - 32 by decide) ⟨n, h⟩

/-- Which array a step reads. -/
theorem early_at (n : ℕ) (h : n < 34) : Scalar.cmpi .slt (BitVec.ofNat 32 n) 32#32 = if n < 32 then 1#1 else 0#1 :=
  (show ∀ k : Fin 34, Scalar.cmpi .slt (BitVec.ofNat 32 k.val) 32#32 = if k.val < 32 then 1#1 else 0#1 by decide) ⟨n, h⟩

/-! ## The weights as the host lines leave them -/

theorem V_v1 : V m c main_v1 = extractStridedSlice S1024x3072 ![0, 0] (truncf (F := Ideal) .bf16 (m ((c : Thread nD τ).loc main_arg3)) bitsLt_bf16_f32) slices_S1024x5128_S1024x3072_0_0 := by
  unfold V
  simp only [hostOps0, hostOps0_1, hostOps0_2, hostOps0_3, hostOps0_4, hostOps0_5, List.flatten_cons, List.flatten_nil, List.append_nil, List.cons_append, List.nil_append]
  after_results_simp <;> rfl

theorem V_v2 : V m c main_v2 = extractStridedSlice S1024x2048 ![0, 3080] (truncf (F := Ideal) .bf16 (m ((c : Thread nD τ).loc main_arg3)) bitsLt_bf16_f32) slices_S1024x5128_S1024x2048_0_3080 := by
  unfold V
  simp only [hostOps0, hostOps0_1, hostOps0_2, hostOps0_3, hostOps0_4, hostOps0_5, List.flatten_cons, List.flatten_nil, List.append_nil, List.cons_append, List.nil_append]
  after_results_simp <;> rfl

theorem V_v10 : V m c main_v10 = shapeCast S1x1024 (m ((c : Thread nD τ).loc main_arg2)) shapeCasts_S1024_S1x1024 := by
  unfold V
  simp only [hostOps0, hostOps0_1, hostOps0_2, hostOps0_3, hostOps0_4, hostOps0_5, List.flatten_cons, List.flatten_nil, List.append_nil, List.cons_append, List.nil_append]
  after_results_simp <;> rfl

theorem v1_at (k : Fin 1024) (n : Fin 3072) : (V m c main_v1 : S1024x3072.Idx → EReal) (ix2 k n) = m ((c : Thread nD τ).loc main_arg3) (ix2 k (⟨n.val, by omega⟩ : Fin 5128)) := by
  rw [V_v1]
  exact extractStridedSlice_apply _ _ _ _ (ix2 k (⟨n.val, by omega⟩ : Fin 5128)) (fun a => match a with
    | ⟨0, _⟩ => (show k.val = 0 + k.val by omega)
    | ⟨1, _⟩ => (show n.val = 0 + n.val by omega))

theorem v2_at (k : Fin 1024) (n : Fin 2048) : (V m c main_v2 : S1024x2048.Idx → EReal) (ix2 k n) = m ((c : Thread nD τ).loc main_arg3) (ix2 k (⟨3080 + n.val, by omega⟩ : Fin 5128)) := by
  rw [V_v2]
  exact extractStridedSlice_apply _ _ _ _ (ix2 k (⟨3080 + n.val, by omega⟩ : Fin 5128)) (fun a => match a with
    | ⟨0, _⟩ => (show k.val = 0 + k.val by omega)
    | ⟨1, _⟩ => rfl)

theorem v10_at (k : Fin 1024) : (V m c main_v10 : S1x1024.Idx → EReal) (ix2 (0 : Fin 1) k) = m ((c : Thread nD τ).loc main_arg2) (ix1 k) := by
  rw [V_v10]
  exact shapeCast_a_1a_apply _ _ 0 k

/-! ## The blocks a step reads -/

theorem iblk0_at (t : Fin cfg0.N) (ht : t.val < 32) (r : Fin 512) (k : Fin 1024) :
    (iblk m c 0 t : S512x1024.Idx → EReal) (ix2 r k) = V m c main_arg0 (ix2 (⟨512 * t.val + r.val, by omega⟩ : Fin 16384) k) := by
  refine congrArg (V m c main_arg0) (funext fun a => Fin.ext ?_)
  refine (Pipeline.Window.rect_emb_val (cfg0.win 0) t (ix2 r k) a).trans ?_
  have e : (Scalar.minsi (BitVec.ofNat 32 (grid0.coords t 0).val) 31#32).toNat = t.val := by rw [pt_coords t, map0 _ (by omega)]; omega
  match a with
  | ⟨0, _⟩ => show (Scalar.minsi (BitVec.ofNat 32 (grid0.coords t 0).val) 31#32).toNat * 512 + r.val = 512 * t.val + r.val; rw [e]; omega
  | ⟨1, _⟩ => show 0 * 1024 + k.val = k.val; omega

theorem iblk1_at (t : Fin cfg0.N) (h1 : 32 ≤ t.val) (h2 : t.val < 34) (r : Fin 512) (k : Fin 1024) :
    (iblk m c 1 t : S512x1024.Idx → EReal) (ix2 r k) = V m c main_arg1 (ix2 (⟨512 * (t.val - 32) + r.val, by omega⟩ : Fin 1024) k) := by
  refine congrArg (V m c main_arg1) (funext fun a => Fin.ext ?_)
  refine (Pipeline.Window.rect_emb_val (cfg0.win 1) t (ix2 r k) a).trans ?_
  have e : (Scalar.maxsi (Scalar.subi (BitVec.ofNat 32 (grid0.coords t 0).val) 32#32) 0#32).toNat = t.val - 32 := by rw [pt_coords t, map1 _ h2]
  match a with
  | ⟨0, _⟩ => show (Scalar.maxsi (Scalar.subi (BitVec.ofNat 32 (grid0.coords t 0).val) 32#32) 0#32).toNat * 512 + r.val = 512 * (t.val - 32) + r.val; rw [e]; omega
  | ⟨1, _⟩ => show 0 * 1024 + k.val = k.val; omega

theorem iblk2_at (t : Fin cfg0.N) (x : S1x1024.Idx) : (iblk m c 2 t : S1x1024.Idx → EReal) x = (V m c main_v10 : S1x1024.Idx → EReal) x := by
  refine congrArg (V m c main_v10) (funext fun a => Fin.ext ?_)
  refine (Pipeline.Window.rect_emb_val (cfg0.win 2) t x a).trans ?_
  match a with
  | ⟨0, _⟩ => exact (show 0 * 1 + (x 0).val = (x 0).val by omega)
  | ⟨1, _⟩ => exact (show 0 * 1024 + (x 1).val = (x 1).val by omega)

theorem iblk3_at (t : Fin cfg0.N) (x : S1024x3072.Idx) : (iblk m c 3 t : S1024x3072.Idx → EReal) x = (V m c main_v1 : S1024x3072.Idx → EReal) x := by
  refine congrArg (V m c main_v1) (funext fun a => Fin.ext ?_)
  refine (Pipeline.Window.rect_emb_val (cfg0.win 3) t x a).trans ?_
  match a with
  | ⟨0, _⟩ => exact (show 0 * 1024 + (x 0).val = (x 0).val by omega)
  | ⟨1, _⟩ => exact (show 0 * 3072 + (x 1).val = (x 1).val by omega)

theorem iblk4_at (t : Fin cfg0.N) (x : S1024x2048.Idx) : (iblk m c 4 t : S1024x2048.Idx → EReal) x = (V m c main_v2 : S1024x2048.Idx → EReal) x := by
  refine congrArg (V m c main_v2) (funext fun a => Fin.ext ?_)
  refine (Pipeline.Window.rect_emb_val (cfg0.win 4) t x a).trans ?_
  match a with
  | ⟨0, _⟩ => exact (show 0 * 1024 + (x 0).val = (x 0).val by omega)
  | ⟨1, _⟩ => exact (show 0 * 2048 + (x 1).val = (x 1).val by omega)

/-- The projection of a start's arguments. -/
abbrev inpM (r n : ℕ) (hr : r < 17408) (hn : n < 5128) : EReal :=
  inp (m ((c : Thread nD τ).loc main_arg0)) (m ((c : Thread nD τ).loc main_arg1)) (m ((c : Thread nD τ).loc main_arg2)) (m ((c : Thread nD τ).loc main_arg3)) r n hr hn

/-- The row a step works on, among the joined rows. -/
theorem selRow_at (t : Fin cfg0.N) (ht : t.val < 34) (r : Fin 512) :
    selRow (grid0.coords t) (iblk m c 0 t) (iblk m c 1 t) r = row (m ((c : Thread nD τ).loc main_arg0)) (m ((c : Thread nD τ).loc main_arg1)) (512 * t.val + r.val) (by omega) := by
  funext k
  unfold selRow row
  rw [show early (grid0.coords t) = if t.val < 32 then 1#1 else 0#1 by unfold early; rw [pt_coords t, early_at _ ht]]
  by_cases h : t.val < 32
  · rw [if_pos h, dif_pos (show 512 * t.val + r.val < 16384 by omega)]
    refine (iblk0_at m c t h r k).trans ?_
    rw [V_main_arg0]
  · rw [if_neg h, dif_neg (show ¬ 512 * t.val + r.val < 16384 by omega)]
    refine (iblk1_at m c t (by omega) ht r k).trans ?_
    rw [V_main_arg1]
    refine congrArg (m ((c : Thread nD τ).loc main_arg1)) (congrArg (fun q : Fin 1024 => (ix2 q k : S1024x1024.Idx)) (Fin.ext ?_))
    show 512 * (t.val - 32) + r.val = 512 * t.val + r.val - 16384
    omega

/-- A step's projection on a column, among the joined rows. -/
theorem blkProj_at (t : Fin cfg0.N) (ht : t.val < 34) (r : Fin 512) (n : Fin 5128) (w : Fin 1024 → EReal) (hw : w = fun k => m ((c : Thread nD τ).loc main_arg3) (ix2 k n)) :
    blkProj (grid0.coords t) (iblk m c 0 t) (iblk m c 1 t) (iblk m c 2 t) r w = inpM m c (512 * t.val + r.val) n.val (by omega) n.isLt := by
  subst hw
  unfold blkProj inpM inp
  rw [selRow_at m c t ht r]
  exact congrArg (fun g => proj _ g _) (funext fun k => (iblk2_at m c t _).trans (v10_at m c k))

theorem main_col (t : Fin cfg0.N) (n : Fin 3072) : (fun k : Fin 1024 => (iblk m c 3 t : S1024x3072.Idx → EReal) (ix2 k n)) = fun k => m ((c : Thread nD τ).loc main_arg3) (ix2 k (⟨n.val, by omega⟩ : Fin 5128)) :=
  funext fun k => (iblk3_at m c t _).trans (v1_at m c k n)

theorem gate_col (t : Fin cfg0.N) (n : Fin 2048) : (fun k : Fin 1024 => (iblk m c 4 t : S1024x2048.Idx → EReal) (ix2 k n)) = fun k => m ((c : Thread nD τ).loc main_arg3) (ix2 k (⟨3080 + n.val, by omega⟩ : Fin 5128)) :=
  funext fun k => (iblk4_at m c t _).trans (v2_at m c k n)

end Cert.Kernel2Ideal.Inproj
-- ==== Proof.InOut.lean ====
/-
  The projection's output arrays after a run, element by element, over the extended reals.
-/
module

public import proofs.«01_k».proof.Proof.InVal

@[expose] public section

noncomputable section

namespace Cert.Kernel2Ideal.Inproj

open Cert.Kernel2Ideal Cert.Kernel2Ideal.Gen Cert.Spec
open Idealize.ShloMosaic Idealize.ShloMosaic.TcCoe Idealize.ShloMosaic.ValueIdx

variable (m : (ℓ : Loc nD τ sig) → Buf (Elt Ideal) ℓ) (c : Dev nD)

/-- What output 1 holds at a place. -/
def val8 (r n : ℕ) (hr : r < 17408) (hn : n < 512) : EReal := inpM m c r (0 + n) hr (by omega) * sgm (inpM m c r (512 + n) hr (by omega))

theorem val8_congr (r r' n n' : ℕ) (hr hr' hn hn') (er : r = r') (en : n = n') : val8 m c r n hr hn = val8 m c r' n' hr' hn' := by
  subst er
  subst en
  rfl

theorem step8_at (t : Fin cfg0.N) (ht : t.val < 34) (r : Fin 512) (n : Fin 512) :
    ((dats m 0 c).after 8 t : S512x512.Idx → EReal) (ix2 r n) = val8 m c (512 * t.val + r.val) n.val (by omega) n.isLt := by
  rw [after0_8]
  unfold val8
  refine (out8_at _ _ _ _ _ _ _ _ _ r n).trans ?_
  refine congrArg₂ (fun p q : EReal => p * sgm q) (blkProj_at m c t ht r (⟨0 + n.val, by omega⟩ : Fin 5128) _ ((main_col m c t ⟨0 + n.val, by omega⟩).trans ?_)) (blkProj_at m c t ht r (⟨512 + n.val, by omega⟩ : Fin 5128) _ ((main_col m c t ⟨512 + n.val, by omega⟩).trans ?_))
  · rfl
  · rfl

theorem covers8 : (cfg0.win 8).Covers :=
  (cfg0.win 8).covers_of_indexMap_surj rfl (show ∀ a : Fin 2, 0 < (![512, 512] : Fin 2 → ℕ) a by decide) fun β => by
    have h0 : (β (0 : Fin 2)).val < 34 := Nat.lt_of_lt_of_eq (β (0 : Fin 2)).isLt (show (17408 + 512 - 1) / 512 = 34 by norm_num)
    have h1 : (β (1 : Fin 2)).val < 1 := Nat.lt_of_lt_of_eq (β (1 : Fin 2)).isLt (show (512 + 512 - 1) / 512 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

theorem fill8_at (A : S512x512.Idx → EReal) (t : Fin cfg0.N) (hA : ∀ (r : Fin 512) (n : Fin 512), A (ix2 r n) = val8 m c (512 * t.val + r.val) n.val (by have : t.val < 34 := t.isLt; omega) n.isLt)
    (y : S512x512.Idx) (z : S17408x512.Idx) (e0 : (z 0).val = 512 * t.val + (y 0).val) (e1 : (z 1).val = (y 1).val) : A y = val8 m c (z 0).val (z 1).val (z 0).isLt (z 1).isLt := by
  rw [eq_ix2 y]
  exact (hA (y 0) (y 1)).trans (val8_congr m c _ _ _ _ _ _ _ _ e0.symm e1.symm)

theorem emb8_row (t : Fin cfg0.N) (y : S512x512.Idx) : (((((cfg0.win 8).blk t).view.emb y) : S17408x512.Idx) 0).val = 512 * t.val + (y 0).val := by
  have ht : t.val < 34 := t.isLt
  refine (Pipeline.Window.rect_emb_val (cfg0.win 8) t y (0 : Fin 2)).trans ?_
  show (BitVec.ofNat 32 (grid0.coords t 0).val).toNat * 512 + (y 0).val = _
  rw [pt_coords t, BitVec.toNat_ofNat, Nat.mod_eq_of_lt (by omega)]
  omega

theorem emb8_col (t : Fin cfg0.N) (y : S512x512.Idx) : (((((cfg0.win 8).blk t).view.emb y) : S17408x512.Idx) 1).val = (y 1).val := by
  refine (Pipeline.Window.rect_emb_val (cfg0.win 8) t y (1 : Fin 2)).trans ?_
  show 0 * 512 + (y 1).val = _
  omega

theorem arr8_at (r : Fin 17408) (n : Fin 512) : ((dats m 0 c).arrAt 8 cfg0.N : S17408x512.Idx → EReal) (ix2 r n) = val8 m c r.val n.val r.isLt n.isLt :=
  congrFun ((dats m 0 c).arrAt_eq_of_covers 8 (fun y : S17408x512.Idx => val8 m c (y 0).val (y 1).val (y 0).isLt (y 1).isLt) covers8
    (fun t _ y => fill8_at m c ((dats m 0 c).after 8 t) t (step8_at m c t t.isLt) y _ (emb8_row t y) (emb8_col t y))) (ix2 r n)

/-- What output 2 holds at a place. -/
def val9 (r n : ℕ) (hr : r < 17408) (hn : n < 1536) : EReal := inpM m c r (1024 + n) hr (by omega)

theorem val9_congr (r r' n n' : ℕ) (hr hr' hn hn') (er : r = r') (en : n = n') : val9 m c r n hr hn = val9 m c r' n' hr' hn' := by
  subst er
  subst en
  rfl

theorem step9_at (t : Fin cfg0.N) (ht : t.val < 34) (r : Fin 512) (n : Fin 1536) :
    ((dats m 0 c).after 9 t : S512x1536.Idx → EReal) (ix2 r n) = val9 m c (512 * t.val + r.val) n.val (by omega) n.isLt := by
  rw [after0_9]
  unfold val9
  refine (out9_at _ _ _ _ _ _ _ _ _ r n).trans ?_
  refine blkProj_at m c t ht r (⟨1024 + n.val, by omega⟩ : Fin 5128) _ ((main_col m c t ⟨1024 + n.val, by omega⟩).trans ?_)
  rfl

theorem covers9 : (cfg0.win 9).Covers :=
  (cfg0.win 9).covers_of_indexMap_surj rfl (show ∀ a : Fin 2, 0 < (![512, 1536] : Fin 2 → ℕ) a by decide) fun β => by
    have h0 : (β (0 : Fin 2)).val < 34 := Nat.lt_of_lt_of_eq (β (0 : Fin 2)).isLt (show (17408 + 512 - 1) / 512 = 34 by norm_num)
    have h1 : (β (1 : Fin 2)).val < 1 := Nat.lt_of_lt_of_eq (β (1 : Fin 2)).isLt (show (1536 + 1536 - 1) / 1536 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

theorem fill9_at (A : S512x1536.Idx → EReal) (t : Fin cfg0.N) (hA : ∀ (r : Fin 512) (n : Fin 1536), A (ix2 r n) = val9 m c (512 * t.val + r.val) n.val (by have : t.val < 34 := t.isLt; omega) n.isLt)
    (y : S512x1536.Idx) (z : S17408x1536.Idx) (e0 : (z 0).val = 512 * t.val + (y 0).val) (e1 : (z 1).val = (y 1).val) : A y = val9 m c (z 0).val (z 1).val (z 0).isLt (z 1).isLt := by
  rw [eq_ix2 y]
  exact (hA (y 0) (y 1)).trans (val9_congr m c _ _ _ _ _ _ _ _ e0.symm e1.symm)

theorem emb9_row (t : Fin cfg0.N) (y : S512x1536.Idx) : (((((cfg0.win 9).blk t).view.emb y) : S17408x1536.Idx) 0).val = 512 * t.val + (y 0).val := by
  have ht : t.val < 34 := t.isLt
  refine (Pipeline.Window.rect_emb_val (cfg0.win 9) t y (0 : Fin 2)).trans ?_
  show (BitVec.ofNat 32 (grid0.coords t 0).val).toNat * 512 + (y 0).val = _
  rw [pt_coords t, BitVec.toNat_ofNat, Nat.mod_eq_of_lt (by omega)]
  omega

theorem emb9_col (t : Fin cfg0.N) (y : S512x1536.Idx) : (((((cfg0.win 9).blk t).view.emb y) : S17408x1536.Idx) 1).val = (y 1).val := by
  refine (Pipeline.Window.rect_emb_val (cfg0.win 9) t y (1 : Fin 2)).trans ?_
  show 0 * 1536 + (y 1).val = _
  omega

theorem arr9_at (r : Fin 17408) (n : Fin 1536) : ((dats m 0 c).arrAt 9 cfg0.N : S17408x1536.Idx → EReal) (ix2 r n) = val9 m c r.val n.val r.isLt n.isLt :=
  congrFun ((dats m 0 c).arrAt_eq_of_covers 9 (fun y : S17408x1536.Idx => val9 m c (y 0).val (y 1).val (y 0).isLt (y 1).isLt) covers9
    (fun t _ y => fill9_at m c ((dats m 0 c).after 9 t) t (step9_at m c t t.isLt) y _ (emb9_row t y) (emb9_col t y))) (ix2 r n)

/-- What output 3 holds at a place. -/
def val10 (r n : ℕ) (hr : r < 17408) (hn : n < 512) : EReal := inpM m c r (2560 + n) hr (by omega)

theorem val10_congr (r r' n n' : ℕ) (hr hr' hn hn') (er : r = r') (en : n = n') : val10 m c r n hr hn = val10 m c r' n' hr' hn' := by
  subst er
  subst en
  rfl

theorem step10_at (t : Fin cfg0.N) (ht : t.val < 34) (r : Fin 512) (n : Fin 512) :
    ((dats m 0 c).after 10 t : S512x512.Idx → EReal) (ix2 r n) = val10 m c (512 * t.val + r.val) n.val (by omega) n.isLt := by
  rw [after0_10]
  unfold val10
  refine (out10_at _ _ _ _ _ _ _ _ _ r n).trans ?_
  refine blkProj_at m c t ht r (⟨2560 + n.val, by omega⟩ : Fin 5128) _ ((main_col m c t ⟨2560 + n.val, by omega⟩).trans ?_)
  rfl

theorem covers10 : (cfg0.win 10).Covers :=
  (cfg0.win 10).covers_of_indexMap_surj rfl (show ∀ a : Fin 2, 0 < (![512, 512] : Fin 2 → ℕ) a by decide) fun β => by
    have h0 : (β (0 : Fin 2)).val < 34 := Nat.lt_of_lt_of_eq (β (0 : Fin 2)).isLt (show (17408 + 512 - 1) / 512 = 34 by norm_num)
    have h1 : (β (1 : Fin 2)).val < 1 := Nat.lt_of_lt_of_eq (β (1 : Fin 2)).isLt (show (512 + 512 - 1) / 512 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

theorem fill10_at (A : S512x512.Idx → EReal) (t : Fin cfg0.N) (hA : ∀ (r : Fin 512) (n : Fin 512), A (ix2 r n) = val10 m c (512 * t.val + r.val) n.val (by have : t.val < 34 := t.isLt; omega) n.isLt)
    (y : S512x512.Idx) (z : S17408x512.Idx) (e0 : (z 0).val = 512 * t.val + (y 0).val) (e1 : (z 1).val = (y 1).val) : A y = val10 m c (z 0).val (z 1).val (z 0).isLt (z 1).isLt := by
  rw [eq_ix2 y]
  exact (hA (y 0) (y 1)).trans (val10_congr m c _ _ _ _ _ _ _ _ e0.symm e1.symm)

theorem emb10_row (t : Fin cfg0.N) (y : S512x512.Idx) : (((((cfg0.win 10).blk t).view.emb y) : S17408x512.Idx) 0).val = 512 * t.val + (y 0).val := by
  have ht : t.val < 34 := t.isLt
  refine (Pipeline.Window.rect_emb_val (cfg0.win 10) t y (0 : Fin 2)).trans ?_
  show (BitVec.ofNat 32 (grid0.coords t 0).val).toNat * 512 + (y 0).val = _
  rw [pt_coords t, BitVec.toNat_ofNat, Nat.mod_eq_of_lt (by omega)]
  omega

theorem emb10_col (t : Fin cfg0.N) (y : S512x512.Idx) : (((((cfg0.win 10).blk t).view.emb y) : S17408x512.Idx) 1).val = (y 1).val := by
  refine (Pipeline.Window.rect_emb_val (cfg0.win 10) t y (1 : Fin 2)).trans ?_
  show 0 * 512 + (y 1).val = _
  omega

theorem arr10_at (r : Fin 17408) (n : Fin 512) : ((dats m 0 c).arrAt 10 cfg0.N : S17408x512.Idx → EReal) (ix2 r n) = val10 m c r.val n.val r.isLt n.isLt :=
  congrFun ((dats m 0 c).arrAt_eq_of_covers 10 (fun y : S17408x512.Idx => val10 m c (y 0).val (y 1).val (y 0).isLt (y 1).isLt) covers10
    (fun t _ y => fill10_at m c ((dats m 0 c).after 10 t) t (step10_at m c t t.isLt) y _ (emb10_row t y) (emb10_col t y))) (ix2 r n)

/-- What output 5 holds at a place. -/
def val12 (r n : ℕ) (hr : r < 17408) (hn : n < 1024) : EReal := sgm (inpM m c r (3080 + n) hr (by omega))

theorem val12_congr (r r' n n' : ℕ) (hr hr' hn hn') (er : r = r') (en : n = n') : val12 m c r n hr hn = val12 m c r' n' hr' hn' := by
  subst er
  subst en
  rfl

theorem step12_at (t : Fin cfg0.N) (ht : t.val < 34) (r : Fin 512) (n : Fin 1024) :
    ((dats m 0 c).after 12 t : S512x1024.Idx → EReal) (ix2 r n) = val12 m c (512 * t.val + r.val) n.val (by omega) n.isLt := by
  rw [after0_12]
  unfold val12
  refine (out12_at _ _ _ _ _ _ _ _ _ r n).trans ?_
  refine congrArg sgm (blkProj_at m c t ht r (⟨3080 + n.val, by omega⟩ : Fin 5128) _ ((gate_col m c t ⟨0 + n.val, by omega⟩).trans ?_))
  refine funext fun k => congrArg (fun q : Fin 5128 => m ((c : Thread nD τ).loc main_arg3) (ix2 k q)) (Fin.ext ?_)
  show 3080 + (0 + n.val) = 3080 + n.val
  omega

theorem covers12 : (cfg0.win 12).Covers :=
  (cfg0.win 12).covers_of_indexMap_surj rfl (show ∀ a : Fin 2, 0 < (![512, 1024] : Fin 2 → ℕ) a by decide) fun β => by
    have h0 : (β (0 : Fin 2)).val < 34 := Nat.lt_of_lt_of_eq (β (0 : Fin 2)).isLt (show (17408 + 512 - 1) / 512 = 34 by norm_num)
    have h1 : (β (1 : Fin 2)).val < 1 := Nat.lt_of_lt_of_eq (β (1 : Fin 2)).isLt (show (1024 + 1024 - 1) / 1024 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

theorem fill12_at (A : S512x1024.Idx → EReal) (t : Fin cfg0.N) (hA : ∀ (r : Fin 512) (n : Fin 1024), A (ix2 r n) = val12 m c (512 * t.val + r.val) n.val (by have : t.val < 34 := t.isLt; omega) n.isLt)
    (y : S512x1024.Idx) (z : S17408x1024.Idx) (e0 : (z 0).val = 512 * t.val + (y 0).val) (e1 : (z 1).val = (y 1).val) : A y = val12 m c (z 0).val (z 1).val (z 0).isLt (z 1).isLt := by
  rw [eq_ix2 y]
  exact (hA (y 0) (y 1)).trans (val12_congr m c _ _ _ _ _ _ _ _ e0.symm e1.symm)

theorem emb12_row (t : Fin cfg0.N) (y : S512x1024.Idx) : (((((cfg0.win 12).blk t).view.emb y) : S17408x1024.Idx) 0).val = 512 * t.val + (y 0).val := by
  have ht : t.val < 34 := t.isLt
  refine (Pipeline.Window.rect_emb_val (cfg0.win 12) t y (0 : Fin 2)).trans ?_
  show (BitVec.ofNat 32 (grid0.coords t 0).val).toNat * 512 + (y 0).val = _
  rw [pt_coords t, BitVec.toNat_ofNat, Nat.mod_eq_of_lt (by omega)]
  omega

theorem emb12_col (t : Fin cfg0.N) (y : S512x1024.Idx) : (((((cfg0.win 12).blk t).view.emb y) : S17408x1024.Idx) 1).val = (y 1).val := by
  refine (Pipeline.Window.rect_emb_val (cfg0.win 12) t y (1 : Fin 2)).trans ?_
  show 0 * 1024 + (y 1).val = _
  omega

theorem arr12_at (r : Fin 17408) (n : Fin 1024) : ((dats m 0 c).arrAt 12 cfg0.N : S17408x1024.Idx → EReal) (ix2 r n) = val12 m c r.val n.val r.isLt n.isLt :=
  congrFun ((dats m 0 c).arrAt_eq_of_covers 12 (fun y : S17408x1024.Idx => val12 m c (y 0).val (y 1).val (y 0).isLt (y 1).isLt) covers12
    (fun t _ y => fill12_at m c ((dats m 0 c).after 12 t) t (step12_at m c t t.isLt) y _ (emb12_row t y) (emb12_col t y))) (ix2 r n)

/-- What output 6 holds at a place. -/
def val13 (r n : ℕ) (hr : r < 17408) (hn : n < 1024) : EReal := sgm (inpM m c r (4104 + n) hr (by omega))

theorem val13_congr (r r' n n' : ℕ) (hr hr' hn hn') (er : r = r') (en : n = n') : val13 m c r n hr hn = val13 m c r' n' hr' hn' := by
  subst er
  subst en
  rfl

theorem step13_at (t : Fin cfg0.N) (ht : t.val < 34) (r : Fin 512) (n : Fin 1024) :
    ((dats m 0 c).after 13 t : S512x1024.Idx → EReal) (ix2 r n) = val13 m c (512 * t.val + r.val) n.val (by omega) n.isLt := by
  rw [after0_13]
  unfold val13
  refine (out13_at _ _ _ _ _ _ _ _ _ r n).trans ?_
  refine congrArg sgm (blkProj_at m c t ht r (⟨4104 + n.val, by omega⟩ : Fin 5128) _ ((gate_col m c t ⟨1024 + n.val, by omega⟩).trans ?_))
  refine funext fun k => congrArg (fun q : Fin 5128 => m ((c : Thread nD τ).loc main_arg3) (ix2 k q)) (Fin.ext ?_)
  show 3080 + (1024 + n.val) = 4104 + n.val
  omega

theorem covers13 : (cfg0.win 13).Covers :=
  (cfg0.win 13).covers_of_indexMap_surj rfl (show ∀ a : Fin 2, 0 < (![512, 1024] : Fin 2 → ℕ) a by decide) fun β => by
    have h0 : (β (0 : Fin 2)).val < 34 := Nat.lt_of_lt_of_eq (β (0 : Fin 2)).isLt (show (17408 + 512 - 1) / 512 = 34 by norm_num)
    have h1 : (β (1 : Fin 2)).val < 1 := Nat.lt_of_lt_of_eq (β (1 : Fin 2)).isLt (show (1024 + 1024 - 1) / 1024 = 1 by norm_num)
    refine ⟨fun | ⟨0, _⟩ => ⟨(β (0 : Fin 2)).val, h0⟩, fun a => ?_⟩
    match a with
    | ⟨0, _⟩ => exact (show (BitVec.ofNat 32 (β (0 : Fin 2)).val).toNat = (β (0 : Fin 2)).val by rw [BitVec.toNat_ofNat]; omega)
    | ⟨1, _⟩ => exact (show 0 = (β (1 : Fin 2)).val by omega)

theorem fill13_at (A : S512x1024.Idx → EReal) (t : Fin cfg0.N) (hA : ∀ (r : Fin 512) (n : Fin 1024), A (ix2 r n) = val13 m c (512 * t.val + r.val) n.val (by have : t.val < 34 := t.isLt; omega) n.isLt)
    (y : S512x1024.Idx) (z : S17408x1024.Idx) (e0 : (z 0).val = 512 * t.val + (y 0).val) (e1 : (z 1).val = (y 1).val) : A y = val13 m c (z 0).val (z 1).val (z 0).isLt (z 1).isLt := by
  rw [eq_ix2 y]
  exact (hA (y 0) (y 1)).trans (val13_congr m c _ _ _ _ _ _ _ _ e0.symm e1.symm)

theorem emb13_row (t : Fin cfg0.N) (y : S512x1024.Idx) : (((((cfg0.win 13).blk t).view.emb y) : S17408x1024.Idx) 0).val = 512 * t.val + (y 0).val := by
  have ht : t.val < 34 := t.isLt
  refine (Pipeline.Window.rect_emb_val (cfg0.win 13) t y (0 : Fin 2)).trans ?_
  show (BitVec.ofNat 32 (grid0.coords t 0).val).toNat * 512 + (y 0).val = _
  rw [pt_coords t, BitVec.toNat_ofNat, Nat.mod_eq_of_lt (by omega)]
  omega

theorem emb13_col (t : Fin cfg0.N) (y : S512x1024.Idx) : (((((cfg0.win 13).blk t).view.emb y) : S17408x1024.Idx) 1).val = (y 1).val := by
  refine (Pipeline.Window.rect_emb_val (cfg0.win 13) t y (1 : Fin 2)).trans ?_
  show 0 * 1024 + (y 1).val = _
  omega

theorem arr13_at (r : Fin 17408) (n : Fin 1024) : ((dats m 0 c).arrAt 13 cfg0.N : S17408x1024.Idx → EReal) (ix2 r n) = val13 m c r.val n.val r.isLt n.isLt :=
  congrFun ((dats m 0 c).arrAt_eq_of_covers 13 (fun y : S17408x1024.Idx => val13 m c (y 0).val (y 1).val (y 0).isLt (y 1).isLt) covers13
    (fun t _ y => fill13_at m c ((dats m 0 c).after 13 t) t (step13_at m c t t.isLt) y _ (emb13_row t y) (emb13_col t y))) (ix2 r n)

end Cert.Kernel2Ideal.Inproj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.MoeSched
public import proofs.«01_k».proof.Proof.MoeVal
public import proofs.«01_k».proof.Proof.MoeRef
public import proofs.«01_k».proof.Proof.Bits.MoeSched
public import proofs.«01_k».proof.Proof.Gen.Pre_schedule_valid
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.InRef
public import proofs.«01_k».proof.Proof.ConvSVal
public import proofs.«01_k».proof.Proof.ConvPVal
public import proofs.«01_k».proof.Proof.ShortPVal
public import proofs.«01_k».proof.Proof.ShortSVal
public import proofs.«01_k».proof.Proof.InOut
public import Idealize.ShloMosaic.Adequacy
public import Idealize.ShloMosaic.Init

@[expose] public section

noncomputable section

namespace Cert.Proof

open Idealize.ShloMosaic Idealize.SL.Sem

theorem frame_kernel : quiescent_Kernel := fun m g hp => by
  have gd := Cert.Kernel.Moe.good_of m hp
  exact (θ_run Cert.Kernel.defs _ _).mono (fun r h => ⟨fun c => (h.1 c).2, h.2⟩) (Cert.Kernel.Moe.run_all m g _ (Cert.Kernel.Moe.fits_planOf _ _ gd))

theorem frame_kernelIdeal : quiescent_KernelIdeal := fun m g hp => by
  have gd := Cert.KernelIdeal.Moe.good_of m hp
  exact (θ_run Cert.KernelIdeal.defs _ _).mono (fun r h => ⟨fun c => (h.1 c).2, h.2⟩) (Cert.KernelIdeal.Moe.run_all m g _ (Cert.KernelIdeal.Moe.fits_planOf _ _ gd))

theorem frame_referenceIdeal : quiescent_ReferenceIdeal := fun m g hp =>
  (θ_run Cert.ReferenceIdeal.defs _ _).mono (fun r h => ⟨fun c => (h c).2, sem_eq_zero_of_no_sems (by decide) r.2⟩) (Cert.ReferenceIdeal.Value.run m g)

/-- The reference's result is the kernel's: block by block the same feed-forward of the same rows. -/
theorem same (m : (ℓ : Loc Cert.KernelIdeal.nD Cert.KernelIdeal.τ Cert.KernelIdeal.sig) → Buf (Elt Ideal) ℓ) (pl : Cert.KernelIdeal.Moe.Plan)
    (hF : Cert.KernelIdeal.Moe.Fits pl (Cert.KernelIdeal.Moe.V m 0 Cert.KernelIdeal.main_arg1) (Cert.KernelIdeal.Moe.V m 0 Cert.KernelIdeal.main_arg2)) :
    Cert.ReferenceIdeal.Read.val_main_v100 (F := Ideal) (Cert.KernelIdeal.Moe.V m 0 Cert.KernelIdeal.main_arg0) (Cert.KernelIdeal.Moe.V m 0 Cert.KernelIdeal.main_arg1)
      (Cert.KernelIdeal.Moe.V m 0 Cert.KernelIdeal.main_arg2) (Cert.KernelIdeal.Moe.V m 0 Cert.KernelIdeal.main_arg3) (Cert.KernelIdeal.Moe.V m 0 Cert.KernelIdeal.main_arg4)
      (Cert.KernelIdeal.Moe.V m 0 Cert.KernelIdeal.main_arg5) (Cert.KernelIdeal.Moe.V m 0 Cert.KernelIdeal.main_arg6)
    = (Cert.KernelIdeal.Moe.dats m pl hF 0 0).arrAt 3 (Cert.KernelIdeal.Moe.cfgM m pl hF).N := by
  refine funext fun (y : (⟨2, ![622592, 128]⟩ : Shape).Idx) => ?_
  rw [ValueIdx.eq_ix2 y]
  refine (Cert.ReferenceIdeal.MoeRef.v100_at _ _ _ _ _ _ _ pl.ex (fun b => ?_) pl.nv pl.le ?_ (y 0) (y 1)).trans (Cert.KernelIdeal.Moe.out_at m pl hF 0 (y 0) (y 1)).symm
  · refine Eq.trans (congrArg (Cert.KernelIdeal.Moe.V m 0 Cert.KernelIdeal.main_arg1) (funext fun a => ?_)) (hF.e b.val b.isLt)
    match a with
    | ⟨0, _⟩ => rfl
    | ⟨1, _⟩ => rfl
  · refine Eq.trans (congrArg (Cert.KernelIdeal.Moe.V m 0 Cert.KernelIdeal.main_arg2) (funext fun a => ?_)) hF.v
    match a with
    | ⟨0, _⟩ => rfl

theorem value : algebraic_KernelIdeal_ReferenceIdeal := fun m g m' g' hp hagree => by
  have gd := Cert.KernelIdeal.Moe.good_of m hp
  have hF := Cert.KernelIdeal.Moe.fits_planOf _ _ gd
  refine ⟨fun c => (Cert.KernelIdeal.Moe.dats m _ hF 0 c).arrAt 3 (Cert.KernelIdeal.Moe.cfgM m _ hF).N,
    (θ_run Cert.KernelIdeal.defs _ _).mono (fun r h => h.1) (Cert.KernelIdeal.Moe.run_all m g _ hF),
    (θ_run Cert.ReferenceIdeal.defs _ _).mono (fun r h c => ⟨(h c).1.trans ?_, (h c).2⟩) (Cert.ReferenceIdeal.Value.run m' g')⟩
  obtain rfl : c = (0 : Fin 1) := Subsingleton.elim (α := Fin 1) _ _
  obtain ⟨a0, a1, a2, a3, a4, a5, a6⟩ := hagree (0 : Fin 1)
  refine Eq.trans ?_ (same m _ hF)
  refine (Cert.ReferenceIdeal.Read.val_main_v100_eq m' (0 : Fin 1)).trans ?_
  rw [a0, a1, a2, a3, a4, a5, a6]

theorem frame_kernel2 : quiescent_Kernel2 := fun m g _ => Cert.Kernel2.Gen.frame m g

theorem frame_kernel2Ideal : quiescent_Kernel2Ideal := fun m g _ => Cert.Kernel2Ideal.Gen.frame m g

theorem frame_reference2Ideal : quiescent_Reference2Ideal := fun m g _ =>
  (θ_run Cert.Reference2Ideal.defs _ _).mono (fun r h => ⟨fun c => (h c).2.2.2.2.2, sem_eq_zero_of_no_sems (by decide) r.2⟩) (Cert.Reference2Ideal.Value.run m g)

section Same2

variable (m : (ℓ : Loc Cert.Kernel2Ideal.nD Cert.Kernel2Ideal.τ Cert.Kernel2Ideal.sig) → Buf (Elt Ideal) ℓ) (c : Dev Cert.Kernel2Ideal.nD)

/-- The four arguments that the projection reads, at a start. -/
abbrev inA0 := m ((c.tc : Thread Cert.Kernel2Ideal.nD Cert.Kernel2Ideal.τ).loc Cert.Kernel2Ideal.main_arg0)
abbrev inA1 := m ((c.tc : Thread Cert.Kernel2Ideal.nD Cert.Kernel2Ideal.τ).loc Cert.Kernel2Ideal.main_arg1)
abbrev inA2 := m ((c.tc : Thread Cert.Kernel2Ideal.nD Cert.Kernel2Ideal.τ).loc Cert.Kernel2Ideal.main_arg2)
abbrev inA3 := m ((c.tc : Thread Cert.Kernel2Ideal.nD Cert.Kernel2Ideal.τ).loc Cert.Kernel2Ideal.main_arg3)

theorem same2_8 : Cert.Reference2Ideal.Read.val_main_v29 (F := Ideal) (inA0 m c) (inA1 m c) (inA2 m c) (inA3 m c)
    = (Cert.Kernel2Ideal.Gen.dats m 0 c).arrAt 8 Cert.Kernel2Ideal.cfg0.N := by
  refine funext fun (y : (⟨2, ![17408, 512]⟩ : Shape).Idx) => ?_
  rw [ValueIdx.eq_ix2 y]
  refine (Cert.Reference2Ideal.InRef.v29_at _ _ _ _ (y 0) (y 1)).trans (Eq.trans ?_ (Cert.Kernel2Ideal.Inproj.arr8_at m c (y 0) (y 1)).symm)
  unfold Cert.Kernel2Ideal.Inproj.val8
  refine congrArg (· * _) ?_
  congr 1
  omega

theorem same2_9 : Cert.Reference2Ideal.Read.val_main_v17 (F := Ideal) (inA0 m c) (inA1 m c) (inA2 m c) (inA3 m c)
    = (Cert.Kernel2Ideal.Gen.dats m 0 c).arrAt 9 Cert.Kernel2Ideal.cfg0.N := by
  refine funext fun (y : (⟨2, ![17408, 1536]⟩ : Shape).Idx) => ?_
  rw [ValueIdx.eq_ix2 y]
  refine (Cert.Reference2Ideal.InRef.v17_at _ _ _ _ (y 0) (y 1)).trans (Eq.trans ?_ (Cert.Kernel2Ideal.Inproj.arr9_at m c (y 0) (y 1)).symm)
  rfl

theorem same2_10 : Cert.Reference2Ideal.Read.val_main_v18 (F := Ideal) (inA0 m c) (inA1 m c) (inA2 m c) (inA3 m c)
    = (Cert.Kernel2Ideal.Gen.dats m 0 c).arrAt 10 Cert.Kernel2Ideal.cfg0.N := by
  refine funext fun (y : (⟨2, ![17408, 512]⟩ : Shape).Idx) => ?_
  rw [ValueIdx.eq_ix2 y]
  refine (Cert.Reference2Ideal.InRef.v18_at _ _ _ _ (y 0) (y 1)).trans (Eq.trans ?_ (Cert.Kernel2Ideal.Inproj.arr10_at m c (y 0) (y 1)).symm)
  rfl

theorem same2_12 : Cert.Reference2Ideal.Read.val_main_v35 (F := Ideal) (inA0 m c) (inA1 m c) (inA2 m c) (inA3 m c)
    = (Cert.Kernel2Ideal.Gen.dats m 0 c).arrAt 12 Cert.Kernel2Ideal.cfg0.N := by
  refine funext fun (y : (⟨2, ![17408, 1024]⟩ : Shape).Idx) => ?_
  rw [ValueIdx.eq_ix2 y]
  refine (Cert.Reference2Ideal.InRef.v35_at _ _ _ _ (y 0) (y 1)).trans (Eq.trans ?_ (Cert.Kernel2Ideal.Inproj.arr12_at m c (y 0) (y 1)).symm)
  rfl

theorem same2_13 : Cert.Reference2Ideal.Read.val_main_v41 (F := Ideal) (inA0 m c) (inA1 m c) (inA2 m c) (inA3 m c)
    = (Cert.Kernel2Ideal.Gen.dats m 0 c).arrAt 13 Cert.Kernel2Ideal.cfg0.N := by
  refine funext fun (y : (⟨2, ![17408, 1024]⟩ : Shape).Idx) => ?_
  rw [ValueIdx.eq_ix2 y]
  refine (Cert.Reference2Ideal.InRef.v41_at _ _ _ _ (y 0) (y 1)).trans (Eq.trans ?_ (Cert.Kernel2Ideal.Inproj.arr13_at m c (y 0) (y 1)).symm)
  rfl

end Same2

theorem value2 : algebraic_Kernel2Ideal_Reference2Ideal := fun m g m' g' _ hagree => by
  refine ⟨fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 12 Cert.Kernel2Ideal.cfg0.N,
    fun c => (Cert.Kernel2Ideal.Gen.dats m 0 c).arrAt 13 Cert.Kernel2Ideal.cfg0.N,
    (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · obtain ⟨a8, a9, a10, _, a12, a13, rest⟩ := h c
    exact ⟨a8, a9, a10, a12, a13, rest⟩
  · obtain ⟨b29, b17, b18, b35, b41, rest⟩ := h c
    obtain ⟨e0, e1, e2, e3, _, _⟩ := hagree c
    refine ⟨b29.trans ((Cert.Reference2Ideal.Read.val_main_v29_eq _ _ _ _).trans ?_), b17.trans ((Cert.Reference2Ideal.Read.val_main_v17_eq _ _ _ _).trans ?_),
      b18.trans ((Cert.Reference2Ideal.Read.val_main_v18_eq _ _ _ _).trans ?_), b35.trans ((Cert.Reference2Ideal.Read.val_main_v35_eq _ _ _ _).trans ?_),
      b41.trans ((Cert.Reference2Ideal.Read.val_main_v41_eq _ _ _ _).trans ?_), rest⟩
    · rw [e0, e1, e2, e3]; exact same2_8 m c
    · rw [e0, e1, e2, e3]; exact same2_9 m c
    · rw [e0, e1, e2, e3]; exact same2_10 m c
    · rw [e0, e1, e2, e3]; exact same2_12 m c
    · rw [e0, e1, e2, e3]; exact same2_13 m c

theorem frame_kernel3 : quiescent_Kernel3 := fun m g _ => Cert.Kernel3.Gen.frame m g

theorem frame_kernel3Ideal : quiescent_Kernel3Ideal := fun m g _ => Cert.Kernel3Ideal.Gen.frame m g

theorem frame_reference3Ideal : quiescent_Reference3Ideal := fun m g _ =>
  (θ_run Cert.Reference3Ideal.defs _ _).mono (fun r h => ⟨fun c => (h c).2, sem_eq_zero_of_no_sems (by decide) r.2⟩) (Cert.Reference3Ideal.Value.run m g)

theorem same3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v5 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      = (Cert.Kernel3Ideal.Gen.dats m 0 c).arrAt 7 Cert.Kernel3Ideal.cfg0.N := by
  refine funext fun (y : (⟨4, ![1, 128, 30, 512]⟩ : Shape).Idx) => ?_
  have hy : y = ValueIdx.ix4 (0 : Fin 1) (y 1) (y 2) (y 3) :=
    (ValueIdx.eq_ix4 y).trans (congrArg (fun q : Fin 1 => (ValueIdx.ix4 q (y 1) (y 2) (y 3) : (⟨4, ![1, 128, 30, 512]⟩ : Shape).Idx)) (Fin.ext (Nat.lt_one_iff.mp (y 0).isLt) : y 0 = (0 : Fin 1)))
  rw [hy]
  exact (Cert.Reference3Ideal.ConvSRef.v5_at _ _ (y 1) (y 2) (y 3)).trans (Cert.Kernel3Ideal.ConvS.arr7_at m c (y 1) (y 2) (y 3)).symm

theorem value3 : algebraic_Kernel3Ideal_Reference3Ideal := fun m g m' g' _ hagree => by
  refine ⟨fun c => (Cert.Kernel3Ideal.Gen.dats m 0 c).arrAt 7 Cert.Kernel3Ideal.cfg0.N,
    (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · obtain ⟨_, a7, rest⟩ := h c
    exact ⟨a7, rest⟩
  · obtain ⟨b5, rest⟩ := h c
    obtain ⟨e0, e1, _, _, _, _⟩ := hagree c
    refine ⟨b5.trans ((Cert.Reference3Ideal.Read.val_main_v5_eq _ _ ).trans ?_), rest⟩
    rw [e0, e1]
    exact same3 m c

theorem frame_kernel4 : quiescent_Kernel4 := fun m g _ => Cert.Kernel4.Gen.frame m g

theorem frame_kernel4Ideal : quiescent_Kernel4Ideal := fun m g _ => Cert.Kernel4Ideal.Gen.frame m g

theorem frame_reference4Ideal : quiescent_Reference4Ideal := fun m g _ =>
  (θ_run Cert.Reference4Ideal.defs _ _).mono (fun r h => ⟨fun c => (h c).2, sem_eq_zero_of_no_sems (by decide) r.2⟩) (Cert.Reference4Ideal.Value.run m g)

theorem same4 (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v5 (F := Ideal) (m ((c.tc : Thread Cert.Kernel4Ideal.nD Cert.Kernel4Ideal.τ).loc Cert.Kernel4Ideal.main_arg0))
      = (Cert.Kernel4Ideal.Gen.dats m 0 c).arrAt 7 Cert.Kernel4Ideal.cfg0.N := by
  refine funext fun (y : (⟨4, ![1, 8, 30, 512]⟩ : Shape).Idx) => ?_
  have hy : y = ValueIdx.ix4 (0 : Fin 1) (y 1) (y 2) (y 3) :=
    (ValueIdx.eq_ix4 y).trans (congrArg (fun q : Fin 1 => (ValueIdx.ix4 q (y 1) (y 2) (y 3) : (⟨4, ![1, 8, 30, 512]⟩ : Shape).Idx)) (Fin.ext (Nat.lt_one_iff.mp (y 0).isLt) : y 0 = (0 : Fin 1)))
  rw [hy]
  exact (Cert.Reference4Ideal.ConvPRef.v5_at _ (y 1) (y 2) (y 3)).trans (Cert.Kernel4Ideal.ConvP.arr7_at m c (y 1) (y 2) (y 3)).symm

theorem value4 : algebraic_Kernel4Ideal_Reference4Ideal := fun m g m' g' _ hagree => by
  refine ⟨fun c => (Cert.Kernel4Ideal.Gen.dats m 0 c).arrAt 7 Cert.Kernel4Ideal.cfg0.N,
    (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · obtain ⟨_, a7, rest⟩ := h c
    exact ⟨a7, rest⟩
  · obtain ⟨b5, rest⟩ := h c
    obtain ⟨e0, _, _, _, _⟩ := hagree c
    refine ⟨b5.trans ((Cert.Reference4Ideal.Read.val_main_v5_eq _ ).trans ?_), rest⟩
    rw [e0]
    exact same4 m c

theorem frame_kernel5 : quiescent_Kernel5 := fun m g _ => Cert.Kernel5.Gen.frame m g

theorem frame_kernel5Ideal : quiescent_Kernel5Ideal := fun m g _ => Cert.Kernel5Ideal.Gen.frame m g

theorem frame_reference5Ideal : quiescent_Reference5Ideal := fun m g _ =>
  (θ_run Cert.Reference5Ideal.defs _ _).mono (fun r h => ⟨fun c => (h c).2, sem_eq_zero_of_no_sems (by decide) r.2⟩) (Cert.Reference5Ideal.Value.run m g)

theorem same5 (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v5 (F := Ideal) (m ((c.tc : Thread Cert.Kernel5Ideal.nD Cert.Kernel5Ideal.τ).loc Cert.Kernel5Ideal.main_arg0))
      = (Cert.Kernel5Ideal.Gen.dats m 0 c).arrAt 8 Cert.Kernel5Ideal.cfg0.N := by
  refine funext fun (y : (⟨4, ![1, 8, 3, 1536]⟩ : Shape).Idx) => ?_
  have hy : y = ValueIdx.ix4 (0 : Fin 1) (y 1) (y 2) (y 3) :=
    (ValueIdx.eq_ix4 y).trans (congrArg (fun q : Fin 1 => (ValueIdx.ix4 q (y 1) (y 2) (y 3) : (⟨4, ![1, 8, 3, 1536]⟩ : Shape).Idx)) (Fin.ext (Nat.lt_one_iff.mp (y 0).isLt) : y 0 = (0 : Fin 1)))
  rw [hy]
  exact (Cert.Reference5Ideal.ShortPRef.v5_at _ (y 1) (y 2) (y 3)).trans (Cert.Kernel5Ideal.ShortP.arr8_at m c (y 1) (y 2) (y 3)).symm

theorem value5 : algebraic_Kernel5Ideal_Reference5Ideal := fun m g m' g' _ hagree => by
  refine ⟨fun c => (Cert.Kernel5Ideal.Gen.dats m 0 c).arrAt 8 Cert.Kernel5Ideal.cfg0.N,
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · obtain ⟨_, a8, _, rest⟩ := h c
    exact ⟨a8, rest⟩
  · obtain ⟨b5, rest⟩ := h c
    obtain ⟨e0, _, _, _, _⟩ := hagree c
    refine ⟨b5.trans ((Cert.Reference5Ideal.Read.val_main_v5_eq _ ).trans ?_), rest⟩
    rw [e0]
    exact same5 m c

theorem frame_kernel6 : quiescent_Kernel6 := fun m g _ => Cert.Kernel6.Gen.frame m g

theorem frame_kernel6Ideal : quiescent_Kernel6Ideal := fun m g _ => Cert.Kernel6Ideal.Gen.frame m g

theorem frame_reference6Ideal : quiescent_Reference6Ideal := fun m g _ =>
  (θ_run Cert.Reference6Ideal.defs _ _).mono (fun r h => ⟨fun c => (h c).2, sem_eq_zero_of_no_sems (by decide) r.2⟩) (Cert.Reference6Ideal.Value.run m g)

theorem same6 (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v5 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg3))
      = (Cert.Kernel6Ideal.Gen.dats m 0 c).arrAt 8 Cert.Kernel6Ideal.cfg0.N := by
  refine funext fun (y : (⟨4, ![1, 128, 3, 1536]⟩ : Shape).Idx) => ?_
  have hy : y = ValueIdx.ix4 (0 : Fin 1) (y 1) (y 2) (y 3) :=
    (ValueIdx.eq_ix4 y).trans (congrArg (fun q : Fin 1 => (ValueIdx.ix4 q (y 1) (y 2) (y 3) : (⟨4, ![1, 128, 3, 1536]⟩ : Shape).Idx)) (Fin.ext (Nat.lt_one_iff.mp (y 0).isLt) : y 0 = (0 : Fin 1)))
  rw [hy]
  exact (Cert.Reference6Ideal.ShortSRef.v5_at _ _ (y 1) (y 2) (y 3)).trans (Cert.Kernel6Ideal.ShortS.arr8_at m c (y 1) (y 2) (y 3)).symm

theorem value6 : algebraic_Kernel6Ideal_Reference6Ideal := fun m g m' g' _ hagree => by
  refine ⟨fun c => (Cert.Kernel6Ideal.Gen.dats m 0 c).arrAt 8 Cert.Kernel6Ideal.cfg0.N,
    (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · obtain ⟨_, a8, _, rest⟩ := h c
    exact ⟨a8, rest⟩
  · obtain ⟨b5, rest⟩ := h c
    obtain ⟨e0, _, _, e3, _, _, _⟩ := hagree c
    refine ⟨b5.trans ((Cert.Reference6Ideal.Read.val_main_v5_eq _ _ ).trans ?_), rest⟩
    rw [e0, e3]
    exact same6 m c

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts, Cert.Pre_schedule_valid.Gen.facts,
  frame_kernel, frame_kernelIdeal, frame_referenceIdeal, frame_kernel2, frame_kernel2Ideal, frame_reference2Ideal, frame_kernel3, frame_kernel3Ideal, frame_reference3Ideal,
  frame_kernel4, frame_kernel4Ideal, frame_reference4Ideal, frame_kernel5, frame_kernel5Ideal, frame_reference5Ideal, frame_kernel6, frame_kernel6Ideal, frame_reference6Ideal,
  trivial, value, trivial, value2, trivial, value3, trivial, value4, trivial, value5, trivial, value6⟩

end Cert.Proof

end
